-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v54)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v54) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "root_half" .f32 0x3F3504F3#32 (((Real.sqrt 2)⁻¹ : ℝ) : EReal)
  ∧ IdealRules.named_const.Statement Cert.Kernel3Ideal.κ "scale" .f32 0x3E38AA3B#32 (((Real.log 256)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x4096x16x64 : Shape := ⟨4, ![4, 4096, 16, 64]⟩
abbrev S16x257 : Shape := ⟨2, ![16, 257]⟩
abbrev S_ : Shape := ⟨0, ![]⟩

class Facts : Prop where
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S4x4096x16x64 .f32) (main_arg1 : FVec F S4x4096x16x64 .f32) (main_arg2 : FVec F S4x4096x16x64 .f32) (main_arg3 : FVec F S16x257 .f32) : IVec S_ 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_c : IVec S_ 1 := constantI S_ 1 1#1
  let main_v3 : IVec S_ 1 := (fun x v => Host.reduce IntOp.andi x v reducesTo_S4x4096x16x64_S_d0_1_2_3 h_S_) main_v2 main_c
  let main_v4 : FVec F S4x4096x16x64 .f32 := Host.absf main_arg1
  let main_cst_0 : FVec F S_ .f32 := constant S_ .f32 0x7F800000#32
  let main_v5 : FVec F S4x4096x16x64 .f32 := broadcastInDim S4x4096x16x64 ![] bcast_S_S4x4096x16x64 main_cst_0
  let main_v6 : IVec S4x4096x16x64 1 := cmpf .olt main_v4 main_v5
  let main_c_1 : IVec S_ 1 := constantI S_ 1 1#1
  let main_v7 : IVec S_ 1 := (fun x v => Host.reduce IntOp.andi x v reducesTo_S4x4096x16x64_S_d0_1_2_3 h_S_) main_v6 main_c_1
  let main_v8 : IVec S_ 1 := andi main_v3 main_v7
  let main_v9 : FVec F S16x257 .f32 := Host.absf main_arg3
  let main_cst_2 : FVec F S_ .f32 := constant S_ .f32 0x7F800000#32
  let main_v10 : FVec F S16x257 .f32 := broadcastInDim S16x257 ![] bcast_S_S16x257 main_cst_2
  let main_v11 : IVec S16x257 1 := cmpf .olt main_v9 main_v10
  let main_c_3 : IVec S_ 1 := constantI S_ 1 1#1
  let main_v12 : IVec S_ 1 := (fun x v => Host.reduce IntOp.andi x v reducesTo_S16x257_S_d0_1 h_S_) main_v11 main_c_3
  let main_v13 : IVec S_ 1 := andi main_v8 main_v12
  main_v13
-- ==== Kernel.lean ====
abbrev S4x4096x16x64 : Shape := ⟨4, ![4, 4096, 16, 64]⟩
abbrev S16x257 : Shape := ⟨2, ![16, 257]⟩
abbrev S_ : Shape := ⟨0, ![]⟩
abbrev S16384x8x128 : Shape := ⟨3, ![16384, 8, 128]⟩
abbrev S8x16384x128 : Shape := ⟨3, ![8, 16384, 128]⟩
abbrev S24x16384x128 : Shape := ⟨3, ![24, 16384, 128]⟩
abbrev S16x1 : Shape := ⟨2, ![16, 1]⟩
abbrev S16x384 : Shape := ⟨2, ![16, 384]⟩
abbrev S16x256 : Shape := ⟨2, ![16, 256]⟩
abbrev S16x128 : Shape := ⟨2, ![16, 128]⟩
abbrev S16x768 : Shape := ⟨2, ![16, 768]⟩
abbrev S1x16x768 : Shape := ⟨3, ![1, 16, 768]⟩
abbrev S8x512x128 : Shape := ⟨3, ![8, 512, 128]⟩
abbrev S5x16x128x640 : Shape := ⟨4, ![5, 16, 128, 640]⟩
abbrev S128x640 : Shape := ⟨2, ![128, 640]⟩
abbrev S1x1x768 : Shape := ⟨3, ![1, 1, 768]⟩
abbrev S1x768 : Shape := ⟨2, ![1, 768]⟩
abbrev S1x1x1 : Shape := ⟨3, ![1, 1, 1]⟩
abbrev S1x1 : Shape := ⟨2, ![1, 1]⟩
abbrev S128x768 : Shape := ⟨2, ![128, 768]⟩
abbrev S128x256 : Shape := ⟨2, ![128, 256]⟩
abbrev S128x1024 : Shape := ⟨2, ![128, 1024]⟩
abbrev S1x1x128x640 : Shape := ⟨4, ![1, 1, 128, 640]⟩
abbrev S128x128 : Shape := ⟨2, ![128, 128]⟩
abbrev S1x512x128 : Shape := ⟨3, ![1, 512, 128]⟩
abbrev S512x128 : Shape := ⟨2, ![512, 128]⟩
abbrev S1024x128 : Shape := ⟨2, ![1024, 128]⟩
abbrev S256x128 : Shape := ⟨2, ![256, 128]⟩
abbrev S640x128 : Shape := ⟨2, ![640, 128]⟩
abbrev S256x640 : Shape := ⟨2, ![256, 640]⟩
abbrev S2x128x640 : Shape := ⟨3, ![2, 128, 640]⟩
abbrev S1x2x128x640 : Shape := ⟨4, ![1, 2, 128, 640]⟩
abbrev S2x128 : Shape := ⟨2, ![2, 128]⟩
abbrev S2x128x1 : Shape := ⟨3, ![2, 128, 1]⟩
abbrev S2x128x128 : Shape := ⟨3, ![2, 128, 128]⟩
abbrev S1x128x128 : Shape := ⟨3, ![1, 128, 128]⟩
abbrev S1x2x128x128 : Shape := ⟨4, ![1, 2, 128, 128]⟩
abbrev S2x128x256 : Shape := ⟨3, ![2, 128, 256]⟩
abbrev S1x2x128x256 : Shape := ⟨4, ![1, 2, 128, 256]⟩

abbrev nBuf : Space → Nat
  | .hbm => 28
  | .vmem => 14
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x16x64, .f32⟩
  | .hbm, ⟨3, _⟩ => ⟨S16x257, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x4096x16x64, .f32⟩
  | .hbm, ⟨9, _⟩ => ⟨S4x4096x16x64, .f32⟩
  | .hbm, ⟨10, _⟩ => ⟨S16384x8x128, .f32⟩
  | .hbm, ⟨11, _⟩ => ⟨S8x16384x128, .f32⟩
  | .hbm, ⟨12, _⟩ => ⟨S8x16384x128, .bf16⟩
  | .hbm, ⟨13, _⟩ => ⟨S16384x8x128, .f32⟩
  | .hbm, ⟨14, _⟩ => ⟨S8x16384x128, .f32⟩
  | .hbm, ⟨15, _⟩ => ⟨S8x16384x128, .bf16⟩
  | .hbm, ⟨16, _⟩ => ⟨S16384x8x128, .f32⟩
  | .hbm, ⟨17, _⟩ => ⟨S8x16384x128, .f32⟩
  | .hbm, ⟨18, _⟩ => ⟨S8x16384x128, .bf16⟩
  | .hbm, ⟨19, _⟩ => ⟨S24x16384x128, .bf16⟩
  | .hbm, ⟨20, _⟩ => ⟨S16x1, .f32⟩
  | .hbm, ⟨21, _⟩ => ⟨S16x384, .f32⟩
  | .hbm, ⟨22, _⟩ => ⟨S16x256, .f32⟩
  | .hbm, ⟨23, _⟩ => ⟨S16x256, .f32⟩
  | .hbm, ⟨24, _⟩ => ⟨S16x128, .f32⟩
  | .hbm, ⟨25, _⟩ => ⟨S16x768, .f32⟩
  | .hbm, ⟨26, _⟩ => ⟨S1x16x768, .f32⟩
  | .hbm, ⟨27, _⟩ => ⟨S8x16384x128, .bf16⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S8x512x128, .bf16⟩
  | .local _ .vmem, ⟨7, _⟩ => ⟨S8x512x128, .bf16⟩
  | .local _ .vmem, ⟨8, _⟩ => ⟨S8x512x128, .bf16⟩
  | .local _ .vmem, ⟨9, _⟩ => ⟨S8x512x128, .bf16⟩
  | .local _ .vmem, ⟨10, _⟩ => ⟨S1x16x768, .f32⟩
  | .local _ .vmem, ⟨11, _⟩ => ⟨S8x512x128, .bf16⟩
  | .local _ .vmem, ⟨12, _⟩ => ⟨S8x512x128, .bf16⟩
  | .local _ .vmem, ⟨13, _⟩ => ⟨S5x16x128x640, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def k0_cond3 (i : grid0.Coords) : BitVec 1 :=
  let arg2 : BitVec 32 := BitVec.ofNat 32 (i 2).val
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c8_i32 : BitVec 32 := 8#32
  let v1 : BitVec 32 := Scalar.muli arg1 c8_i32
  let v2 : BitVec 32 := Scalar.addi v1 arg2
  let c0_i32_0 : BitVec 32 := 0#32
  let c0_i32_1 : BitVec 32 := 0#32
  ![v0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c8_i32 : BitVec 32 := 8#32
  let v1 : BitVec 32 := Scalar.muli arg1 c8_i32
  let c1_i32_0 : BitVec 32 := 1#32
  let v2 : BitVec 32 := Scalar.subi arg2 c1_i32_0
  let c0_i32 : BitVec 32 := 0#32
  let v3 : BitVec 32 := Scalar.maxsi v2 c0_i32
  let v4 : BitVec 32 := Scalar.addi v1 v3
  let c0_i32_1 : BitVec 32 := 0#32
  let c0_i32_2 : BitVec 32 := 0#32
  ![v0.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c8_i32 : BitVec 32 := 8#32
  let v1 : BitVec 32 := Scalar.muli arg1 c8_i32
  let v2 : BitVec 32 := Scalar.addi v1 arg2
  let c0_i32 : BitVec 32 := 0#32
  let c0_i32_0 : BitVec 32 := 0#32
  ![v0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c8_i32 : BitVec 32 := 8#32
  let v1 : BitVec 32 := Scalar.muli arg1 c8_i32
  let c1_i32 : BitVec 32 := 1#32
  let v2 : BitVec 32 := Scalar.subi arg2 c1_i32
  let c0_i32 : BitVec 32 := 0#32
  let v3 : BitVec 32 := Scalar.maxsi v2 c0_i32
  let v4 : BitVec 32 := Scalar.addi v1 v3
  let c0_i32_0 : BitVec 32 := 0#32
  let c0_i32_1 : BitVec 32 := 0#32
  ![v0.toNat, v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c8_i32 : BitVec 32 := 8#32
  let v1 : BitVec 32 := Scalar.muli arg1 c8_i32
  let v2 : BitVec 32 := Scalar.addi v1 arg2
  let c0_i32 : BitVec 32 := 0#32
  let c0_i32_0 : BitVec 32 := 0#32
  ![v0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x4096x16x64 : Shape := ⟨4, ![4, 4096, 16, 64]⟩
abbrev S16x257 : Shape := ⟨2, ![16, 257]⟩
abbrev S4x64x64x16x64 : Shape := ⟨5, ![4, 64, 64, 16, 64]⟩
abbrev S_ : Shape := ⟨0, ![]⟩
abbrev S4x72x64x16x64 : Shape := ⟨5, ![4, 72, 64, 16, 64]⟩
abbrev S4x64x576x16x64 : Shape := ⟨5, ![4, 64, 576, 16, 64]⟩
abbrev S4x16x64x64x576 : Shape := ⟨5, ![4, 16, 64, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S16x1x64x576 : Shape := ⟨4, ![16, 1, 64, 576]⟩
abbrev S1x16x1x64x576 : Shape := ⟨5, ![1, 16, 1, 64, 576]⟩
abbrev S1x1x64x1x576 : Shape := ⟨5, ![1, 1, 64, 1, 576]⟩
abbrev S4x16x64x64 : Shape := ⟨4, ![4, 16, 64, 64]⟩
abbrev S4x16x64x64x1 : Shape := ⟨5, ![4, 16, 64, 64, 1]⟩
abbrev S4x64x16x64x64 : Shape := ⟨5, ![4, 64, 16, 64, 64]⟩
abbrev S16384x8x128 : Shape := ⟨3, ![16384, 8, 128]⟩
abbrev S8x16384x128 : Shape := ⟨3, ![8, 16384, 128]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x16x64, .f32⟩
  | .hbm, ⟨3, _⟩ => ⟨S16x257, .f32⟩
  | .hbm, ⟨4, _⟩ => ⟨S4x64x64x16x64, .f32⟩
  | .hbm, ⟨5, _⟩ => ⟨S4x64x64x16x64, .f32⟩
  | .hbm, ⟨6, _⟩ => ⟨S_, .i32⟩
  | .hbm, ⟨7, _⟩ => ⟨S_, .f32⟩
  | .hbm, ⟨8, _⟩ => ⟨S4x72x64x16x64, .f32⟩
  | .hbm, ⟨9, _⟩ => ⟨S4x64x64x16x64, .f32⟩
  | .hbm, ⟨10, _⟩ => ⟨S_, .i32⟩
  | .hbm, ⟨11, _⟩ => ⟨S_, .f32⟩
  | .hbm, ⟨12, _⟩ => ⟨S4x72x64x16x64, .f32⟩
  | .hbm, ⟨13, _⟩ => ⟨S4x64x64x16x64, .f32⟩
  | .hbm, ⟨14, _⟩ => ⟨S4x64x64x16x64, .f32⟩
  | .hbm, ⟨15, _⟩ => ⟨S4x64x64x16x64, .f32⟩
  | .hbm, ⟨16, _⟩ => ⟨S4x64x64x16x64, .f32⟩
  | .hbm, ⟨17, _⟩ => ⟨S4x64x64x16x64, .f32⟩
  | .hbm, ⟨18, _⟩ => ⟨S4x64x64x16x64, .f32⟩
  | .hbm, ⟨19, _⟩ => ⟨S4x64x64x16x64, .f32⟩
  | .hbm, ⟨20, _⟩ => ⟨S4x64x64x16x64, .f32⟩
  | .hbm, ⟨21, _⟩ => ⟨S4x64x64x16x64, .f32⟩
  | .hbm, ⟨22, _⟩ => ⟨S4x64x576x16x64, .f32⟩
  | .hbm, ⟨23, _⟩ => ⟨S4x64x64x16x64, .f32⟩
  | .hbm, ⟨24, _⟩ => ⟨S4x64x64x16x64, .f32⟩
  | .hbm, ⟨25, _⟩ => ⟨S4x64x64x16x64, .f32⟩
  | .hbm, ⟨26, _⟩ => ⟨S4x64x64x16x64, .f32⟩
  | .hbm, ⟨27, _⟩ => ⟨S4x64x64x16x64, .f32⟩
  | .hbm, ⟨28, _⟩ => ⟨S4x64x64x16x64, .f32⟩
  | .hbm, ⟨29, _⟩ => ⟨S4x64x64x16x64, .f32⟩
  | .hbm, ⟨30, _⟩ => ⟨S4x64x64x16x64, .f32⟩
  | .hbm, ⟨31, _⟩ => ⟨S4x64x64x16x64, .f32⟩
  | .hbm, ⟨32, _⟩ => ⟨S4x64x576x16x64, .f32⟩
  | .hbm, ⟨33, _⟩ => ⟨S4x16x64x64x576, .f32⟩
  | .hbm, ⟨34, _⟩ => ⟨S_, .f32⟩
  | .hbm, ⟨35, _⟩ => ⟨S4x16x64x64x576, .f32⟩
  | .hbm, ⟨36, _⟩ => ⟨S4x16x64x64x576, .f32⟩
  | .hbm, ⟨37, _⟩ => ⟨S64, .i32⟩
  | .hbm, ⟨38, _⟩ => ⟨S64x1, .i32⟩
  | .hbm, ⟨39, _⟩ => ⟨S576, .i32⟩
  | .hbm, ⟨40, _⟩ => ⟨S1x576, .i32⟩
  | .hbm, ⟨41, _⟩ => ⟨S_, .i32⟩
  | .hbm, ⟨42, _⟩ => ⟨S1x576, .i32⟩
  | .hbm, ⟨43, _⟩ => ⟨S1x576, .i32⟩
  | .hbm, ⟨44, _⟩ => ⟨S64x576, .i32⟩
  | .hbm, ⟨45, _⟩ => ⟨S64x576, .i32⟩
  | .hbm, ⟨46, _⟩ => ⟨S64x576, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S64x576, .i32⟩
  | .hbm, ⟨51, _⟩ => ⟨S64x576, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S64x576, .i32⟩
  | .hbm, ⟨60, _⟩ => ⟨S64x576, .i1⟩
  | .hbm, ⟨61, _⟩ => ⟨S_, .i32⟩
  | .hbm, ⟨62, _⟩ => ⟨S64x576, .i32⟩
  | .hbm, ⟨63, _⟩ => ⟨S64x576, .i32⟩
  | .hbm, ⟨64, _⟩ => ⟨S64x576, .i32⟩
  | .hbm, ⟨65, _⟩ => ⟨S64x576x1, .i32⟩
  | .hbm, ⟨66, _⟩ => ⟨S16x64x576, .f32⟩
  | .hbm, ⟨67, _⟩ => ⟨S64, .i32⟩
  | .hbm, ⟨68, _⟩ => ⟨S64x1, .i32⟩
  | .hbm, ⟨69, _⟩ => ⟨S_, .i32⟩
  | .hbm, ⟨70, _⟩ => ⟨S64x1, .i32⟩
  | .hbm, ⟨71, _⟩ => ⟨S64x1, .i32⟩
  | .hbm, ⟨72, _⟩ => ⟨S576, .i32⟩
  | .hbm, ⟨73, _⟩ => ⟨S_, .i32⟩
  | .hbm, ⟨74, _⟩ => ⟨S_, .i32⟩
  | .hbm, ⟨75, _⟩ => ⟨S576, .i32⟩
  | .hbm, ⟨76, _⟩ => ⟨S576, .i32⟩
  | .hbm, ⟨77, _⟩ => ⟨S576, .i32⟩
  | .hbm, ⟨78, _⟩ => ⟨S_, .i32⟩
  | .hbm, ⟨79, _⟩ => ⟨S576, .i32⟩
  | .hbm, ⟨80, _⟩ => ⟨S576, .i1⟩
  | .hbm, ⟨81, _⟩ => ⟨S576, .i32⟩
  | .hbm, ⟨82, _⟩ => ⟨S576, .i32⟩
  | .hbm, ⟨83, _⟩ => ⟨S_, .i32⟩
  | .hbm, ⟨84, _⟩ => ⟨S576, .i32⟩
  | .hbm, ⟨85, _⟩ => ⟨S576, .i1⟩
  | .hbm, ⟨86, _⟩ => ⟨S576, .i1⟩
  | .hbm, ⟨87, _⟩ => ⟨S_, .i32⟩
  | .hbm, ⟨88, _⟩ => ⟨S576, .i32⟩
  | .hbm, ⟨89, _⟩ => ⟨S576, .i32⟩
  | .hbm, ⟨90, _⟩ => ⟨S576, .i32⟩
  | .hbm, ⟨91, _⟩ => ⟨S1x576, .i32⟩
  | .hbm, ⟨92, _⟩ => ⟨S64x576, .i32⟩
  | .hbm, ⟨93, _⟩ => ⟨S64x576, .i32⟩
  | .hbm, ⟨94, _⟩ => ⟨S64x576, .i32⟩
  | .hbm, ⟨95, _⟩ => ⟨S_, .i32⟩
  | .hbm, ⟨96, _⟩ => ⟨S64x576, .i32⟩
  | .hbm, ⟨97, _⟩ => ⟨S64x576, .i1⟩
  | .hbm, ⟨98, _⟩ => ⟨S16x1x64x576, .f32⟩
  | .hbm, ⟨99, _⟩ => ⟨S1x16x1x64x576, .f32⟩
  | .hbm, ⟨100, _⟩ => ⟨S4x16x64x64x576, .f32⟩
  | .hbm, ⟨101, _⟩ => ⟨S4x16x64x64x576, .f32⟩
  | .hbm, ⟨102, _⟩ => ⟨S1x1x64x1x576, .i1⟩
  | .hbm, ⟨103, _⟩ => ⟨S_, .f32⟩
  | .hbm, ⟨104, _⟩ => ⟨S_, .f32⟩
  | .hbm, ⟨105, _⟩ => ⟨S4x16x64x64x576, .i1⟩
  | .hbm, ⟨106, _⟩ => ⟨S4x16x64x64x576, .f32⟩
  | .hbm, ⟨107, _⟩ => ⟨S4x16x64x64x576, .f32⟩
  | .hbm, ⟨108, _⟩ => ⟨S_, .f32⟩
  | .hbm, ⟨109, _⟩ => ⟨S4x16x64x64, .f32⟩
  | .hbm, ⟨110, _⟩ => ⟨S_, .f32⟩
  | .hbm, ⟨111, _⟩ => ⟨S4x16x64x64, .f32⟩
  | .hbm, ⟨112, _⟩ => ⟨S4x16x64x64, .f32⟩
  | .hbm, ⟨113, _⟩ => ⟨S4x16x64x64x1, .f32⟩
  | .hbm, ⟨114, _⟩ => ⟨S4x16x64x64x576, .f32⟩
  | .hbm, ⟨115, _⟩ => ⟨S4x16x64x64x576, .f32⟩
  | .hbm, ⟨116, _⟩ => ⟨S4x16x64x64x576, .f32⟩
  | .hbm, ⟨117, _⟩ => ⟨S_, .f32⟩
  | .hbm, ⟨118, _⟩ => ⟨S4x16x64x64, .f32⟩
  | .hbm, ⟨119, _⟩ => ⟨S4x16x64x64x1, .f32⟩
  | .hbm, ⟨120, _⟩ => ⟨S4x16x64x64x576, .f32⟩
  | .hbm, ⟨121, _⟩ => ⟨S4x16x64x64x576, .f32⟩
  | .hbm, ⟨122, _⟩ => ⟨S4x64x16x64x64, .f32⟩
  | .hbm, ⟨123, _⟩ => ⟨S4x64x64x16x64, .f32⟩
  | .hbm, ⟨124, _⟩ => ⟨S16384x8x128, .f32⟩
  | .hbm, ⟨125, _⟩ => ⟨S8x16384x128, .f32⟩
  | .hbm, ⟨126, _⟩ => ⟨S8x16384x128, .bf16⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_c : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_0 : Ref sig .tc := ⟨.hbm, 87, rfl⟩
abbrev main_call3_v12 : Ref sig .tc := ⟨.hbm, 88, rfl⟩
abbrev main_call3_v13 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_9 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_10 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v64 : Ref sig .tc := ⟨.hbm, 107, rfl⟩
abbrev main_cst_11 : Ref sig .tc := ⟨.hbm, 108, rfl⟩
abbrev main_v65 : Ref sig .tc := ⟨.hbm, 109, rfl⟩
abbrev main_cst_12 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_13 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x2048 : Shape := ⟨2, ![4, 2048]⟩
abbrev S2048 : Shape := ⟨1, ![2048]⟩
abbrev S2048x11008 : Shape := ⟨2, ![2048, 11008]⟩
abbrev S5504x2048 : Shape := ⟨2, ![5504, 2048]⟩
abbrev S16384x2048 : Shape := ⟨2, ![16384, 2048]⟩
abbrev S4x1x2048 : Shape := ⟨3, ![4, 1, 2048]⟩
abbrev S1x2048 : Shape := ⟨2, ![1, 2048]⟩
abbrev S_ : Shape := ⟨0, ![]⟩
abbrev S2048x256 : Shape := ⟨2, ![2048, 256]⟩
abbrev S2048x512 : Shape := ⟨2, ![2048, 512]⟩
abbrev S2048x1024 : Shape := ⟨2, ![2048, 1024]⟩
abbrev S2048x384 : Shape := ⟨2, ![2048, 384]⟩
abbrev S1x2048x1024 : Shape := ⟨3, ![1, 2048, 1024]⟩
abbrev S11x2048x1024 : Shape := ⟨3, ![11, 2048, 1024]⟩
abbrev S1024x2048 : Shape := ⟨2, ![1024, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩
abbrev S512x512 : Shape := ⟨2, ![512, 512]⟩
abbrev S1x2048x768 : Shape := ⟨3, ![1, 2048, 768]⟩
abbrev S2048x768 : Shape := ⟨2, ![2048, 768]⟩
abbrev S512x768 : Shape := ⟨2, ![512, 768]⟩
abbrev S512x384 : Shape := ⟨2, ![512, 384]⟩
abbrev S384x2048 : Shape := ⟨2, ![384, 2048]⟩

abbrev nBuf : Space → Nat
  | .hbm => 64
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S2048x11008, .f32⟩
  | .hbm, ⟨7, _⟩ => ⟨S5504x2048, .f32⟩
  | .hbm, ⟨8, _⟩ => ⟨S16384x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S1x2048, .f32⟩
  | .hbm, ⟨13, _⟩ => ⟨S1x2048, .f32⟩
  | .hbm, ⟨14, _⟩ => ⟨S_, .bf16⟩
  | .hbm, ⟨15, _⟩ => ⟨S2048x256, .bf16⟩
  | .hbm, ⟨16, _⟩ => ⟨S2048x11008, .bf16⟩
  | .hbm, ⟨17, _⟩ => ⟨S2048x512, .bf16⟩
  | .hbm, ⟨18, _⟩ => ⟨S2048x512, .bf16⟩
  | .hbm, ⟨19, _⟩ => ⟨S2048x1024, .bf16⟩
  | .hbm, ⟨20, _⟩ => ⟨S2048x512, .bf16⟩
  | .hbm, ⟨21, _⟩ => ⟨S2048x512, .bf16⟩
  | .hbm, ⟨22, _⟩ => ⟨S2048x1024, .bf16⟩
  | .hbm, ⟨23, _⟩ => ⟨S2048x512, .bf16⟩
  | .hbm, ⟨24, _⟩ => ⟨S2048x512, .bf16⟩
  | .hbm, ⟨25, _⟩ => ⟨S2048x1024, .bf16⟩
  | .hbm, ⟨26, _⟩ => ⟨S2048x512, .bf16⟩
  | .hbm, ⟨27, _⟩ => ⟨S2048x512, .bf16⟩
  | .hbm, ⟨28, _⟩ => ⟨S2048x1024, .bf16⟩
  | .hbm, ⟨29, _⟩ => ⟨S2048x512, .bf16⟩
  | .hbm, ⟨30, _⟩ => ⟨S2048x512, .bf16⟩
  | .hbm, ⟨31, _⟩ => ⟨S2048x1024, .bf16⟩
  | .hbm, ⟨32, _⟩ => ⟨S2048x512, .bf16⟩
  | .hbm, ⟨33, _⟩ => ⟨S2048x512, .bf16⟩
  | .hbm, ⟨34, _⟩ => ⟨S2048x1024, .bf16⟩
  | .hbm, ⟨35, _⟩ => ⟨S2048x512, .bf16⟩
  | .hbm, ⟨36, _⟩ => ⟨S2048x512, .bf16⟩
  | .hbm, ⟨37, _⟩ => ⟨S2048x1024, .bf16⟩
  | .hbm, ⟨38, _⟩ => ⟨S2048x512, .bf16⟩
  | .hbm, ⟨39, _⟩ => ⟨S2048x512, .bf16⟩
  | .hbm, ⟨40, _⟩ => ⟨S2048x1024, .bf16⟩
  | .hbm, ⟨41, _⟩ => ⟨S2048x512, .bf16⟩
  | .hbm, ⟨42, _⟩ => ⟨S2048x512, .bf16⟩
  | .hbm, ⟨43, _⟩ => ⟨S2048x1024, .bf16⟩
  | .hbm, ⟨44, _⟩ => ⟨S2048x512, .bf16⟩
  | .hbm, ⟨45, _⟩ => ⟨S2048x512, .bf16⟩
  | .hbm, ⟨46, _⟩ => ⟨S2048x1024, .bf16⟩
  | .hbm, ⟨47, _⟩ => ⟨S2048x384, .bf16⟩
  | .hbm, ⟨48, _⟩ => ⟨S2048x384, .bf16⟩
  | .hbm, ⟨49, _⟩ => ⟨S2048x1024, .bf16⟩
  | .hbm, ⟨50, _⟩ => ⟨S1x2048x1024, .bf16⟩
  | .hbm, ⟨51, _⟩ => ⟨S1x2048x1024, .bf16⟩
  | .hbm, ⟨52, _⟩ => ⟨S1x2048x1024, .bf16⟩
  | .hbm, ⟨53, _⟩ => ⟨S1x2048x1024, .bf16⟩
  | .hbm, ⟨54, _⟩ => ⟨S1x2048x1024, .bf16⟩
  | .hbm, ⟨55, _⟩ => ⟨S1x2048x1024, .bf16⟩
  | .hbm, ⟨56, _⟩ => ⟨S1x2048x1024, .bf16⟩
  | .hbm, ⟨57, _⟩ => ⟨S1x2048x1024, .bf16⟩
  | .hbm, ⟨58, _⟩ => ⟨S1x2048x1024, .bf16⟩
  | .hbm, ⟨59, _⟩ => ⟨S1x2048x1024, .bf16⟩
  | .hbm, ⟨60, _⟩ => ⟨S1x2048x1024, .bf16⟩
  | .hbm, ⟨61, _⟩ => ⟨S11x2048x1024, .bf16⟩
  | .hbm, ⟨62, _⟩ => ⟨S5504x2048, .bf16⟩
  | .hbm, ⟨63, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S1x2048x1024, .bf16⟩
  | .local _ .vmem, ⟨11, _⟩ => ⟨S1x2048x1024, .bf16⟩
  | .local _ .vmem, ⟨12, _⟩ => ⟨S512x2048, .bf16⟩
  | .local _ .vmem, ⟨13, _⟩ => ⟨S512x2048, .bf16⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32_8 : BitVec 32 := 0#32
  let v19 : BitVec 1 := Scalar.cmpi .eq arg1 c0_i32_8
  let v20 : BitVec 32 := Scalar.extui v19
  let c0_i32_9 : BitVec 32 := 0#32
  let v21 : BitVec 1 := Scalar.cmpi .ne v20 c0_i32_9
  v21

def k0_cond2 (i : grid0.Coords) : BitVec 1 :=
  let arg1 : BitVec 32 := BitVec.ofNat 32 (i 1).val
  let c0_i32_10 : BitVec 32 := 0#32
  let v22 : BitVec 1 := Scalar.cmpi .sgt arg1 c0_i32_10
  let c10_i32_11 : BitVec 32 := 10#32
  let v23 : BitVec 1 := Scalar.cmpi .slt arg1 c10_i32_11
  let v24 : BitVec 1 := Scalar.andi v22 v23
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c10_i32 : BitVec 32 := 10#32
  let v11 : BitVec 32 := Scalar.subi c10_i32 arg1
  let v12 : BitVec 32 := Scalar.select v10 arg1 v11
  let c5_i32 : BitVec 32 := 5#32
  let v13 : BitVec 1 := Scalar.cmpi .eq v12 c5_i32
  let c10_i32_6 : BitVec 32 := 10#32
  let c5_i32_4 : BitVec 32 := 5#32
  let v14 : BitVec 1 := Scalar.cmpi .slt v12 c5_i32_4
  let c1_i32_5 : BitVec 32 := 1#32
  let v15 : BitVec 32 := Scalar.subi v12 c1_i32_5
  let v16 : BitVec 32 := Scalar.select v14 v12 v15
  let v17 : BitVec 32 := Scalar.select v13 c10_i32_6 v16
  let c10_i32_7 : BitVec 32 := 10#32
  let v18 : BitVec 1 := Scalar.cmpi .eq v17 c10_i32_7
  let v_true : BitVec 1 := 1#1
  let v25 : BitVec 1 := Scalar.xori v18 v_true
  let v26 : BitVec 1 := Scalar.andi v24 v25
  let v27 : BitVec 32 := Scalar.extui v26
  let c0_i32_12 : BitVec 32 := 0#32
  let v28 : BitVec 1 := Scalar.cmpi .ne v27 c0_i32_12
  v28

def k0_cond3 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let arg1 : BitVec 32 := BitVec.ofNat 32 (i 1).val
  let c10_i32 : BitVec 32 := 10#32
  let v11 : BitVec 32 := Scalar.subi c10_i32 arg1
  let v12 : BitVec 32 := Scalar.select v10 arg1 v11
  let c5_i32 : BitVec 32 := 5#32
  let v13 : BitVec 1 := Scalar.cmpi .eq v12 c5_i32
  let c10_i32_6 : BitVec 32 := 10#32
  let c5_i32_4 : BitVec 32 := 5#32
  let v14 : BitVec 1 := Scalar.cmpi .slt v12 c5_i32_4
  let c1_i32_5 : BitVec 32 := 1#32
  let v15 : BitVec 32 := Scalar.subi v12 c1_i32_5
  let v16 : BitVec 32 := Scalar.select v14 v12 v15
  let v17 : BitVec 32 := Scalar.select v13 c10_i32_6 v16
  let c10_i32_7 : BitVec 32 := 10#32
  let v18 : BitVec 1 := Scalar.cmpi .eq v17 c10_i32_7
  let v29 : BitVec 32 := Scalar.extui v18
  let c0_i32_13 : BitVec 32 := 0#32
  let v30 : BitVec 1 := Scalar.cmpi .ne v29 c0_i32_13
  v30

def k0_cond4 (i : grid0.Coords) : BitVec 1 :=
  let arg1 : BitVec 32 := BitVec.ofNat 32 (i 1).val
  let c10_i32_14 : BitVec 32 := 10#32
  let v31 : BitVec 1 := Scalar.cmpi .eq arg1 c10_i32_14
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c10_i32 : BitVec 32 := 10#32
  let v11 : BitVec 32 := Scalar.subi c10_i32 arg1
  let v12 : BitVec 32 := Scalar.select v10 arg1 v11
  let c5_i32 : BitVec 32 := 5#32
  let v13 : BitVec 1 := Scalar.cmpi .eq v12 c5_i32
  let c5_i32_4 : BitVec 32 := 5#32
  let v14 : BitVec 1 := Scalar.cmpi .slt v12 c5_i32_4
  let c1_i32_5 : BitVec 32 := 1#32
  let v15 : BitVec 32 := Scalar.subi v12 c1_i32_5
  let v16 : BitVec 32 := Scalar.select v14 v12 v15
  let c10_i32_6 : BitVec 32 := 10#32
  let v17 : BitVec 32 := Scalar.select v13 c10_i32_6 v16
  let c0_i32_7 : BitVec 32 := 0#32
  let c0_i32_8 : BitVec 32 := 0#32
  let c0_i32_9 : BitVec 32 := 0#32
  ![v17.toNat, c0_i32_7.toNat, c0_i32_8.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c10_i32 : BitVec 32 := 10#32
  let v11 : BitVec 32 := Scalar.subi c10_i32 arg1
  let v12 : BitVec 32 := Scalar.select v10 arg1 v11
  let c5_i32 : BitVec 32 := 5#32
  let v13 : BitVec 1 := Scalar.cmpi .eq v12 c5_i32
  let c5_i32_4 : BitVec 32 := 5#32
  let v14 : BitVec 1 := Scalar.cmpi .slt v12 c5_i32_4
  let c1_i32_5 : BitVec 32 := 1#32
  let v15 : BitVec 32 := Scalar.subi v12 c1_i32_5
  let v16 : BitVec 32 := Scalar.select v14 v12 v15
  let c10_i32_6 : BitVec 32 := 10#32
  let v17 : BitVec 32 := Scalar.select v13 c10_i32_6 v16
  let c0_i32_7 : BitVec 32 := 0#32
  let c0_i32_8 : BitVec 32 := 0#32
  ![v17.toNat, c0_i32_7.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4x4096x2048 : Shape := ⟨3, ![4, 4096, 2048]⟩
abbrev S4x2048 : Shape := ⟨2, ![4, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x11008 : Shape := ⟨3, ![4, 4096, 11008]⟩
abbrev S4x4096x5504 : Shape := ⟨3, ![4, 4096, 5504]⟩
abbrev S16384x2048 : Shape := ⟨2, ![16384, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S2048x11008, .f32⟩
  | .hbm, ⟨7, _⟩ => ⟨S5504x2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x1x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x11008, .f32⟩
  | .hbm, ⟨34, _⟩ => ⟨S4x4096x5504, .f32⟩
  | .hbm, ⟨35, _⟩ => ⟨S4x4096x5504, .f32⟩
  | .hbm, ⟨36, _⟩ => ⟨S4x4096x5504, .f32⟩
  | .hbm, ⟨37, _⟩ => ⟨S4x4096x5504, .f32⟩
  | .hbm, ⟨38, _⟩ => ⟨S_, .f32⟩
  | .hbm, ⟨39, _⟩ => ⟨S4x4096x5504, .f32⟩
  | .hbm, ⟨40, _⟩ => ⟨S4x4096x5504, .f32⟩
  | .hbm, ⟨41, _⟩ => ⟨S_, .f32⟩
  | .hbm, ⟨42, _⟩ => ⟨S4x4096x5504, .f32⟩
  | .hbm, ⟨43, _⟩ => ⟨S4x4096x5504, .f32⟩
  | .hbm, ⟨44, _⟩ => ⟨S4x4096x5504, .f32⟩
  | .hbm, ⟨45, _⟩ => ⟨S4x4096x5504, .f32⟩
  | .hbm, ⟨46, _⟩ => ⟨S4x4096x2048, .f32⟩
  | .hbm, ⟨47, _⟩ => ⟨S4x1x2048, .f32⟩
  | .hbm, ⟨48, _⟩ => ⟨S_, .f32⟩
  | .hbm, ⟨49, _⟩ => ⟨S4x1x2048, .f32⟩
  | .hbm, ⟨50, _⟩ => ⟨S4x1x2048, .f32⟩
  | .hbm, ⟨51, _⟩ => ⟨S4x4096x2048, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x2048, .f32⟩
  | .hbm, ⟨63, _⟩ => ⟨S4x4096x2048, .f32⟩
  | .hbm, ⟨64, _⟩ => ⟨S1x1x2048, .f32⟩
  | .hbm, ⟨65, _⟩ => ⟨S4x4096x2048, .f32⟩
  | .hbm, ⟨66, _⟩ => ⟨S4x4096x2048, .f32⟩
  | .hbm, ⟨67, _⟩ => ⟨S4x4096x2048, .f32⟩
  | .hbm, ⟨68, _⟩ => ⟨S4x4096x2048, .f32⟩
  | .hbm, ⟨69, _⟩ => ⟨S4x4096x2048, .f32⟩
  | .hbm, ⟨70, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x2048 : Shape := ⟨2, ![4, 2048]⟩
abbrev S2048 : Shape := ⟨1, ![2048]⟩
abbrev S1024 : Shape := ⟨1, ![1024]⟩
abbrev S2048x5120 : Shape := ⟨2, ![2048, 5120]⟩
abbrev S16384x2048 : Shape := ⟨2, ![16384, 2048]⟩
abbrev S4x1x2048 : Shape := ⟨3, ![4, 1, 2048]⟩
abbrev S1x2048 : Shape := ⟨2, ![1, 2048]⟩
abbrev S1x1024 : Shape := ⟨2, ![1, 1024]⟩
abbrev S40x16384x128 : Shape := ⟨3, ![40, 16384, 128]⟩
abbrev S512x2048 : Shape := ⟨2, ![512, 2048]⟩
abbrev S1x1x2048 : Shape := ⟨3, ![1, 1, 2048]⟩
abbrev S40x512x128 : Shape := ⟨3, ![40, 512, 128]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 15
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048, .f32⟩
  | .hbm, ⟨3, _⟩ => ⟨S2048, .f32⟩
  | .hbm, ⟨4, _⟩ => ⟨S1024, .f32⟩
  | .hbm, ⟨5, _⟩ => ⟨S1024, .f32⟩
  | .hbm, ⟨6, _⟩ => ⟨S2048x5120, .f32⟩
  | .hbm, ⟨7, _⟩ => ⟨S16384x2048, .f32⟩
  | .hbm, ⟨8, _⟩ => ⟨S4x1x2048, .f32⟩
  | .hbm, ⟨9, _⟩ => ⟨S4x1x2048, .f32⟩
  | .hbm, ⟨10, _⟩ => ⟨S1x2048, .f32⟩
  | .hbm, ⟨11, _⟩ => ⟨S1x1024, .f32⟩
  | .hbm, ⟨12, _⟩ => ⟨S1x1024, .f32⟩
  | .hbm, ⟨13, _⟩ => ⟨S2048x5120, .bf16⟩
  | .hbm, ⟨14, _⟩ => ⟨S40x16384x128, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x1024, .f32⟩
  | .local _ .vmem, ⟨8, _⟩ => ⟨S1x1024, .f32⟩
  | .local _ .vmem, ⟨9, _⟩ => ⟨S2048x5120, .bf16⟩
  | .local _ .vmem, ⟨10, _⟩ => ⟨S40x512x128, .bf16⟩
  | .local _ .vmem, ⟨11, _⟩ => ⟨S40x512x128, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S40x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "root_half" => some (((Real.sqrt 2)⁻¹ : ℝ) : EReal)
  | "scale" => some (((Real.log 256)⁻¹ : ℝ) : EReal)
  | _ => none
-- ==== Reference3Ideal.lean ====
abbrev S4x4096x2048 : Shape := ⟨3, ![4, 4096, 2048]⟩
abbrev S4x2048 : Shape := ⟨2, ![4, 2048]⟩
abbrev S2048 : Shape := ⟨1, ![2048]⟩
abbrev S1024 : Shape := ⟨1, ![1024]⟩
abbrev S2048x5120 : Shape := ⟨2, ![2048, 5120]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x5120 : Shape := ⟨3, ![4, 4096, 5120]⟩
abbrev S4x4096x1024 : Shape := ⟨3, ![4, 4096, 1024]⟩
abbrev S1x1x1024 : Shape := ⟨3, ![1, 1, 1024]⟩
abbrev S16384x40x128 : Shape := ⟨3, ![16384, 40, 128]⟩
abbrev S40x16384x128 : Shape := ⟨3, ![40, 16384, 128]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048, .f32⟩
  | .hbm, ⟨3, _⟩ => ⟨S2048, .f32⟩
  | .hbm, ⟨4, _⟩ => ⟨S1024, .f32⟩
  | .hbm, ⟨5, _⟩ => ⟨S1024, .f32⟩
  | .hbm, ⟨6, _⟩ => ⟨S2048x5120, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S4x1x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x4096x2048, .f32⟩
  | .hbm, ⟨28, _⟩ => ⟨S4x4096x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x4096x5120, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S_, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S_, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S_, .f32⟩
  | .hbm, ⟨81, _⟩ => ⟨S4x4096x1, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x1, .f32⟩
  | .hbm, ⟨87, _⟩ => ⟨S4x4096x1024, .f32⟩
  | .hbm, ⟨88, _⟩ => ⟨S4x4096x1024, .f32⟩
  | .hbm, ⟨89, _⟩ => ⟨S1x1x1024, .f32⟩
  | .hbm, ⟨90, _⟩ => ⟨S4x4096x1024, .f32⟩
  | .hbm, ⟨91, _⟩ => ⟨S4x4096x1024, .f32⟩
  | .hbm, ⟨92, _⟩ => ⟨S1x1x1024, .f32⟩
  | .hbm, ⟨93, _⟩ => ⟨S4x4096x1024, .f32⟩
  | .hbm, ⟨94, _⟩ => ⟨S4x4096x1024, .f32⟩
  | .hbm, ⟨95, _⟩ => ⟨S4x4096x5120, .f32⟩
  | .hbm, ⟨96, _⟩ => ⟨S16384x40x128, .f32⟩
  | .hbm, ⟨97, _⟩ => ⟨S40x16384x128, .f32⟩
  | .hbm, ⟨98, _⟩ => ⟨S40x16384x128, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Kernel4.lean ====
abbrev S4x4096x2048 : Shape := ⟨3, ![4, 4096, 2048]⟩
abbrev S4x4096x1024 : Shape := ⟨3, ![4, 4096, 1024]⟩
abbrev S4x4096x5120 : Shape := ⟨3, ![4, 4096, 5120]⟩
abbrev S8x128x128 : Shape := ⟨3, ![8, 128, 128]⟩
abbrev S8x128 : Shape := ⟨2, ![8, 128]⟩
abbrev S1024 : Shape := ⟨1, ![1024]⟩
abbrev S4x2048 : Shape := ⟨2, ![4, 2048]⟩
abbrev S2048 : Shape := ⟨1, ![2048]⟩
abbrev S2048x2048 : Shape := ⟨2, ![2048, 2048]⟩
abbrev S16384x2048 : Shape := ⟨2, ![16384, 2048]⟩
abbrev S16384x8x128 : Shape := ⟨3, ![16384, 8, 128]⟩
abbrev S8x16384x128 : Shape := ⟨3, ![8, 16384, 128]⟩
abbrev S16384x40x128 : Shape := ⟨3, ![16384, 40, 128]⟩
abbrev S40x16384x128 : Shape := ⟨3, ![40, 16384, 128]⟩
abbrev S1x1024 : Shape := ⟨2, ![1, 1024]⟩
abbrev S4x1x2048 : Shape := ⟨3, ![4, 1, 2048]⟩
abbrev S1x2048 : Shape := ⟨2, ![1, 2048]⟩
abbrev S8x128x1 : Shape := ⟨3, ![8, 128, 1]⟩
abbrev S512x2048 : Shape := ⟨2, ![512, 2048]⟩
abbrev S8x512x128 : Shape := ⟨3, ![8, 512, 128]⟩
abbrev S1x1x2048 : Shape := ⟨3, ![1, 1, 2048]⟩
abbrev S128x128 : Shape := ⟨2, ![128, 128]⟩
abbrev S1x128x128 : Shape := ⟨3, ![1, 128, 128]⟩
abbrev S128x256 : Shape := ⟨2, ![128, 256]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x128 : Shape := ⟨2, ![1, 128]⟩
abbrev S256x2048 : Shape := ⟨2, ![256, 2048]⟩

abbrev nBuf : Space → Nat
  | .hbm => 25
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x5120, .f32⟩
  | .hbm, ⟨3, _⟩ => ⟨S8x128x128, .f32⟩
  | .hbm, ⟨4, _⟩ => ⟨S8x128, .f32⟩
  | .hbm, ⟨5, _⟩ => ⟨S1024, .f32⟩
  | .hbm, ⟨6, _⟩ => ⟨S1024, .f32⟩
  | .hbm, ⟨7, _⟩ => ⟨S4x2048, .f32⟩
  | .hbm, ⟨8, _⟩ => ⟨S2048, .f32⟩
  | .hbm, ⟨9, _⟩ => ⟨S2048x2048, .f32⟩
  | .hbm, ⟨10, _⟩ => ⟨S16384x2048, .f32⟩
  | .hbm, ⟨11, _⟩ => ⟨S16384x8x128, .f32⟩
  | .hbm, ⟨12, _⟩ => ⟨S8x16384x128, .f32⟩
  | .hbm, ⟨13, _⟩ => ⟨S8x16384x128, .bf16⟩
  | .hbm, ⟨14, _⟩ => ⟨S16384x40x128, .f32⟩
  | .hbm, ⟨15, _⟩ => ⟨S40x16384x128, .f32⟩
  | .hbm, ⟨16, _⟩ => ⟨S40x16384x128, .bf16⟩
  | .hbm, ⟨17, _⟩ => ⟨S1x1024, .f32⟩
  | .hbm, ⟨18, _⟩ => ⟨S1x1024, .f32⟩
  | .hbm, ⟨19, _⟩ => ⟨S4x1x2048, .f32⟩
  | .hbm, ⟨20, _⟩ => ⟨S1x2048, .f32⟩
  | .hbm, ⟨21, _⟩ => ⟨S2048x2048, .bf16⟩
  | .hbm, ⟨22, _⟩ => ⟨S8x128x1, .f32⟩
  | .hbm, ⟨23, _⟩ => ⟨S8x128x128, .f32⟩
  | .hbm, ⟨24, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S8x512x128, .bf16⟩
  | .local _ .vmem, ⟨7, _⟩ => ⟨S8x512x128, .bf16⟩
  | .local _ .vmem, ⟨8, _⟩ => ⟨S8x128x128, .f32⟩
  | .local _ .vmem, ⟨9, _⟩ => ⟨S8x128x128, .f32⟩
  | .local _ .vmem, ⟨10, _⟩ => ⟨S1x1024, .f32⟩
  | .local _ .vmem, ⟨11, _⟩ => ⟨S1x1024, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S2048x2048, .bf16⟩
  | .local _ .vmem, ⟨16, _⟩ => ⟨S512x2048, .f32⟩
  | .local _ .vmem, ⟨17, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S4x4096x2048 : Shape := ⟨3, ![4, 4096, 2048]⟩
abbrev S4x4096x1024 : Shape := ⟨3, ![4, 4096, 1024]⟩
abbrev S4x4096x5120 : Shape := ⟨3, ![4, 4096, 5120]⟩
abbrev S8x128x128 : Shape := ⟨3, ![8, 128, 128]⟩
abbrev S8x128 : Shape := ⟨2, ![8, 128]⟩
abbrev S1024 : Shape := ⟨1, ![1024]⟩
abbrev S4x2048 : Shape := ⟨2, ![4, 2048]⟩
abbrev S2048 : Shape := ⟨1, ![2048]⟩
abbrev S2048x2048 : Shape := ⟨2, ![2048, 2048]⟩
abbrev S4x32x128x8x128 : Shape := ⟨5, ![4, 32, 128, 8, 128]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S4x4096 : Shape := ⟨2, ![4, 4096]⟩
abbrev S4x4096x1 : Shape := ⟨3, ![4, 4096, 1]⟩
abbrev S1x1x1024 : Shape := ⟨3, ![1, 1, 1024]⟩
abbrev S4x1x2048 : Shape := ⟨3, ![4, 1, 2048]⟩
abbrev S1x1x2048 : Shape := ⟨3, ![1, 1, 2048]⟩
abbrev S16384x2048 : Shape := ⟨2, ![16384, 2048]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x5120, .f32⟩
  | .hbm, ⟨3, _⟩ => ⟨S8x128x128, .f32⟩
  | .hbm, ⟨4, _⟩ => ⟨S8x128, .f32⟩
  | .hbm, ⟨5, _⟩ => ⟨S1024, .f32⟩
  | .hbm, ⟨6, _⟩ => ⟨S1024, .f32⟩
  | .hbm, ⟨7, _⟩ => ⟨S4x2048, .f32⟩
  | .hbm, ⟨8, _⟩ => ⟨S2048, .f32⟩
  | .hbm, ⟨9, _⟩ => ⟨S2048x2048, .f32⟩
  | .hbm, ⟨10, _⟩ => ⟨S4x4096x1024, .f32⟩
  | .hbm, ⟨11, _⟩ => ⟨S4x4096x1024, .f32⟩
  | .hbm, ⟨12, _⟩ => ⟨S4x32x128x8x128, .f32⟩
  | .hbm, ⟨13, _⟩ => ⟨S128, .i32⟩
  | .hbm, ⟨14, _⟩ => ⟨S128x1, .i32⟩
  | .hbm, ⟨15, _⟩ => ⟨S_, .i32⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S128x1, .i32⟩
  | .hbm, ⟨20, _⟩ => ⟨S_, .i32⟩
  | .hbm, ⟨21, _⟩ => ⟨S128x1, .i32⟩
  | .hbm, ⟨22, _⟩ => ⟨S128x1, .i1⟩
  | .hbm, ⟨23, _⟩ => ⟨S128x1, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i1⟩
  | .hbm, ⟨28, _⟩ => ⟨S128x1, .i1⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x1, .i32⟩
  | .hbm, ⟨33, _⟩ => ⟨S1x128, .i32⟩
  | .hbm, ⟨34, _⟩ => ⟨S_, .i32⟩
  | .hbm, ⟨35, _⟩ => ⟨S_, .i32⟩
  | .hbm, ⟨36, _⟩ => ⟨S1x128, .i32⟩
  | .hbm, ⟨37, _⟩ => ⟨S1x128, .i32⟩
  | .hbm, ⟨38, _⟩ => ⟨S1x128, .i32⟩
  | .hbm, ⟨39, _⟩ => ⟨S_, .i32⟩
  | .hbm, ⟨40, _⟩ => ⟨S1x128, .i32⟩
  | .hbm, ⟨41, _⟩ => ⟨S1x128, .i1⟩
  | .hbm, ⟨42, _⟩ => ⟨S1x128, .i32⟩
  | .hbm, ⟨43, _⟩ => ⟨S1x128, .i32⟩
  | .hbm, ⟨44, _⟩ => ⟨S_, .i32⟩
  | .hbm, ⟨45, _⟩ => ⟨S1x128, .i32⟩
  | .hbm, ⟨46, _⟩ => ⟨S1x128, .i1⟩
  | .hbm, ⟨47, _⟩ => ⟨S1x128, .i1⟩
  | .hbm, ⟨48, _⟩ => ⟨S_, .i32⟩
  | .hbm, ⟨49, _⟩ => ⟨S1x128, .i32⟩
  | .hbm, ⟨50, _⟩ => ⟨S1x128, .i32⟩
  | .hbm, ⟨51, _⟩ => ⟨S1x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S1x128x128, .i1⟩
  | .hbm, ⟨56, _⟩ => ⟨S_, .f32⟩
  | .hbm, ⟨57, _⟩ => ⟨S8x128x128, .f32⟩
  | .hbm, ⟨58, _⟩ => ⟨S8x128x128, .i1⟩
  | .hbm, ⟨59, _⟩ => ⟨S8x128x128, .f32⟩
  | .hbm, ⟨60, _⟩ => ⟨S8x4x32x128x128, .f32⟩
  | .hbm, ⟨61, _⟩ => ⟨S4x32x128x8x128, .f32⟩
  | .hbm, ⟨62, _⟩ => ⟨S128x8, .f32⟩
  | .hbm, ⟨63, _⟩ => ⟨S1x1x128x8x1, .f32⟩
  | .hbm, ⟨64, _⟩ => ⟨S4x32x128x8x128, .f32⟩
  | .hbm, ⟨65, _⟩ => ⟨S4x32x128x8x128, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S4x4096x1, .f32⟩
  | .hbm, ⟨79, _⟩ => ⟨S4x4096x1024, .f32⟩
  | .hbm, ⟨80, _⟩ => ⟨S4x4096x1024, .f32⟩
  | .hbm, ⟨81, _⟩ => ⟨S1x1x1024, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S_, .f32⟩
  | .hbm, ⟨86, _⟩ => ⟨S4x4096, .f32⟩
  | .hbm, ⟨87, _⟩ => ⟨S4x4096x1, .f32⟩
  | .hbm, ⟨88, _⟩ => ⟨S_, .f32⟩
  | .hbm, ⟨89, _⟩ => ⟨S4x4096x1, .f32⟩
  | .hbm, ⟨90, _⟩ => ⟨S4x4096x1, .f32⟩
  | .hbm, ⟨91, _⟩ => ⟨S_, .f32⟩
  | .hbm, ⟨92, _⟩ => ⟨S4x4096x1, .f32⟩
  | .hbm, ⟨93, _⟩ => ⟨S4x4096x1, .f32⟩
  | .hbm, ⟨94, _⟩ => ⟨S4x4096x1, .f32⟩
  | .hbm, ⟨95, _⟩ => ⟨S4x4096x1024, .f32⟩
  | .hbm, ⟨96, _⟩ => ⟨S4x4096x1024, .f32⟩
  | .hbm, ⟨97, _⟩ => ⟨S1x1x1024, .f32⟩
  | .hbm, ⟨98, _⟩ => ⟨S4x4096x1024, .f32⟩
  | .hbm, ⟨99, _⟩ => ⟨S4x4096x1024, .f32⟩
  | .hbm, ⟨100, _⟩ => ⟨S4x4096x2048, .f32⟩
  | .hbm, ⟨101, _⟩ => ⟨S4x4096x2048, .f32⟩
  | .hbm, ⟨102, _⟩ => ⟨S4x1x2048, .f32⟩
  | .hbm, ⟨103, _⟩ => ⟨S4x4096x2048, .f32⟩
  | .hbm, ⟨104, _⟩ => ⟨S_, .f32⟩
  | .hbm, ⟨105, _⟩ => ⟨S4x4096, .f32⟩
  | .hbm, ⟨106, _⟩ => ⟨S4x4096x1, .f32⟩
  | .hbm, ⟨107, _⟩ => ⟨S_, .f32⟩
  | .hbm, ⟨108, _⟩ => ⟨S4x4096x1, .f32⟩
  | .hbm, ⟨109, _⟩ => ⟨S4x4096x1, .f32⟩
  | .hbm, ⟨110, _⟩ => ⟨S_, .f32⟩
  | .hbm, ⟨111, _⟩ => ⟨S4x4096x1, .f32⟩
  | .hbm, ⟨112, _⟩ => ⟨S4x4096x1, .f32⟩
  | .hbm, ⟨113, _⟩ => ⟨S4x4096x1, .f32⟩
  | .hbm, ⟨114, _⟩ => ⟨S4x4096x2048, .f32⟩
  | .hbm, ⟨115, _⟩ => ⟨S4x4096x2048, .f32⟩
  | .hbm, ⟨116, _⟩ => ⟨S1x1x2048, .f32⟩
  | .hbm, ⟨117, _⟩ => ⟨S4x4096x2048, .f32⟩
  | .hbm, ⟨118, _⟩ => ⟨S4x4096x2048, .f32⟩
  | .hbm, ⟨119, _⟩ => ⟨S4x4096x2048, .f32⟩
  | .hbm, ⟨120, _⟩ => ⟨S4x4096x2048, .f32⟩
  | .hbm, ⟨121, _⟩ => ⟨S4x4096x2048, .f32⟩
  | .hbm, ⟨122, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst : Ref sig .tc := ⟨.hbm, 56, rfl⟩
abbrev main_v12 : Ref sig .tc := ⟨.hbm, 57, rfl⟩
abbrev main_call2_v0 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_1 : Ref sig .tc := ⟨.hbm, 69, rfl⟩
abbrev main_v23 : Ref sig .tc := ⟨.hbm, 70, rfl⟩
abbrev main_v24 : Ref sig .tc := ⟨.hbm, 71, rfl⟩
abbrev main_cst_2 : Ref sig .tc := ⟨.hbm, 72, rfl⟩
abbrev main_v25 : Ref sig .tc := ⟨.hbm, 73, rfl⟩
abbrev main_v26 : Ref sig .tc := ⟨.hbm, 74, rfl⟩
abbrev main_cst_3 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst_4 : Ref sig .tc := ⟨.hbm, 85, rfl⟩
abbrev main_v36 : Ref sig .tc := ⟨.hbm, 86, rfl⟩
abbrev main_v37 : Ref sig .tc := ⟨.hbm, 87, rfl⟩
abbrev main_cst_5 : Ref sig .tc := ⟨.hbm, 88, rfl⟩
abbrev main_v38 : Ref sig .tc := ⟨.hbm, 89, rfl⟩
abbrev main_v39 : Ref sig .tc := ⟨.hbm, 90, rfl⟩
abbrev main_cst_6 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_cst_7 : Ref sig .tc := ⟨.hbm, 104, rfl⟩
abbrev main_v52 : Ref sig .tc := ⟨.hbm, 105, rfl⟩
abbrev main_v53 : Ref sig .tc := ⟨.hbm, 106, rfl⟩
abbrev main_cst_8 : Ref sig .tc := ⟨.hbm, 107, rfl⟩
abbrev main_v54 : Ref sig .tc := ⟨.hbm, 108, rfl⟩
abbrev main_v55 : Ref sig .tc := ⟨.hbm, 109, rfl⟩
abbrev main_cst_9 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩

abbrev nD : Nat := 1
abbrev τ : Topo := Topo.v7x

variable {F : FTy → Type} [FloatOps F]
-- ==== Proof.Att.Finite.lean ====
/- What the precondition says: the queries, the keys and the bias hold reals. -/
module

public import proofs.«01_k».proof.Defs
public import proofs.«01_k».proof.Proof.Gen.Pre_finite
public import Idealize.ShloMosaic.PureOps.Reduce
public import Idealize.ShloMosaic.Lib.KernelVsHost

@[expose] public section
noncomputable section
namespace Cert.KernelIdeal.Att
open Idealize.ShloMosaic Idealize.SL.Sem

theorem bit_and (a b : BitVec 1) (h : IntOp.andi a b = 1#1) : a = 1#1 ∧ b = 1#1 := by
  revert a b
  decide

/-- A conjunction over a finite set that is true has every term true. -/
theorem all_true {ι : Type*} (s : Finset ι) (f : ι → BitVec 1) (h : s.fold IntOp.andi 1#1 f = 1#1) : ∀ i ∈ s, f i = 1#1 := by
  classical
  induction s using Finset.induction with
  | empty => simp
  | insert a s ha ih =>
    rw [Finset.fold_insert ha] at h
    obtain ⟨h1, h2⟩ := bit_and _ _ h
    intro i hi
    rcases Finset.mem_insert.1 hi with rfl | hi
    · exact h1
    · exact ih h2 i hi

theorem inf_bits : (FloatOps.ofBits .f32 0x7F800000#32 : Ideal .f32) = (⊤ : EReal) := by
  show Ideal.ofBits .f32 _ = _
  simp [Ideal.ofBits, Ideal.ieee]

/-- A value less in size than +∞ is real. -/
theorem real_of_below (x : Ideal .f32) (h : FloatOps.cmpf .olt (FloatOps.hostAbsf x) (FloatOps.ofBits .f32 0x7F800000#32) = 1#1) :
    ∃ r : ℝ, x = (r : EReal) := by
  rw [inf_bits] at h
  have h' : max x (-x) < (⊤ : EReal) := by
    by_contra hn
    have : FloatOps.cmpf .olt (FloatOps.hostAbsf x) (⊤ : EReal) = (0#1 : BitVec 1) := by
      show BitVec.ofBool (decide (max x (-x) < (⊤ : EReal))) = 0#1
      rw [decide_eq_false hn]
      rfl
    rw [this] at h
    exact absurd h (by decide)
  have ht : x ≠ (⊤ : EReal) := fun e => absurd h' (by rw [e]; simp)
  have hb : x ≠ (⊥ : EReal) := fun e => absurd h' (by rw [e]; simp)
  exact ⟨EReal.toReal x, (EReal.coe_toReal ht hb).symm⟩

theorem reals {s : Shape} (x : FVec Ideal s .f32) {axes : List (Fin s.rank)} {t u : Shape} (h : s.ReducesTo axes t) (hu : 0 < u.numel)
    (y : FVec Ideal s .f32) (hy : ∀ i, y i = FloatOps.ofBits .f32 0x7F800000#32) (v : u.Idx → BitVec 1) (hv : ∀ i, v i = 1#1) (j : t.Idx) (hj : ∀ i : s.Idx, h.drop i = j)
    (e : Host.reduce IntOp.andi (cmpf .olt (Host.absf x) y) v h hu j = 1#1) : ∀ i, ∃ r : ℝ, x i = (r : EReal) := by
  intro i
  rw [Host.reduce_eq_fold, hv] at e
  have := all_true _ _ e i (Finset.mem_filter.2 ⟨Finset.mem_univ _, hj i⟩)
  refine real_of_below (x i) ?_
  rw [← hy i]
  exact this

/-- The reals an array holds. -/
theorem as_real {ι : Type} {x : ι → EReal} (h : ∀ i, ∃ r : ℝ, x i = (r : EReal)) : ∃ r : ι → ℝ, ∀ i, x i = (r i : EReal) :=
  ⟨fun i => (h i).choose, fun i => (h i).choose_spec⟩

open Cert.Pre_finite in
/-- The precondition, read: queries, keys and bias are real. -/
theorem reals_of_pre (x0 x1 x2 : FVec Ideal S4x4096x16x64 .f32) (x3 : FVec Ideal S16x257 .f32)
    (h : Cert.Pre_finite.fn (F := Ideal) x0 x1 x2 x3 = fun _ => 1#1) :
    (∃ r : S4x4096x16x64.Idx → ℝ, ∀ i, x0 i = (r i : EReal)) ∧ (∃ r : S4x4096x16x64.Idx → ℝ, ∀ i, x1 i = (r i : EReal))
      ∧ ∃ r : S16x257.Idx → ℝ, ∀ i, x3 i = (r i : EReal) := by
  have e := congrFun h (fun a => a.elim0)
  obtain ⟨e12, e3⟩ := bit_and _ _ e
  obtain ⟨e1, e2⟩ := bit_and _ _ e12
  have hj : ∀ a b : S_.Idx, a = b := fun a b => funext fun c => c.elim0
  exact ⟨as_real (reals x0 _ _ _ (fun _ => rfl) _ (fun _ => rfl) _ (fun _ => hj _ _) e1),
    as_real (reals x1 _ _ _ (fun _ => rfl) _ (fun _ => rfl) _ (fun _ => hj _ _) e2),
    as_real (reals x3 _ _ _ (fun _ => rfl) _ (fun _ => rfl) _ (fun _ => hj _ _) e3)⟩

end Cert.KernelIdeal.Att
end
-- ==== Proof.Att.Tile.lean ====
/- What one sub-block of the attention computes, as a function of the five staged blocks and the slice of the bias
   table: the printed body repeats it for every pair of heads and every group of 128 query rows. The pieces each
   case of the body leaves in the output block are these tiles. -/
module

public import proofs.«01_k».proof.Proof.Gen.KernelIdeal.Frame
public import Idealize.ShloMosaic.Init

@[expose] public section
set_option maxRecDepth 65536
noncomputable section
namespace Cert.KernelIdeal.Att
open Idealize.ShloMosaic Idealize.ShloMosaic.TcCoe Idealize.ShloMosaic.Tactic
open Cert.KernelIdeal.Gen
variable {F : FTy → Type} [FloatOps F] [Named F]

/-- The lanes of the second head of a pair. -/
def upper : IVec S128x128 1 := k0_pay2

theorem inbSlab (s : Fin 8) : ∀ a, (![s.val, 0, 0] : Fin 3 → Nat) a + S1x512x128.size a ≤ S8x512x128.size a := by
  revert s; decide
theorem inbOut (s : Fin 8) (i : Fin 4) : ∀ a, (![s.val, 128 * i.val, 0] : Fin 3 → Nat) a + S1x128x128.size a ≤ S8x512x128.size a := by
  revert s i; decide
theorem slQ (i : Fin 4) : S512x128.Slices ![128 * i.val, 0] S128x128 := by revert i; decide
theorem slK (i : Fin 4) : S1024x128.Slices ![128 * i.val, 0] S640x128 := by revert i; decide
theorem inbT (n : Fin 5) (s : Fin 8) : ∀ a, (![n.val, 2 * s.val, 0, 0] : Fin 4 → Nat) a + S1x2x128x640.size a ≤ S5x16x128x640.size a := by
  revert n s; decide
theorem inbL (s : Fin 8) : ∀ a, (![0, 2 * s.val, 0, 0] : Fin 4 → Nat) a + S1x2x128x128.size a ≤ S5x16x128x640.size a := by
  revert s; decide
theorem inbR (s : Fin 8) : ∀ a, (![0, 2 * s.val, 0, 384] : Fin 4 → Nat) a + S1x2x128x256.size a ≤ S5x16x128x640.size a := by
  revert s; decide

/-- Slab `s` of a staged block. -/
def slab (x : Vec F S8x512x128 .bf16) (s : Fin 8) : FVec F S512x128 .bf16 :=
  shapeCast S512x128 (View.ld x (Rect.unit ![s.val, 0, 0] ![1, 512, 128] (inbSlab s))) shapeCasts_S1x512x128_S512x128

/-- The previous and the current block of one slab, one after the other. -/
def joined (x y : Vec F S8x512x128 .bf16) (s : Fin 8) : FVec F S1024x128 .bf16 :=
  concatenate S1024x128 0 [⟨S512x128, slab x s⟩, ⟨S512x128, slab y s⟩] concatenates_S512x128_S512x128_S1024x128_d0

/-- The queries of sub-block `i`, once for each head of the pair, the other head's lanes zero. -/
def heads (q : Vec F S8x512x128 .bf16) (s : Fin 8) (i : Fin 4) : FVec F S256x128 .f32 :=
  concatenate S256x128 0
    [⟨S128x128, select upper (broadcast S128x128 (Scalar.ofBits .f32 0x00000000#32))
      (extf .f32 (extractStridedSlice S128x128 ![128 * i.val, 0] (slab q s) (slQ i)) bitsLt_bf16_f32)⟩,
     ⟨S128x128, select upper (extf .f32 (extractStridedSlice S128x128 ![128 * i.val, 0] (slab q s) (slQ i)) bitsLt_bf16_f32)
      (broadcast S128x128 (Scalar.ofBits .f32 0x00000000#32))⟩]
    concatenates_S128x128_S128x128_S256x128_d0

/-- The products of the queries with the 640 keys in reach, before the bias. -/
def raw (q kp kc : Vec F S8x512x128 .bf16) (s : Fin 8) (i : Fin 4) : FVec F S2x128x640 .f32 :=
  shapeCast S2x128x640
    (matmul dot_S256x128_S640x128_S256x640_1_1_0_0_n_n none (truncf .bf16 (heads q s i) bitsLt_bf16_f32)
      (extractStridedSlice S640x128 ![128 * i.val, 0] (joined kp kc s) (slK i)) (constant S256x640 .f32 0x00000000#32))
    shapeCasts_S256x640_S2x128x640

/-- The bias added in full (the first block of a sequence). -/
def biasFull (z : FVec F S2x128x640 .f32) (t : Vec F S1x2x128x640 .f32) : FVec F S2x128x640 .f32 :=
  addf z (shapeCast S2x128x640 t shapeCasts_S1x2x128x640_S2x128x640)

/-- The bias added to the first 128 and the last 256 keys (the other blocks). -/
def biasEnds (z : FVec F S2x128x640 .f32) (l : Vec F S1x2x128x128 .f32) (r : Vec F S1x2x128x256 .f32) : FVec F S2x128x640 .f32 :=
  concatenate S2x128x640 2
    [⟨S2x128x128, addf (extractStridedSlice S2x128x128 ![0, 0, 0] z slices_S2x128x640_o0_0_0_S2x128x128)
        (shapeCast S2x128x128 l shapeCasts_S1x2x128x128_S2x128x128)⟩,
     ⟨S2x128x256, extractStridedSlice S2x128x256 ![0, 0, 128] z slices_S2x128x640_o0_0_128_S2x128x256⟩,
     ⟨S2x128x256, addf (extractStridedSlice S2x128x256 ![0, 0, 384] z slices_S2x128x640_o0_0_384_S2x128x256)
        (shapeCast S2x128x256 r shapeCasts_S1x2x128x256_S2x128x256)⟩]
    concatenates_S2x128x128_S2x128x256_S2x128x256_S2x128x640_d2

/-- The exponentials of the scores below their row's maximum. -/
def expo (z : FVec F S2x128x640 .f32) : FVec F S2x128x640 .f32 :=
  exp2 (subf z (broadcastTo S2x128x640
    (shapeCast S2x128x1 (multiReduction .maximumf [2] S2x128 z 0xFF800000#32 reduces_S2x128x640_S2x128 (.inl rfl) rfl)
      shapeCasts_S2x128_S2x128x1) broadcasts_S2x128x1_S2x128x640))

/-- The weighted values over the weights' sum. -/
def mix (p : FVec F S2x128x640 .f32) (vs : FVec F S640x128 .bf16) : FVec F S2x128x128 .f32 :=
  divf (shapeCast S2x128x128 (matmul dot_S256x640_S640x128_S256x128_1_0_0_1_n_n none
      (truncf .bf16 (shapeCast S256x640 p shapeCasts_S2x128x640_S256x640) bitsLt_bf16_f32) vs
      (constant S256x128 .f32 0x00000000#32)) shapeCasts_S256x128_S2x128x128)
    (broadcastTo S2x128x128 (shapeCast S2x128x1
      (multiReduction .add [2] S2x128 p 0x00000000#32 reduces_S2x128x640_S2x128 (.inl rfl) rfl) shapeCasts_S2x128_S2x128x1)
      broadcasts_S2x128x1_S2x128x128)

/-- Each lane from its own head. -/
def pick (w : FVec F S2x128x128 .f32) : FVec F S1x128x128 .bf16 :=
  shapeCast S1x128x128 (truncf .bf16 (select upper
      (shapeCast S128x128 (extractStridedSlice S1x128x128 ![1, 0, 0] w slices_S2x128x128_o1_0_0_S1x128x128) shapeCasts_S1x128x128_S128x128)
      (shapeCast S128x128 (extractStridedSlice S1x128x128 ![0, 0, 0] w slices_S2x128x128_o0_0_0_S1x128x128) shapeCasts_S1x128x128_S128x128))
    bitsLt_bf16_f32) shapeCasts_S128x128_S1x128x128

/-- One tile of the output from its biased scores. -/
def tile (z : FVec F S2x128x640 .f32) (vp vc : Vec F S8x512x128 .bf16) (s : Fin 8) (i : Fin 4) : FVec F S1x128x128 .bf16 :=
  pick (mix (expo z) (extractStridedSlice S640x128 ![128 * i.val, 0] (joined vp vc s) (slK i)))

/-- The biased scores in the first block of a sequence, from the table's part for these rows. -/
def scoresFull (q kp kc : Vec F S8x512x128 .bf16) (T : Fin 5 → Fin 8 → Vec F S1x2x128x640 .f32) (s : Fin 8) (i : Fin 4) :
    FVec F S2x128x640 .f32 := biasFull (raw q kp kc s i) (T i.succ s)

/-- The biased scores in the other blocks. -/
def scoresEnds (q kp kc : Vec F S8x512x128 .bf16) (X : Vec F S5x16x128x640 .f32) (s : Fin 8) (i : Fin 4) : FVec F S2x128x640 .f32 :=
  biasEnds (raw q kp kc s i) (View.ld X (Rect.unit ![0, 2 * s.val, 0, 0] ![1, 2, 128, 128] (inbL s)))
    (View.ld X (Rect.unit ![0, 2 * s.val, 0, 384] ![1, 2, 128, 256] (inbR s)))

/-- The tiles in the order the body writes them, last first. -/
def order : List (Fin 8 × Fin 4) :=
  [(7, 3), (7, 2), (7, 1), (7, 0), (6, 3), (6, 2), (6, 1), (6, 0), (5, 3), (5, 2), (5, 1), (5, 0), (4, 3), (4, 2), (4, 1), (4, 0),
   (3, 3), (3, 2), (3, 1), (3, 0), (2, 3), (2, 2), (2, 1), (2, 0), (1, 3), (1, 2), (1, 1), (1, 0), (0, 3), (0, 2), (0, 1), (0, 0)]

/-- Where tile `(s, i)` lies in the output block. -/
def place (si : Fin 8 × Fin 4) : Rect S8x512x128 := Rect.unit ![si.1.val, 128 * si.2.val, 0] ![1, 128, 128] (inbOut si.1 si.2)

/-- A tile as a piece of the output block. -/
def piece (Z : Fin 8 → Fin 4 → FVec F S2x128x640 .f32) (vp vc : Vec F S8x512x128 .bf16) (si : Fin 8 × Fin 4) :
    View.Piece (Elt F) S8x512x128 .bf16 := ⟨place si, tile (Z si.1 si.2) vp vc si.1 si.2⟩

section Runs
variable (c : Dev nD) (i : grid0.Coords) (arg3 : Memref sig .tc .vmem S8x512x128 .bf16) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S8x512x128 .bf16) (harg7 : arg7.IsWhole) (arg8 : Memref sig .tc .vmem S1x16x768 .f32) (harg8 : arg8.IsWhole) (arg9 : Memref sig .tc .vmem S8x512x128 .bf16) (harg9 : arg9.IsWhole) (arg10 : Memref sig .tc .vmem S5x16x128x640 .f32) (harg10 : arg10.IsWhole)
    (x0 x1 x2 x3 x4 : Vec F S8x512x128 .bf16) (x5 : Vec F S1x16x768 .f32) (xs0 : Vec F S5x16x128x640 .f32)

set_option maxHeartbeats 4000000 in
/-- A block that is not the first of its sequence. -/
theorem pieces_B (hc0 : ¬cond0_0 i) (hc1 : ¬cond0_1 i) (hc2 : cond0_2 i) :
    (kernelRun0_B c i arg3 harg3 arg4 harg4 arg5 harg5 arg6 harg6 arg7 harg7 arg8 harg8 arg9 harg9 arg10 harg10 hc0 hc1 hc2 x0 x1 x2 x3 x4 x5 xs0).1
      = order.map (piece (scoresEnds x0 x1 x2 xs0) x3 x4) := by
  unfold kernelRun0_B
  dsimp only
  sl_unfold_words
  simp only [View.readAt_eq_ld]
  rw [harg3.read_unread x0, harg4.read_unread x1, harg5.read_unread x2, harg6.read_unread x3, harg7.read_unread x4, harg10.read_unread xs0]
  rfl

set_option maxHeartbeats 4000000 in
/-- The first block of a later sequence. -/
theorem pieces_C (hc0 : ¬cond0_0 i) (hc1 : cond0_1 i) (hc2 : ¬cond0_2 i) :
    (kernelRun0_C c i arg3 harg3 arg4 harg4 arg5 harg5 arg6 harg6 arg7 harg7 arg8 harg8 arg9 harg9 arg10 harg10 hc0 hc1 hc2 x0 x1 x2 x3 x4 x5 xs0).1
      = order.map (piece (scoresFull x0 x1 x2 (fun n s => View.ld xs0 (Rect.unit ![n.val, 2 * s.val, 0, 0] ![1, 2, 128, 640] (inbT n s)))) x3 x4) := by
  unfold kernelRun0_C
  dsimp only
  sl_unfold_words
  simp only [View.readAt_eq_ld]
  rw [harg3.read_unread x0, harg4.read_unread x1, harg5.read_unread x2, harg6.read_unread x3, harg7.read_unread x4, harg10.read_unread xs0]
  rfl

end Runs
end Cert.KernelIdeal.Att
end
-- ==== Proof.Att.Table.lean ====
/- The bias table the first point builds: for every head a plane of shifted copies of the head's bias row, and four
   more where the keys before the sequence are masked out. -/
module

public import proofs.«01_k».proof.Proof.Att.Tile

@[expose] public section
set_option maxRecDepth 65536
noncomputable section
namespace Cert.KernelIdeal.Att
open Idealize.ShloMosaic Idealize.ShloMosaic.TcCoe Idealize.ShloMosaic.Tactic
open Cert.KernelIdeal.Gen
variable {F : FTy → Type} [FloatOps F] [Named F]

theorem inbRow (h : Fin 16) : ∀ a, (![0, h.val, 0] : Fin 3 → Nat) a + S1x1x768.size a ≤ S1x16x768.size a := by revert h; decide
theorem inbFar (h : Fin 16) : ∀ a, (![0, h.val, 0] : Fin 3 → Nat) a + S1x1x1.size a ≤ S1x16x768.size a := by revert h; decide
theorem inbPlane (n : Fin 5) (h : Fin 16) : ∀ a, (![n.val, h.val, 0, 0] : Fin 4 → Nat) a + S1x1x128x640.size a ≤ S5x16x128x640.size a := by
  revert n h; decide

/-- A head's bias row, one copy per query row, each shifted by its row, outside the band masked. -/
def shifted (x5 : Vec F S1x16x768 .f32) (h : Fin 16) : FVec F S128x640 .f32 :=
  k0_pay117 k0_pay5 (View.ld x5 (Rect.unit ![0, h.val, 0] ![1, 1, 768] (inbRow h)))
    (View.ld x5 (Rect.unit ![0, h.val, 0] ![1, 1, 1] (inbFar h)))

/-- The same with the keys before the sequence masked, for query rows `128 i` and on. -/
def started (x5 : Vec F S1x16x768 .f32) (h : Fin 16) (i : Fin 4) : FVec F S128x640 .f32 :=
  select (cmpi .sge (addi (iota .tc S128x640 32 [1] iota_S128x640_d1_w32) (broadcast S128x640 (BitVec.ofNat 32 (128 * i.val))))
    (broadcast S128x640 512#32)) (shifted x5 h) (broadcast S128x640 (Named.named κ "mask" 0xF149F2CA#32))

/-- Plane `n` of head `h`. -/
def plane (x5 : Vec F S1x16x768 .f32) (n : Fin 5) (h : Fin 16) : FVec F S1x1x128x640 .f32 :=
  shapeCast S1x1x128x640 (Fin.cases (shifted x5 h) (started x5 h) n : FVec F S128x640 .f32) shapeCasts_S128x640_S1x1x128x640

/-- A plane as a piece of the table. -/
def tpiece (x5 : Vec F S1x16x768 .f32) (nh : Fin 5 × Fin 16) : View.Piece (Elt F) S5x16x128x640 .f32 :=
  ⟨Rect.unit ![nh.1.val, nh.2.val, 0, 0] ![1, 1, 128, 640] (inbPlane nh.1 nh.2), plane x5 nh.1 nh.2⟩

/-- The planes in the order they are written, last first. -/
def torder : List (Fin 5 × Fin 16) := [
   (4, 15), (3, 15), (2, 15), (1, 15), (0, 15), (4, 14), (3, 14), (2, 14), (1, 14), (0, 14), (4, 13), (3, 13), (2, 13),
   (1, 13), (0, 13), (4, 12), (3, 12), (2, 12), (1, 12), (0, 12), (4, 11), (3, 11), (2, 11), (1, 11), (0, 11), (4, 10),
   (3, 10), (2, 10), (1, 10), (0, 10), (4, 9), (3, 9), (2, 9), (1, 9), (0, 9), (4, 8), (3, 8), (2, 8), (1, 8), (0, 8),
   (4, 7), (3, 7), (2, 7), (1, 7), (0, 7), (4, 6), (3, 6), (2, 6), (1, 6), (0, 6), (4, 5), (3, 5), (2, 5), (1, 5), (0,
   5), (4, 4), (3, 4), (2, 4), (1, 4), (0, 4), (4, 3), (3, 3), (2, 3), (1, 3), (0, 3), (4, 2), (3, 2), (2, 2), (1, 2),
   (0, 2), (4, 1), (3, 1), (2, 1), (1, 1), (0, 1), (4, 0), (3, 0), (2, 0), (1, 0), (0, 0)]

/-- The whole table. -/
def table (x5 : Vec F S1x16x768 .f32) : Vec F S5x16x128x640 .f32 := View.canon (torder.map (tpiece x5))

/-- A slice of the table read back while the first point still runs. -/
def covRead (a : Memref sig .tc .vmem S5x16x128x640 .f32) (x5 : Vec F S1x16x768 .f32) (n : Fin 5) (s : Fin 8) : Vec F S1x2x128x640 .f32 :=
  View.readCov a.view (torder.map (tpiece x5))
    (Rect.unit (s := S5x16x128x640) ![n.val, 2 * s.val, 0, 0] ![1, 2, 128, 640] (inbT n s)).toLoadRect

theorem covRead_eq (a : Memref sig .tc .vmem S5x16x128x640 .f32) (x5 : Vec F S1x16x768 .f32) (n : Fin 5) (s : Fin 8) :
    covRead a x5 n s = View.ld (table x5) (Rect.unit ![n.val, 2 * s.val, 0, 0] ![1, 2, 128, 640] (inbT n s)) :=
  View.readCov_eq_canon' _ _ _

section Runs
variable (c : Dev nD) (i : grid0.Coords) (arg3 : Memref sig .tc .vmem S8x512x128 .bf16) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S8x512x128 .bf16) (harg7 : arg7.IsWhole) (arg8 : Memref sig .tc .vmem S1x16x768 .f32) (harg8 : arg8.IsWhole) (arg9 : Memref sig .tc .vmem S8x512x128 .bf16) (harg9 : arg9.IsWhole) (arg10 : Memref sig .tc .vmem S5x16x128x640 .f32) (harg10 : arg10.IsWhole)
    (x0 x1 x2 x3 x4 : Vec F S8x512x128 .bf16) (x5 : Vec F S1x16x768 .f32) (xs0 : Vec F S5x16x128x640 .f32)

set_option maxHeartbeats 4000000 in
/-- What the first point leaves in the table's buffer. -/
theorem table_A (hc0 : cond0_0 i) (hc1 : cond0_1 i) (hc2 : ¬cond0_2 i) :
    (kernelRun0_A c i arg3 harg3 arg4 harg4 arg5 harg5 arg6 harg6 arg7 harg7 arg8 harg8 arg9 harg9 arg10 harg10 hc0 hc1 hc2 x0 x1 x2 x3 x4 x5).2.1
      = torder.map (tpiece x5) := by
  unfold kernelRun0_A
  dsimp only
  sl_unfold_words
  simp only [View.readAt_eq_ld]
  rw [harg8.read_unread x5]
  rfl

set_option maxHeartbeats 4000000 in
theorem pieces_A_read (hc0 : cond0_0 i) (hc1 : cond0_1 i) (hc2 : ¬cond0_2 i) :
    (kernelRun0_A c i arg3 harg3 arg4 harg4 arg5 harg5 arg6 harg6 arg7 harg7 arg8 harg8 arg9 harg9 arg10 harg10 hc0 hc1 hc2 x0 x1 x2 x3 x4 x5).1
      = order.map (piece (scoresFull x0 x1 x2 (covRead arg10 x5)) x3 x4) := by
  unfold kernelRun0_A
  dsimp only
  sl_unfold_words
  simp only [View.readAt_eq_ld]
  rw [harg3.read_unread x0, harg4.read_unread x1, harg5.read_unread x2, harg6.read_unread x3, harg7.read_unread x4, harg8.read_unread x5]
  rfl

/-- The very first block. -/
theorem pieces_A (hc0 : cond0_0 i) (hc1 : cond0_1 i) (hc2 : ¬cond0_2 i) :
    (kernelRun0_A c i arg3 harg3 arg4 harg4 arg5 harg5 arg6 harg6 arg7 harg7 arg8 harg8 arg9 harg9 arg10 harg10 hc0 hc1 hc2 x0 x1 x2 x3 x4 x5).1
      = order.map (piece (scoresFull x0 x1 x2 (fun n s => View.ld (table x5) (Rect.unit ![n.val, 2 * s.val, 0, 0] ![1, 2, 128, 640] (inbT n s)))) x3 x4) := by
  rw [pieces_A_read, show covRead arg10 x5 = fun n s => View.ld (table x5) (Rect.unit ![n.val, 2 * s.val, 0, 0] ![1, 2, 128, 640] (inbT n s))
    from funext fun n => funext fun s => covRead_eq arg10 x5 n s]

end Runs
end Cert.KernelIdeal.Att
end
-- ==== Proof.Att.TileMath.lean ====
/- A tile read element by element, over the extended reals. -/
module

public import proofs.«01_k».proof.Proof.Att.Tile
public import Idealize.ShloMosaic.Lib.ValueIdx
public import Idealize.ShloMosaic.Lib.ValueIdxCoords
public import Idealize.ShloMosaic.Lib.ValueLayout
public import Idealize.ShloMosaic.Lib.MatmulPlain
public import Idealize.ShloMosaic.Lib.Pipeline.Value

@[expose] public section
set_option maxRecDepth 65536
noncomputable section
namespace Cert.KernelIdeal.Att
open Idealize.ShloMosaic Idealize.ShloMosaic.TcCoe Idealize.ShloMosaic.Tactic Idealize.ShloMosaic.ValueIdx
open Cert.KernelIdeal.Gen

/-- Row `r` of sub-block `i`. -/
def row (i : Fin 4) (r : Fin 128) : Fin 512 := ⟨128 * i.val + r.val, by omega⟩
/-- Key `c` in reach of sub-block `i`. -/
def key (i : Fin 4) (c : Fin 640) : Fin 1024 := ⟨128 * i.val + c.val, by omega⟩
/-- Row `r` of head `e` of a pair. -/
def pairRow (e : Fin 2) (r : Fin 128) : Fin 256 := ⟨128 * e.val + r.val, by omega⟩
/-- Head `e` of slab `s`. -/
def head (s : Fin 8) (e : Fin 2) : Fin 16 := ⟨2 * s.val + e.val, by omega⟩
/-- The head of a pair a lane belongs to. -/
def half (l : Fin 128) : Fin 2 := if 64 ≤ l.val then 1 else 0

/-- The previous block's element, then the current one's. -/
def both (x y : Vec Ideal S8x512x128 .bf16) (s : Fin 8) (n : Fin 1024) (j : Fin 128) : EReal :=
  if h : n.val < 512 then x (ix3 s ⟨n.val, h⟩ j) else y (ix3 s ⟨n.val - 512, by omega⟩ j)

theorem slab_apply (x : Vec Ideal S8x512x128 .bf16) (s : Fin 8) (n : Fin 512) (j : Fin 128) : slab x s (ix2 n j) = x (ix3 s n j) := by
  unfold slab
  rw [shapeCast_1ab_ab_apply, View.ld_unit]
  refine extractStridedSlice_apply _ _ _ _ _ fun a => ?_
  match a with
  | ⟨0, _⟩ => rfl
  | ⟨1, _⟩ => show n.val = 0 + n.val; omega
  | ⟨2, _⟩ => show j.val = 0 + j.val; omega

theorem joined_apply (x y : Vec Ideal S8x512x128 .bf16) (s : Fin 8) (n : Fin 1024) (j : Fin 128) :
    joined x y s (ix2 n j) = both x y s n j := by
  unfold joined both
  split
  · next h =>
    rw [concatenate_pair_apply_left (s₁ := S512x128) (s₂ := S512x128) (t := S1024x128) 0 _ _ _ (ix2 n j) rfl (ix2 ⟨n.val, h⟩ j) (fun b => by
      match b with
      | ⟨0, _⟩ => rfl
      | ⟨1, _⟩ => rfl), slab_apply]
  · next h =>
    rw [concatenate_pair_apply_right (s₁ := S512x128) (s₂ := S512x128) (t := S1024x128) 0 _ _ _ (ix2 n j) rfl rfl
      (ix2 ⟨n.val - 512, by omega⟩ j) (fun b hb => by
        match b with
        | ⟨0, _⟩ => exact absurd rfl hb
        | ⟨1, _⟩ => rfl) (by show n.val - 512 + 512 = n.val; omega), slab_apply]

theorem upper_apply (r l : Fin 128) : upper (ix2 r l) = if 64 ≤ l.val then 1#1 else 0#1 := by
  have h : upper (ix2 r l) = IntOp.cmpi .sge (BitVec.ofNat 32 l.val) 64#32 := by
    show cmpi .sge (iota .tc S128x128 32 [1] _) _ (ix2 r l) = _
    show IntOp.cmpi .sge (iota .tc S128x128 32 [1] _ (ix2 r l)) _ = _
    rw [iota_single_apply]
    rfl
  rw [h]
  clear h
  revert l
  decide

/-- A query's lane where it belongs to the head, zero elsewhere. -/
def headLane (q : Vec Ideal S8x512x128 .bf16) (s : Fin 8) (n : Fin 512) (e : Fin 2) (j : Fin 128) : EReal :=
  if half j = e then q (ix3 s n j) else 0

theorem qslice_apply (q : Vec Ideal S8x512x128 .bf16) (s : Fin 8) (i : Fin 4) (r j : Fin 128) :
    extractStridedSlice S128x128 ![128 * i.val, 0] (slab q s) (slQ i) (ix2 r j) = q (ix3 s (row i r) j) := by
  rw [extractStridedSlice_apply _ _ _ _ (ix2 (row i r) j) fun a => by
    match a with
    | ⟨0, _⟩ => rfl
    | ⟨1, _⟩ => show j.val = 0 + j.val; omega, slab_apply]

theorem heads_apply (q : Vec Ideal S8x512x128 .bf16) (s : Fin 8) (i : Fin 4) (e : Fin 2) (r j : Fin 128) :
    heads q s i (ix2 (pairRow e r) j) = headLane q s (row i r) e j := by
  unfold heads headLane half
  match e with
  | 0 =>
    rw [concatenate_pair_apply_left (s₁ := S128x128) (s₂ := S128x128) (t := S256x128) 0 _ _ _ (ix2 (pairRow 0 r) j) rfl (ix2 r j) (fun b => by
      match b with
      | ⟨0, _⟩ => show r.val = 128 * 0 + r.val; omega
      | ⟨1, _⟩ => rfl), select_apply, upper_apply, broadcast_apply, extf_apply, qslice_apply]
    by_cases h : 64 ≤ j.val
    · simp only [h, if_true, select_one]
      rw [if_neg (by decide)]
      exact Ideal.ofBits_zero_f32
    · simp only [h, if_false, select_zero, if_true]
  | 1 =>
    rw [concatenate_pair_apply_right (s₁ := S128x128) (s₂ := S128x128) (t := S256x128) 0 _ _ _ (ix2 (pairRow 1 r) j) rfl rfl (ix2 r j) (fun b hb => by
        match b with
        | ⟨0, _⟩ => exact absurd rfl hb
        | ⟨1, _⟩ => rfl) (by show r.val + 128 = 128 * 1 + r.val; omega), select_apply, upper_apply, broadcast_apply, extf_apply, qslice_apply]
    by_cases h : 64 ≤ j.val
    · simp only [h, if_true, select_one]
    · simp only [h, if_false, select_zero]
      rw [if_neg (by decide)]
      exact Ideal.ofBits_zero_f32

theorem kslice_apply (x y : Vec Ideal S8x512x128 .bf16) (s : Fin 8) (i : Fin 4) (c : Fin 640) (j : Fin 128) :
    extractStridedSlice S640x128 ![128 * i.val, 0] (joined x y s) (slK i) (ix2 c j) = both x y s (key i c) j := by
  rw [extractStridedSlice_apply _ _ _ _ (ix2 (key i c) j) fun a => by
    match a with
    | ⟨0, _⟩ => rfl
    | ⟨1, _⟩ => show j.val = 0 + j.val; omega, joined_apply]

/-- The product of one query with one key, over the head's lanes. -/
def dotQK (q kp kc : Vec Ideal S8x512x128 .bf16) (s : Fin 8) (i : Fin 4) (e : Fin 2) (r : Fin 128) (c : Fin 640) : EReal :=
  ∑ j : Fin 128, headLane q s (row i r) e j * both kp kc s (key i c) j

theorem raw_apply (q kp kc : Vec Ideal S8x512x128 .bf16) (s : Fin 8) (i : Fin 4) (e : Fin 2) (r : Fin 128) (c : Fin 640) :
    raw q kp kc s i (ix3 e r c) = dotQK q kp kc s i e r c := by
  unfold raw dotQK
  rw [shapeCast_apply _ _ _ (ix2 (pairRow e r) c) (by
    rw [Shape.rowMajor_val_two, Shape.rowMajor_val_three]
    show (128 * e.val + r.val) * 640 + c.val = (e.val * 128 + r.val) * 640 + c.val
    omega)]
  refine (Ideal.matmul_transposedRhs_apply (M := 256) (K := 128) (N := 640) none _ _ _ (pairRow e r) c).trans ?_
  rw [constant_apply, Ideal.ofBits_zero_f32, zero_add]
  refine Finset.sum_congr rfl fun j _ => ?_
  rw [truncf_apply, heads_apply, kslice_apply]

theorem biasFull_apply (z : FVec Ideal S2x128x640 .f32) (X : Vec Ideal S5x16x128x640 .f32) (n : Fin 5) (s : Fin 8) (e : Fin 2) (r : Fin 128)
    (c : Fin 640) :
    biasFull z (View.ld X (Rect.unit ![n.val, 2 * s.val, 0, 0] ![1, 2, 128, 640] (inbT n s))) (ix3 e r c)
      = z (ix3 e r c) + X (ix4 n (head s e) r c) := by
  unfold biasFull
  rw [addf_apply, shapeCast_1abc_abc_apply, View.ld_unit]
  refine congrArg (z (ix3 e r c) + ·) (extractStridedSlice_apply _ _ _ _ _ fun a => ?_)
  match a with
  | ⟨0, _⟩ => rfl
  | ⟨1, _⟩ => rfl
  | ⟨2, _⟩ => show r.val = 0 + r.val; omega
  | ⟨3, _⟩ => show c.val = 0 + c.val; omega

theorem biasEnds_apply (z : FVec Ideal S2x128x640 .f32) (X : Vec Ideal S5x16x128x640 .f32) (s : Fin 8) (e : Fin 2) (r : Fin 128)
    (c : Fin 640) :
    biasEnds z (View.ld X (Rect.unit ![0, 2 * s.val, 0, 0] ![1, 2, 128, 128] (inbL s)))
        (View.ld X (Rect.unit ![0, 2 * s.val, 0, 384] ![1, 2, 128, 256] (inbR s))) (ix3 e r c)
      = if 128 ≤ c.val ∧ c.val < 384 then z (ix3 e r c) else z (ix3 e r c) + X (ix4 0 (head s e) r c) := by
  unfold biasEnds
  by_cases h1 : c.val < 128
  · rw [if_neg (by omega)]
    rw [concatenate_apply_piece (t := S2x128x640) 2 _ _ (ix3 e r c) 0 (by simp) S2x128x128 _ rfl rfl 0 rfl (ix3 e r ⟨c.val, h1⟩) (fun b hb => by
      match b with
      | ⟨0, _⟩ => rfl
      | ⟨1, _⟩ => rfl
      | ⟨2, _⟩ => exact absurd rfl hb) (by show 0 + c.val = c.val; omega), addf_apply, shapeCast_1abc_abc_apply, View.ld_unit]
    refine congrArg₂ (· + ·) (extractStridedSlice_apply _ _ _ _ _ fun a => ?_) (extractStridedSlice_apply _ _ _ _ _ fun a => ?_)
    · match a with
      | ⟨0, _⟩ => show e.val = 0 + e.val; omega
      | ⟨1, _⟩ => show r.val = 0 + r.val; omega
      | ⟨2, _⟩ => show c.val = 0 + c.val; omega
    · match a with
      | ⟨0, _⟩ => rfl
      | ⟨1, _⟩ => rfl
      | ⟨2, _⟩ => show r.val = 0 + r.val; omega
      | ⟨3, _⟩ => show c.val = 0 + c.val; omega
  · by_cases h2 : c.val < 384
    · rw [if_pos (by omega)]
      rw [concatenate_apply_piece (t := S2x128x640) 2 _ _ (ix3 e r c) 1 (by simp) S2x128x256 _ rfl rfl 128 rfl
        (ix3 e r ⟨c.val - 128, by omega⟩) (fun b hb => by
          match b with
          | ⟨0, _⟩ => rfl
          | ⟨1, _⟩ => rfl
          | ⟨2, _⟩ => exact absurd rfl hb) (by show 128 + (c.val - 128) = c.val; omega)]
      refine extractStridedSlice_apply _ _ _ _ _ fun a => ?_
      match a with
      | ⟨0, _⟩ => show e.val = 0 + e.val; omega
      | ⟨1, _⟩ => show r.val = 0 + r.val; omega
      | ⟨2, _⟩ => show c.val = 128 + (c.val - 128); omega
    · rw [if_neg (by omega)]
      rw [concatenate_apply_piece (t := S2x128x640) 2 _ _ (ix3 e r c) 2 (by simp) S2x128x256 _ rfl rfl 384 rfl
        (ix3 e r ⟨c.val - 384, by omega⟩) (fun b hb => by
          match b with
          | ⟨0, _⟩ => rfl
          | ⟨1, _⟩ => rfl
          | ⟨2, _⟩ => exact absurd rfl hb) (by show 384 + (c.val - 384) = c.val; omega), addf_apply, shapeCast_1abc_abc_apply, View.ld_unit]
      refine congrArg₂ (· + ·) (extractStridedSlice_apply _ _ _ _ _ fun a => ?_) (extractStridedSlice_apply _ _ _ _ _ fun a => ?_)
      · match a with
        | ⟨0, _⟩ => show e.val = 0 + e.val; omega
        | ⟨1, _⟩ => show r.val = 0 + r.val; omega
        | ⟨2, _⟩ => show c.val = 384 + (c.val - 384); omega
      · match a with
        | ⟨0, _⟩ => rfl
        | ⟨1, _⟩ => rfl
        | ⟨2, _⟩ => show r.val = 0 + r.val; omega
        | ⟨3, _⟩ => show c.val = 384 + (c.val - 384); omega

/-- The maximum of a row of scores. -/
def rowMax {n : Nat} (f : Fin n → EReal) : EReal := Finset.univ.fold max ⊥ f

theorem rowMax_lift (z : FVec Ideal S2x128x640 .f32) (e : Fin 2) (r : Fin 128) :
    multiReduction .maximumf [2] S2x128 z 0xFF800000#32 reduces_S2x128x640_S2x128 (.inl rfl) rfl (ix2 e r)
      = (Finset.univ : Finset (Fin 640)).fold max (FloatOps.ofBits (F := Ideal) .f32 0xFF800000#32) (z ∘ reduces_S2x128x640_S2x128.lift (ix2 e r)) :=
  Ideal.multiReduction_maximumf_single (s := S2x128x640) (t := S2x128) (a := 2) (φ := .f32) z _ _ _ _ _

theorem rowSum_lift (z : FVec Ideal S2x128x640 .f32) (e : Fin 2) (r : Fin 128) :
    multiReduction .add [2] S2x128 z 0x00000000#32 reduces_S2x128x640_S2x128 (.inl rfl) rfl (ix2 e r)
      = ∑ k : Fin 640, z (reduces_S2x128x640_S2x128.lift (ix2 e r) k) :=
  Ideal.multiReduction_add_single (s := S2x128x640) (t := S2x128) (a := 2) (φ := .f32) z _ _ _ _ _

theorem expo_apply (z : FVec Ideal S2x128x640 .f32) (e : Fin 2) (r : Fin 128) (c : Fin 640) :
    expo z (ix3 e r c) = Ideal.exp2 (z (ix3 e r c) - rowMax fun c => z (ix3 e r c)) := by
  unfold expo
  show Ideal.exp2 (subf z _ (ix3 e r c)) = _
  rw [subf_apply, broadcastTo_apply _ _ _ (ix3 e r (0 : Fin 1)) fun a => by
    match a with
    | ⟨0, _⟩ => rfl
    | ⟨1, _⟩ => rfl
    | ⟨2, _⟩ => rfl]
  rw [shapeCast_apply _ _ _ (ix2 e r) (by
    rw [Shape.rowMajor_val_two, Shape.rowMajor_val_three]
    show e.val * 128 + r.val = (e.val * 128 + r.val) * 1 + 0
    omega)]
  refine congrArg (fun m => Ideal.exp2 (z (ix3 e r c) - m)) ?_
  refine (rowMax_lift z e r).trans ?_
  unfold rowMax
  have hb : (FloatOps.ofBits FTy.f32 0xFF800000#32 : Ideal .f32) = (⊥ : EReal) := by
    show Ideal.ofBits .f32 0xFF800000#32 = ⊥
    simp [Ideal.ofBits, Ideal.ieee]
  rw [hb]
  refine congrArg (fun f => Finset.univ.fold max ⊥ f) (funext fun k => congrArg z (funext fun a => ?_))
  match a with
  | ⟨0, _⟩ => rfl
  | ⟨1, _⟩ => rfl
  | ⟨2, _⟩ => rfl

theorem mix_apply (p : FVec Ideal S2x128x640 .f32) (vs : FVec Ideal S640x128 .bf16) (e : Fin 2) (r l : Fin 128) :
    mix p vs (ix3 e r l) = Ideal.div (∑ c : Fin 640, p (ix3 e r c) * vs (ix2 c l)) (∑ c : Fin 640, p (ix3 e r c)) := by
  unfold mix
  rw [divf_apply]
  refine congrArg₂ Ideal.div ?_ ?_
  · rw [shapeCast_apply _ _ _ (ix2 (pairRow e r) l) (by
      rw [Shape.rowMajor_val_two, Shape.rowMajor_val_three]
      show (128 * e.val + r.val) * 128 + l.val = (e.val * 128 + r.val) * 128 + l.val
      omega)]
    refine (Ideal.matmul_plain_apply (M := 256) (K := 640) (N := 128) none _ _ _ (pairRow e r) l).trans ?_
    rw [constant_apply, Ideal.ofBits_zero_f32, zero_add]
    refine Finset.sum_congr rfl fun c _ => ?_
    rw [truncf_apply, shapeCast_apply _ _ _ (ix3 e r c) (by
      rw [Shape.rowMajor_val_two, Shape.rowMajor_val_three]
      show (e.val * 128 + r.val) * 640 + c.val = (128 * e.val + r.val) * 640 + c.val
      omega)]
  · rw [broadcastTo_apply _ _ _ (ix3 e r (0 : Fin 1)) fun a => by
      match a with
      | ⟨0, _⟩ => rfl
      | ⟨1, _⟩ => rfl
      | ⟨2, _⟩ => rfl]
    rw [shapeCast_apply _ _ _ (ix2 e r) (by
      rw [Shape.rowMajor_val_two, Shape.rowMajor_val_three]
      show e.val * 128 + r.val = (e.val * 128 + r.val) * 1 + 0
      omega)]
    refine (rowSum_lift p e r).trans ?_
    refine Finset.sum_congr rfl fun k _ => congrArg p (funext fun a => ?_)
    match a with
    | ⟨0, _⟩ => rfl
    | ⟨1, _⟩ => rfl
    | ⟨2, _⟩ => rfl

theorem pick_apply (w : FVec Ideal S2x128x128 .f32) (u : Fin 1) (r l : Fin 128) : pick w (ix3 u r l) = w (ix3 (half l) r l) := by
  unfold pick half
  rw [shapeCast_ab_1ab_apply, truncf_apply, select_apply, upper_apply, shapeCast_1ab_ab_apply, shapeCast_1ab_ab_apply,
    extractStridedSlice_apply _ _ _ _ (ix3 (1 : Fin 2) r l) fun a => by
      match a with
      | ⟨0, _⟩ => rfl
      | ⟨1, _⟩ => show r.val = 0 + r.val; omega
      | ⟨2, _⟩ => show l.val = 0 + l.val; omega,
    extractStridedSlice_apply _ _ _ _ (ix3 (0 : Fin 2) r l) fun a => by
      match a with
      | ⟨0, _⟩ => rfl
      | ⟨1, _⟩ => show r.val = 0 + r.val; omega
      | ⟨2, _⟩ => show l.val = 0 + l.val; omega]
  by_cases h : 64 ≤ l.val
  · simp only [h, if_true, select_one]
  · simp only [h, if_false, select_zero]

/-- The exponentials' weighted mean of the values, from a row of scores in base two. -/
def soft2 (z : Fin 640 → EReal) (v : Fin 640 → EReal) : EReal :=
  Ideal.div (∑ c, Ideal.exp2 (z c - rowMax z) * v c) (∑ c, Ideal.exp2 (z c - rowMax z))

theorem tile_apply (z : FVec Ideal S2x128x640 .f32) (vp vc : Vec Ideal S8x512x128 .bf16) (s : Fin 8) (i : Fin 4) (u : Fin 1) (r l : Fin 128) :
    tile z vp vc s i (ix3 u r l) = soft2 (fun c => z (ix3 (half l) r c)) (fun c => both vp vc s (key i c) l) := by
  unfold tile soft2
  rw [pick_apply, mix_apply]
  simp only [expo_apply, kslice_apply]

end Cert.KernelIdeal.Att
end
-- ==== Proof.Att.TableMath.lean ====
/- The bias table and the finished output block, read element by element. -/
module

public import proofs.«01_k».proof.Proof.Att.Table
public import proofs.«01_k».proof.Proof.Att.TileMath

@[expose] public section
set_option maxRecDepth 65536
noncomputable section
namespace Cert.KernelIdeal.Att
open Idealize.ShloMosaic Idealize.ShloMosaic.TcCoe Idealize.ShloMosaic.Tactic Idealize.ShloMosaic.ValueIdx
open Cert.KernelIdeal.Gen

/-- The first key in the band of a query row. -/
def low (r : Fin 128) : Nat := 64 * (r.val / 64)

/-- The first key in the band, as the first point computes it from the row. -/
def lowWord (r : Nat) : BitVec 32 :=
  let v14 : BitVec 32 := BitVec.ofNat 32 r
  IntOp.muli (Scalar.select
    (IntOp.andi (IntOp.cmpi .ne (IntOp.subi ((IntOp.cmpi .sgt v14 0#32).setWidth 32) ((IntOp.cmpi .slt v14 0#32).setWidth 32))
        (Scalar.subi (Scalar.extui (Scalar.cmpi .sgt 64#32 0#32)) (Scalar.extui (Scalar.cmpi .slt 64#32 0#32))))
      (IntOp.cmpi .ne (IntOp.remsi .vector v14 64#32) 0#32)) (IntOp.subi (IntOp.divsi .vector v14 64#32) 1#32) (IntOp.divsi .vector v14 64#32)) 64#32

/-- Whether a key is in a row's band, as the first point computes it. -/
def bandWord (w : BitVec 32) (c : Nat) : BitVec 1 :=
  IntOp.andi (IntOp.cmpi .sge (BitVec.ofNat 32 c) w) (IntOp.cmpi .slt (BitVec.ofNat 32 c) (IntOp.addi w 576#32))

theorem pay5_word (r : Fin 128) (c : Fin 640) : k0_pay5 (ix2 r c) = bandWord (lowWord r.val) c.val := by
  have e0 : iota .tc S128x640 32 [0] iota_S128x640_d0_w32 (ix2 r c) = BitVec.ofNat 32 r.val := iota_single_apply _ _ _ _ _ _
  have e1 : iota .tc S128x640 32 [1] iota_S128x640_d1_w32 (ix2 r c) = BitVec.ofNat 32 c.val := iota_single_apply _ _ _ _ _ _
  unfold bandWord lowWord
  rw [← e0, ← e1]
  rfl

theorem lowWord_eq (r : Fin 128) : lowWord r.val = BitVec.ofNat 32 (64 * (r.val / 64)) := by
  revert r
  decide

theorem bandWord_eq (b : Fin 2) (c : Fin 640) :
    bandWord (BitVec.ofNat 32 (64 * b.val)) c.val = if 64 * b.val ≤ c.val ∧ c.val < 64 * b.val + 576 then 1#1 else 0#1 := by
  revert b c
  decide

theorem pay5_apply (r : Fin 128) (c : Fin 640) :
    k0_pay5 (ix2 r c) = if low r ≤ c.val ∧ c.val < low r + 576 then 1#1 else 0#1 := by
  rw [pay5_word, lowWord_eq]
  exact bandWord_eq ⟨r.val / 64, by omega⟩ c

theorem log2e_eq : (Named.named κ "log2e" 0x3FB8AA3B#32 : Ideal .f32) = (((Real.log 2)⁻¹ : ℝ) : EReal) :=
  IdealRules.named_const.ideal_named_scalar _ _ _ _ rfl
theorem mask_eq : (Named.named κ "mask" 0xF149F2CA#32 : Ideal .f32) = (⊥ : EReal) :=
  IdealRules.named_const.ideal_named_scalar _ _ _ _ rfl

/-- Where a head's bias row is read for query row `r` and key `c`. -/
def lag (r : Fin 128) (c : Fin 640) : Fin 768 := if h : r.val ≤ c.val then ⟨c.val - r.val, by omega⟩ else ⟨768 - (r.val - c.val), by omega⟩

/-- An entry of the bias row, above the row's first one, in base two. -/
def biasAt (x5 : Vec Ideal S1x16x768 .f32) (h : Fin 16) (k : Fin 768) : EReal :=
  (x5 (ix3 0 h k) - x5 (ix3 0 h 0)) * (((Real.log 2)⁻¹ : ℝ) : EReal)

/-- The bias row after the subtraction and the scale. -/
def scaledRow (x5 : Vec Ideal S1x16x768 .f32) (h : Fin 16) : FVec Ideal S1x768 .f32 :=
  mulf (subf (shapeCast S1x768 (View.ld x5 (Rect.unit ![0, h.val, 0] ![1, 1, 768] (inbRow h)) : Vec Ideal S1x1x768 .f32) shapeCasts_S1x1x768_S1x768)
      (broadcastTo S1x768 (shapeCast S1x1 (View.ld x5 (Rect.unit ![0, h.val, 0] ![1, 1, 1] (inbFar h)) : Vec Ideal S1x1x1 .f32) shapeCasts_S1x1x1_S1x1)
        broadcasts_S1x1_S1x768))
    (broadcast S1x768 (Named.named κ "log2e" 0x3FB8AA3B#32))

theorem scaledRow_apply (x5 : Vec Ideal S1x16x768 .f32) (h : Fin 16) (k : Fin 768) :
    scaledRow x5 h (ix2 (0 : Fin 1) k) = biasAt x5 h k := by
  unfold scaledRow biasAt
  rw [mulf_apply, subf_apply, broadcast_apply, log2e_eq, shapeCast_1ab_ab_apply, View.ld_unit,
    broadcastTo_apply _ _ _ (ix2 (0 : Fin 1) (0 : Fin 1)) fun a => by
      match a with
      | ⟨0, _⟩ => rfl
      | ⟨1, _⟩ => rfl,
    shapeCast_1ab_ab_apply, View.ld_unit]
  refine congrArg₂ (fun a b : EReal => (a - b) * (((Real.log 2)⁻¹ : ℝ) : EReal)) ?_ ?_
  · refine extractStridedSlice_apply _ _ _ _ _ fun a => ?_
    match a with
    | ⟨0, _⟩ => rfl
    | ⟨1, _⟩ => rfl
    | ⟨2, _⟩ => show k.val = 0 + k.val; omega
  · refine extractStridedSlice_apply _ _ _ _ _ fun a => ?_
    match a with
    | ⟨0, _⟩ => rfl
    | ⟨1, _⟩ => rfl
    | ⟨2, _⟩ => rfl

/-- The row once per query row. -/
def copies (x5 : Vec Ideal S1x16x768 .f32) (h : Fin 16) : FVec Ideal S128x768 .f32 :=
  broadcastTo S128x768 (shapeCast S1x768 (scaledRow x5 h) shapeCasts_S1x768_S1x768) broadcasts_S1x768_S128x768

theorem copies_apply (x5 : Vec Ideal S1x16x768 .f32) (h : Fin 16) (r : Fin 128) (k : Fin 768) : copies x5 h (ix2 r k) = biasAt x5 h k := by
  unfold copies
  rw [broadcastTo_apply _ _ _ (ix2 (0 : Fin 1) k) fun a => by
      match a with
      | ⟨0, _⟩ => rfl
      | ⟨1, _⟩ => rfl,
    shapeCast_apply _ _ _ (ix2 (0 : Fin 1) k) rfl, scaledRow_apply]

/-- The copies with their last third repeated, each row moved right by its number, the first 640 columns. -/
def moved (x5 : Vec Ideal S1x16x768 .f32) (h : Fin 16) : FVec Ideal S128x640 .f32 :=
  extractStridedSlice S128x640 ![0, 0]
    (dynamicRotate 1 0#32 (some (1, 0))
      (concatenate S128x1024 1 [⟨S128x768, copies x5 h⟩, ⟨S128x256, extractStridedSlice S128x256 ![0, 512] (copies x5 h) slices_S128x768_o0_512_S128x256⟩]
        concatenates_S128x768_S128x256_S128x1024_d1) rotates_S128x1024_d1s1a0) slices_S128x1024_o0_0_S128x640

theorem moved_apply (x5 : Vec Ideal S1x16x768 .f32) (h : Fin 16) (r : Fin 128) (c : Fin 640) :
    moved x5 h (ix2 r c) = biasAt x5 h (lag r c) := by
  unfold moved
  rw [extractStridedSlice_apply _ _ _ _ (ix2 r (⟨c.val, by omega⟩ : Fin 1024)) fun a => by
    match a with
    | ⟨0, _⟩ => show r.val = 0 + r.val; omega
    | ⟨1, _⟩ => show c.val = 0 + c.val; omega]
  have hrot : ∀ (X : S128x1024.Idx → EReal), dynamicRotate 1 0#32 (some (1, 0)) X rotates_S128x1024_d1s1a0 (ix2 r (⟨c.val, by omega⟩ : Fin 1024))
      = X (ix2 r (⟨(c.val + 1024 - r.val) % 1024, Nat.mod_lt _ (by norm_num)⟩ : Fin 1024)) := by
    intro X
    unfold dynamicRotate
    refine congrArg X (funext fun a => ?_)
    match a with
    | ⟨0, _⟩ => rfl
    | ⟨1, _⟩ =>
      refine Fin.ext ?_
      show (c.val + 1024 - (0 + 1 * r.val) % 1024) % 1024 = (c.val + 1024 - r.val) % 1024
      omega
  rw [hrot]
  unfold lag
  split
  · next hle =>
    rw [concatenate_pair_apply_left (s₁ := S128x768) (s₂ := S128x256) (t := S128x1024) 1 _ _ _ _ rfl (ix2 r (⟨c.val - r.val, by omega⟩ : Fin 768)) (fun b => by
      match b with
      | ⟨0, _⟩ => rfl
      | ⟨1, _⟩ => show c.val - r.val = (c.val + 1024 - r.val) % 1024; omega), copies_apply]
  · next hle =>
    rw [concatenate_pair_apply_right (s₁ := S128x768) (s₂ := S128x256) (t := S128x1024) 1 _ _ _ _ rfl rfl
      (ix2 r (⟨256 - (r.val - c.val), by omega⟩ : Fin 256)) (fun b hb => by
        match b with
        | ⟨0, _⟩ => rfl
        | ⟨1, _⟩ => exact absurd rfl hb) (by show 256 - (r.val - c.val) + 768 = (c.val + 1024 - r.val) % 1024; omega),
      extractStridedSlice_apply _ _ _ _ (ix2 r (⟨768 - (r.val - c.val), by omega⟩ : Fin 768)) fun a => by
        match a with
        | ⟨0, _⟩ => show r.val = 0 + r.val; omega
        | ⟨1, _⟩ => show 768 - (r.val - c.val) = 512 + (256 - (r.val - c.val)); omega, copies_apply]

theorem shifted_apply (x5 : Vec Ideal S1x16x768 .f32) (h : Fin 16) (r : Fin 128) (c : Fin 640) :
    shifted x5 h (ix2 r c) = if low r ≤ c.val ∧ c.val < low r + 576 then biasAt x5 h (lag r c) else ⊥ := by
  have e : shifted x5 h = select k0_pay5 (moved x5 h) (broadcast S128x640 (Named.named κ "mask" 0xF149F2CA#32)) := rfl
  rw [e, select_apply, pay5_apply, moved_apply, broadcast_apply, mask_eq]
  split
  · rw [select_one]
  · rw [select_zero]

theorem startWord (i : Fin 4) (c : Fin 640) :
    IntOp.cmpi .sge (IntOp.addi (BitVec.ofNat 32 c.val) (BitVec.ofNat 32 (128 * i.val))) 512#32 = if 512 ≤ 128 * i.val + c.val then 1#1 else 0#1 := by
  revert i c
  decide

theorem started_apply (x5 : Vec Ideal S1x16x768 .f32) (h : Fin 16) (i : Fin 4) (r : Fin 128) (c : Fin 640) :
    started x5 h i (ix2 r c) = if 512 ≤ 128 * i.val + c.val then shifted x5 h (ix2 r c) else ⊥ := by
  unfold started
  rw [select_apply, broadcast_apply, mask_eq]
  have e : cmpi .sge (addi (iota .tc S128x640 32 [1] iota_S128x640_d1_w32) (broadcast S128x640 (BitVec.ofNat 32 (128 * i.val))))
      (broadcast S128x640 512#32) (ix2 r c) = IntOp.cmpi .sge (IntOp.addi (BitVec.ofNat 32 c.val) (BitVec.ofNat 32 (128 * i.val))) 512#32 := by
    rw [← (iota_single_apply .tc S128x640 32 1 iota_S128x640_d1_w32 (ix2 r c) : _ = BitVec.ofNat 32 c.val)]
    rfl
  rw [e, startWord]
  split
  · rw [select_one]
  · rw [select_zero]

/-- An entry of the table. -/
def tableAt (x5 : Vec Ideal S1x16x768 .f32) (n : Fin 5) (h : Fin 16) (r : Fin 128) (c : Fin 640) : EReal :=
  (Fin.cases (shifted x5 h) (started x5 h) n : FVec Ideal S128x640 .f32) (ix2 r c)

theorem mem_torder : ∀ (n : Fin 5) (h : Fin 16), (n, h) ∈ torder := by decide

theorem table_apply (x5 : Vec Ideal S1x16x768 .f32) (n : Fin 5) (h : Fin 16) (r : Fin 128) (c : Fin 640) :
    table x5 (ix4 n h r c) = tableAt x5 n h r c := by
  unfold table
  refine View.canon_apply_of_pieces (Val := Elt Ideal) (e := .f32) (fun y : S5x16x128x640.Idx => tableAt x5 (y 0) (y 1) (y 2) (y 3)) _ ?_ (ix4 n h r c) ?_
  · intro p hp x
    obtain ⟨⟨n, h⟩, -, rfl⟩ := List.mem_map.1 hp
    obtain ⟨a, b, r, c, rfl⟩ : ∃ (a : Fin 1) (b : Fin 1) (r : Fin 128) (c : Fin 640), x = ix4 a b r c := ⟨x 0, x 1, x 2, x 3, eq_ix4 x⟩
    have e : (tpiece x5 (n, h)).1.emb (ix4 a b r c) = ix4 n h r c := by
      funext d
      refine Fin.ext ?_
      match d with
      | ⟨0, _⟩ => show n.val + 1 * a.val = n.val; omega
      | ⟨1, _⟩ => show h.val + 1 * b.val = h.val; omega
      | ⟨2, _⟩ => show 0 + 1 * r.val = r.val; omega
      | ⟨3, _⟩ => show 0 + 1 * c.val = c.val; omega
    rw [e]
    show plane x5 n h (ix4 a b r c) = tableAt x5 n h r c
    unfold plane tableAt
    exact shapeCast_apply _ _ _ (ix2 r c) (by
      rw [Shape.rowMajor_val_two, Shape.rowMajor_val_four]
      show r.val * 640 + c.val = ((a.val * 1 + b.val) * 128 + r.val) * 640 + c.val
      omega)
  · refine ⟨tpiece x5 (n, h), List.mem_map.2 ⟨(n, h), mem_torder n h, rfl⟩, ?_⟩
    refine (Rect.mem_set_unit (inb := inbPlane n h)).2 fun d => ?_
    match d with
    | ⟨0, _⟩ => exact ⟨Nat.le_refl n.val, Nat.lt_succ_self n.val⟩
    | ⟨1, _⟩ => exact ⟨Nat.le_refl h.val, Nat.lt_succ_self h.val⟩
    | ⟨2, _⟩ => exact ⟨Nat.zero_le _, by show r.val < 0 + 128; omega⟩
    | ⟨3, _⟩ => exact ⟨Nat.zero_le _, by show c.val < 0 + 640; omega⟩

theorem mem_order : ∀ (s : Fin 8) (i : Fin 4), (s, i) ∈ order := by decide

/-- The finished output block. -/
def block (Z : Fin 8 → Fin 4 → FVec Ideal S2x128x640 .f32) (vp vc : Vec Ideal S8x512x128 .bf16) : Vec Ideal S8x512x128 .bf16 :=
  View.canon (order.map (piece Z vp vc))

theorem block_apply (Z : Fin 8 → Fin 4 → FVec Ideal S2x128x640 .f32) (vp vc : Vec Ideal S8x512x128 .bf16) (s : Fin 8) (i : Fin 4) (r l : Fin 128) :
    block Z vp vc (ix3 s (row i r) l) = soft2 (fun c => Z s i (ix3 (half l) r c)) (fun c => both vp vc s (key i c) l) := by
  have hrow : ∀ (i : Fin 4) (r : Fin 128), (⟨(row i r).val / 128, by have := (row i r).isLt; omega⟩ : Fin 4) = i ∧
      (⟨(row i r).val % 128, Nat.mod_lt _ (by norm_num)⟩ : Fin 128) = r := fun i r =>
    ⟨Fin.ext (by show (128 * i.val + r.val) / 128 = i.val; omega), Fin.ext (by show (128 * i.val + r.val) % 128 = r.val; omega)⟩
  unfold block
  refine (View.canon_apply_of_pieces (Val := Elt Ideal) (e := .bf16) (fun y : S8x512x128.Idx =>
    (fun (i : Fin 4) (r : Fin 128) => soft2 (fun c => Z (y 0) i (ix3 (half (y 2)) r c)) (fun c => both vp vc (y 0) (key i c) (y 2)))
      ⟨(y 1).val / 128, by have : (y 1).val < 512 := (y 1).isLt; omega⟩ ⟨(y 1).val % 128, Nat.mod_lt _ (by norm_num)⟩) _ ?_ (ix3 s (row i r) l) ?_).trans ?_
  · intro p hp x
    obtain ⟨⟨s, i⟩, -, rfl⟩ := List.mem_map.1 hp
    obtain ⟨u, r, l, rfl⟩ : ∃ (u : Fin 1) (r l : Fin 128), x = ix3 u r l := ⟨x 0, x 1, x 2, eq_ix3 x⟩
    have e : (piece Z vp vc (s, i)).1.emb (ix3 u r l) = ix3 s (row i r) l := by
      funext d
      refine Fin.ext ?_
      match d with
      | ⟨0, _⟩ => show s.val + 1 * u.val = s.val; omega
      | ⟨1, _⟩ => show 128 * i.val + 1 * r.val = 128 * i.val + r.val; omega
      | ⟨2, _⟩ => show 0 + 1 * l.val = l.val; omega
    rw [e]
    show tile (Z s i) vp vc s i (ix3 u r l) = _
    rw [tile_apply]
    simp only [ix3_0, ix3_1, ix3_2, (hrow i r).1, (hrow i r).2]
  · refine ⟨piece Z vp vc (s, i), List.mem_map.2 ⟨(s, i), mem_order s i, rfl⟩, ?_⟩
    refine (Rect.mem_set_unit (inb := inbOut s i)).2 fun d => ?_
    match d with
    | ⟨0, _⟩ => exact ⟨Nat.le_refl s.val, Nat.lt_succ_self s.val⟩
    | ⟨1, _⟩ => exact ⟨by show 128 * i.val ≤ 128 * i.val + r.val; omega, by show 128 * i.val + r.val < 128 * i.val + 128; omega⟩
    | ⟨2, _⟩ => exact ⟨Nat.zero_le _, by show l.val < 0 + 128; omega⟩
  · simp only [ix3_0, ix3_1, ix3_2, (hrow i r).1, (hrow i r).2]

/-- The scores of a row in the first block of a sequence. -/
theorem scoresFull_apply (q kp kc : Vec Ideal S8x512x128 .bf16) (X : Vec Ideal S5x16x128x640 .f32) (s : Fin 8) (i : Fin 4) (e : Fin 2) (r : Fin 128)
    (c : Fin 640) :
    scoresFull q kp kc (fun n s => View.ld X (Rect.unit ![n.val, 2 * s.val, 0, 0] ![1, 2, 128, 640] (inbT n s))) s i (ix3 e r c)
      = dotQK q kp kc s i e r c + X (ix4 i.succ (head s e) r c) := by
  unfold scoresFull
  rw [biasFull_apply _ X i.succ s e r c, raw_apply]

/-- The scores of a row in the other blocks. -/
theorem scoresEnds_apply (q kp kc : Vec Ideal S8x512x128 .bf16) (X : Vec Ideal S5x16x128x640 .f32) (s : Fin 8) (i : Fin 4) (e : Fin 2) (r : Fin 128)
    (c : Fin 640) :
    scoresEnds q kp kc X s i (ix3 e r c) = if 128 ≤ c.val ∧ c.val < 384 then dotQK q kp kc s i e r c
      else dotQK q kp kc s i e r c + X (ix4 0 (head s e) r c) := by
  unfold scoresEnds
  rw [biasEnds_apply, raw_apply]

end Cert.KernelIdeal.Att
end
-- ==== Proof.Att.Host.lean ====
/- What the kernel's host operations leave for it: the slabs and the bias rows. -/
module

public import proofs.«01_k».proof.Proof.Att.TableMath
public import proofs.«01_k».proof.Proof.Gen.KernelIdeal.Value
public import Idealize.ShloMosaic.PureOps.Ideal.Laws

@[expose] public section
set_option maxRecDepth 65536
noncomputable section
namespace Cert.KernelIdeal.Att
open Idealize.ShloMosaic Idealize.ShloMosaic.TcCoe Idealize.ShloMosaic.Tactic Idealize.ShloMosaic.ValueIdx
open Cert.KernelIdeal.Gen Idealize.SL.Sem Idealize.ShloMosaic.StableHlo

variable (m : (ℓ : Loc nD τ sig) → Buf (Elt Ideal) ℓ) (c : Dev nD)

/-- An argument laid out in slabs of 128 lanes. -/
def slabbed (x : Vec Ideal S4x4096x16x64 .f32) : Vec Ideal S8x16384x128 .bf16 :=
  truncf .bf16 (transpose S8x16384x128 [1, 0, 2] (shapeCast S16384x8x128 x shapeCasts_S4x4096x16x64_S16384x8x128) transposes_S16384x8x128_S8x16384x128_1_0_2 : FVec Ideal S8x16384x128 .f32) bitsLt_bf16_f32

/-- The queries, scaled. -/
def scaledQ (x : Vec Ideal S4x4096x16x64 .f32) : Vec Ideal S4x4096x16x64 .f32 :=
  Host.divf (φ := .f32) (x : FVec Ideal S4x4096x16x64 .f32) (broadcastInDim S4x4096x16x64 ![] bcast_S_S4x4096x16x64 (mulf (constant (F := Ideal) S_ .f32 0x41000000#32) (Host.log (constant (F := Ideal) S_ .f32 0x40000000#32))))

/-- The three sections. -/
def slabs (x0 x1 x2 : Vec Ideal S4x4096x16x64 .f32) : Vec Ideal S24x16384x128 .bf16 :=
  concatenate S24x16384x128 0 [⟨S8x16384x128, slabbed (scaledQ x0)⟩, ⟨S8x16384x128, slabbed x1⟩, ⟨S8x16384x128, slabbed x2⟩]
    concatenates_S8x16384x128_S8x16384x128_S8x16384x128_S24x16384x128_d0

/-- The bias rows. -/
def relRows (x3 : Vec Ideal S16x257 .f32) : Vec Ideal S1x16x768 .f32 :=
  shapeCast S1x16x768 (concatenate S16x768 1 [⟨S16x384, broadcastInDim S16x384 ![0, 1] bcast_S16x1_S16x384_0_1 (extractStridedSlice S16x1 ![0, 256] x3 slices_S16x257_S16x1_0_256)⟩,
    ⟨S16x256, Host.reverse [1] (extractStridedSlice S16x256 ![0, 1] x3 slices_S16x257_S16x256_0_1)⟩,
    ⟨S16x128, broadcastInDim S16x128 ![0, 1] bcast_S16x1_S16x128_0_1 (extractStridedSlice S16x1 ![0, 256] x3 slices_S16x257_S16x1_0_256)⟩]
    concatenates_S16x384_S16x256_S16x128_S16x768_d1) shapeCasts_S16x768_S1x16x768

theorem three_congr {α : Type} {t s₁ s₂ s₃ : Shape} (a : Fin t.rank) {x x' : s₁.Idx → α} {y y' : s₂.Idx → α} {z z' : s₃.Idx → α}
    (h : Shape.Concatenates [s₁, s₂, s₃] t a) (hx : x = x') (hy : y = y') (hz : z = z') :
    concatenate t a [⟨s₁, x⟩, ⟨s₂, y⟩, ⟨s₃, z⟩] h = concatenate t a [⟨s₁, x'⟩, ⟨s₂, y'⟩, ⟨s₃, z'⟩] h := by
  subst hx hy hz
  rfl

set_option maxHeartbeats 4000000 in
theorem V_slabs : V m c main_v13 = slabs (m ((c : Thread nD τ).loc main_arg0)) (m ((c : Thread nD τ).loc main_arg1)) (m ((c : Thread nD τ).loc main_arg2)) := by
  show StableHlo.after hostOps0 _ _ = _
  simp only [hostOps0]
  after_results_simp
  dsimp only [Matrix.cons_val]
  refine three_congr _ _ ?_ ?_ ?_ <;> after_results_simp <;> rfl

set_option maxHeartbeats 4000000 in
theorem V_relRows : V m c main_v20 = relRows (m ((c : Thread nD τ).loc main_arg3)) := by
  show StableHlo.after hostOps0 _ _ = _
  simp only [hostOps0]
  after_results_simp
  dsimp only [Matrix.cons_val]
  funext i
  refine congrFun (congrArg (fun x => shapeCast S1x16x768 x shapeCasts_S16x768_S1x16x768) (three_congr _ _ ?_ ?_ ?_)) i <;> after_results_simp <;> rfl

/-- The head and lane of a head that lane `j` of slab `s` holds. -/
def slot (j : Fin 128) : Fin 64 := ⟨j.val % 64, Nat.mod_lt _ (by norm_num)⟩

/-- An argument read at a row of all batches, a slab and a lane. -/
def argAt (x : Vec Ideal S4x4096x16x64 .f32) (n : Fin 16384) (h : Fin 16) (d : Fin 64) : EReal :=
  x (ix4 (⟨n.val / 4096, by omega⟩ : Fin 4) (⟨n.val % 4096, Nat.mod_lt _ (by norm_num)⟩ : Fin 4096) h d)

theorem half_val (j : Fin 128) : (half j).val = j.val / 64 := by
  unfold half
  split
  · show 1 = _
    omega
  · show 0 = _
    omega

theorem slabbed_apply (x : Vec Ideal S4x4096x16x64 .f32) (s : Fin 8) (n : Fin 16384) (j : Fin 128) :
    slabbed x (ix3 s n j) = argAt x n (head s (half j)) (slot j) := by
  unfold slabbed argAt
  rw [truncf_apply, transpose_apply _ _ _ _ (ix3 n s j) fun b => by
    match b with
    | ⟨0, _⟩ => rfl
    | ⟨1, _⟩ => rfl
    | ⟨2, _⟩ => rfl]
  refine shapeCast_apply _ _ _ _ ?_
  rw [Shape.rowMajor_val_four, Shape.rowMajor_val_three]
  have := half_val j
  show ((n.val / 4096 * 4096 + n.val % 4096) * 16 + (2 * s.val + (half j).val)) * 64 + j.val % 64 = (n.val * 8 + s.val) * 128 + j.val
  omega

theorem slabs_q (x0 x1 x2 : Vec Ideal S4x4096x16x64 .f32) (s : Fin 8) (n : Fin 16384) (j : Fin 128) :
    slabs x0 x1 x2 (ix3 (⟨s.val, by omega⟩ : Fin 24) n j) = argAt (scaledQ x0) n (head s (half j)) (slot j) := by
  unfold slabs
  rw [← slabbed_apply]
  exact concatenate_apply_piece (t := S24x16384x128) 0 _ _ _ 0 (by simp) S8x16384x128 _ rfl rfl 0 rfl (ix3 s n j) (fun b => by
    match b with
    | ⟨0, _⟩ => exact fun h => absurd rfl h
    | ⟨1, _⟩ => exact fun _ => rfl
    | ⟨2, _⟩ => exact fun _ => rfl) (by show 0 + s.val = s.val; omega)

theorem slabs_k (x0 x1 x2 : Vec Ideal S4x4096x16x64 .f32) (s : Fin 8) (n : Fin 16384) (j : Fin 128) :
    slabs x0 x1 x2 (ix3 (⟨8 + s.val, by omega⟩ : Fin 24) n j) = argAt x1 n (head s (half j)) (slot j) := by
  unfold slabs
  rw [← slabbed_apply]
  exact concatenate_apply_piece (t := S24x16384x128) 0 _ _ _ 1 (by simp) S8x16384x128 _ rfl rfl 8 rfl (ix3 s n j) (fun b => by
    match b with
    | ⟨0, _⟩ => exact fun h => absurd rfl h
    | ⟨1, _⟩ => exact fun _ => rfl
    | ⟨2, _⟩ => exact fun _ => rfl) rfl

theorem slabs_v (x0 x1 x2 : Vec Ideal S4x4096x16x64 .f32) (s : Fin 8) (n : Fin 16384) (j : Fin 128) :
    slabs x0 x1 x2 (ix3 (⟨16 + s.val, by omega⟩ : Fin 24) n j) = argAt x2 n (head s (half j)) (slot j) := by
  unfold slabs
  rw [← slabbed_apply]
  exact concatenate_apply_piece (t := S24x16384x128) 0 _ _ _ 2 (by simp) S8x16384x128 _ rfl rfl 16 rfl (ix3 s n j) (fun b => by
    match b with
    | ⟨0, _⟩ => exact fun h => absurd rfl h
    | ⟨1, _⟩ => exact fun _ => rfl
    | ⟨2, _⟩ => exact fun _ => rfl) rfl

/-- Which entry of the bias a column of the bias row holds. -/
def relCol (k : Fin 768) : Fin 257 := if h : 384 ≤ k.val ∧ k.val < 640 then ⟨640 - k.val, by omega⟩ else 256

theorem far_apply (x3 : Vec Ideal S16x257 .f32) (h : Fin 16) (o : Fin 1) :
    extractStridedSlice S16x1 ![0, 256] x3 slices_S16x257_S16x1_0_256 (ix2 h o) = x3 (ix2 h (256 : Fin 257)) :=
  extractStridedSlice_apply _ _ _ _ _ fun a => by
    match a with
    | ⟨0, _⟩ => show h.val = 0 + h.val; omega
    | ⟨1, _⟩ => show 256 = 256 + o.val; omega

theorem relRows_apply (x3 : Vec Ideal S16x257 .f32) (h : Fin 16) (k : Fin 768) :
    relRows x3 (ix3 (0 : Fin 1) h k) = x3 (ix2 h (relCol k)) := by
  unfold relRows relCol
  rw [shapeCast_apply _ _ _ (ix2 h k) (by
    rw [Shape.rowMajor_val_two, Shape.rowMajor_val_three]
    show h.val * 768 + k.val = (0 * 16 + h.val) * 768 + k.val
    omega)]
  by_cases h1 : k.val < 384
  · rw [dif_neg (by omega), ← far_apply x3 h 0]
    refine (concatenate_apply_piece (t := S16x768) 1 _ _ _ 0 (by simp) S16x384 _ rfl rfl 0 rfl (ix2 h (⟨k.val, h1⟩ : Fin 384)) (fun b => by
      match b with
      | ⟨0, _⟩ => exact fun _ => rfl
      | ⟨1, _⟩ => exact fun h => absurd rfl h) (by show 0 + k.val = k.val; omega)).trans ?_
    exact broadcastInDim_apply _ _ _ _ _ fun a => by
      match a with
      | ⟨0, _⟩ => show h.val = if (16 : Nat) = 1 then 0 else h.val; rw [if_neg (by decide)]
      | ⟨1, _⟩ => show 0 = if (1 : Nat) = 1 then 0 else k.val; rw [if_pos rfl]
  · by_cases h2 : k.val < 640
    · rw [dif_pos (by omega)]
      refine (concatenate_apply_piece (t := S16x768) 1 _ _ _ 1 (by simp) S16x256 _ rfl rfl 384 rfl (ix2 h (⟨k.val - 384, by omega⟩ : Fin 256)) (fun b => by
        match b with
        | ⟨0, _⟩ => exact fun _ => rfl
        | ⟨1, _⟩ => exact fun h => absurd rfl h) (by show 384 + (k.val - 384) = k.val; omega)).trans ?_
      show extractStridedSlice S16x256 ![0, 1] x3 slices_S16x257_S16x256_0_1 (fun a => if a ∈ [(1 : Fin 2)] then ((ix2 h (⟨k.val - 384, by omega⟩ : Fin 256) : S16x256.Idx) a).rev else (ix2 h (⟨k.val - 384, by omega⟩ : Fin 256) : S16x256.Idx) a) = _
      refine extractStridedSlice_apply _ _ _ _ _ fun a => ?_
      match a with
      | ⟨0, _⟩ => show h.val = 0 + h.val; omega
      | ⟨1, _⟩ =>
        show 640 - k.val = 1 + (256 - (k.val - 384 + 1))
        omega
    · rw [dif_neg (by omega), ← far_apply x3 h 0]
      refine (concatenate_apply_piece (t := S16x768) 1 _ _ _ 2 (by simp) S16x128 _ rfl rfl 640 rfl (ix2 h (⟨k.val - 640, by omega⟩ : Fin 128)) (fun b => by
        match b with
        | ⟨0, _⟩ => exact fun _ => rfl
        | ⟨1, _⟩ => exact fun h => absurd rfl h) (by show 640 + (k.val - 640) = k.val; omega)).trans ?_
      exact broadcastInDim_apply _ _ _ _ _ fun a => by
        match a with
        | ⟨0, _⟩ => show h.val = if (16 : Nat) = 1 then 0 else h.val; rw [if_neg (by decide)]
        | ⟨1, _⟩ => show 0 = if (1 : Nat) = 1 then 0 else k.val - 640; rw [if_pos rfl]

theorem scaledQ_argAt (x : Vec Ideal S4x4096x16x64 .f32) (n : Fin 16384) (h : Fin 16) (d : Fin 64) :
    argAt (scaledQ x) n h d = argAt x n h d * ((1 / (8 * Real.log 2) : ℝ) : EReal) := by
  have e8 : (FloatOps.ofBits (F := Ideal) .f32 0x41000000#32 : EReal) = ((8 : ℝ) : EReal) := by
    show Ideal.ofBits .f32 _ = _
    simp [Ideal.ofBits, Ideal.ieee, -EReal.coe_mul]
    norm_num
  have e2 : (FloatOps.ofBits (F := Ideal) .f32 0x40000000#32 : EReal) = ((2 : ℝ) : EReal) := by
    show Ideal.ofBits .f32 _ = _
    simp [Ideal.ofBits, Ideal.ieee, -EReal.coe_mul]
    norm_num
  have hd : ∀ i, scaledQ x i = Ideal.div (x i) ((FloatOps.ofBits (F := Ideal) .f32 0x41000000#32 : EReal) * Ideal.log (FloatOps.ofBits (F := Ideal) .f32 0x40000000#32)) := fun i => rfl
  have hl : (0 : ℝ) < 8 * Real.log 2 := mul_pos (by norm_num) (Real.log_pos one_lt_two)
  unfold argAt
  rw [hd, e8, e2]
  have : Ideal.log ((2 : ℝ) : EReal) = ((Real.log 2 : ℝ) : EReal) := by
    show (if (2 : ℝ) ≤ 0 then (⊥ : EReal) else ((Real.log 2 : ℝ) : EReal)) = _
    rw [if_neg (by norm_num)]
  rw [this, ← EReal.coe_mul, Ideal.div_coe hl.ne']

end Cert.KernelIdeal.Att
end
-- ==== Proof.Att.Points.lean ====
/- What the output's blocks and the bias table hold after each grid point. -/
module

public import proofs.«01_k».proof.Proof.Att.Host

@[expose] public section
set_option maxRecDepth 65536
noncomputable section
namespace Cert.KernelIdeal.Att
open Idealize.ShloMosaic Idealize.ShloMosaic.TcCoe Idealize.ShloMosaic.Tactic Idealize.ShloMosaic.ValueIdx
open Cert.KernelIdeal.Gen Idealize.SL.Sem

variable (m : (ℓ : Loc nD τ sig) → Buf (Elt Ideal) ℓ) (c : Dev nD)

/-- Row `n` of the block of rows a point works on. -/
def curRow (t : Fin cfg0.N) (n : Fin 512) : Fin 16384 := ⟨512 * t.val + n.val, by have := lt_of_lt_of_eq t.isLt N_0; omega⟩
/-- Row `n` of the block before it in its sequence, or of the same one where it is the first. -/
def prevRow (t : Fin cfg0.N) (n : Fin 512) : Fin 16384 :=
  ⟨512 * (8 * (t.val / 8) + (t.val % 8 - 1)) + n.val, by have := lt_of_lt_of_eq t.isLt N_0; omega⟩

theorem at0 : ∀ t : Fin cfg0.N, win0_0.index t = ![0, t.val, 0] := (by decide +kernel : ∀ t : Fin grid0.N, _)
theorem at1 : ∀ t : Fin cfg0.N, win0_1.index t = ![1, 8 * (t.val / 8) + (t.val % 8 - 1), 0] := (by decide +kernel : ∀ t : Fin grid0.N, _)
theorem at2 : ∀ t : Fin cfg0.N, win0_2.index t = ![1, t.val, 0] := (by decide +kernel : ∀ t : Fin grid0.N, _)
theorem at3 : ∀ t : Fin cfg0.N, win0_3.index t = ![2, 8 * (t.val / 8) + (t.val % 8 - 1), 0] := (by decide +kernel : ∀ t : Fin grid0.N, _)
theorem at4 : ∀ t : Fin cfg0.N, win0_4.index t = ![2, t.val, 0] := (by decide +kernel : ∀ t : Fin grid0.N, _)
theorem at5 : ∀ t : Fin cfg0.N, win0_5.index t = ![0, 0, 0] := (by decide +kernel : ∀ t : Fin grid0.N, _)

/-- A place of a block, in the array. -/
theorem placed {w : Fin 3 → Nat} {a b : Nat} (h : w = ![a, b, 0]) (s : Fin 8) (n : Fin 512) (j : Fin 128) (x : S24x16384x128.Idx)
    (S : Fin 24) (N : Fin 16384) (h0 : (x 0).val = w 0 * 8 + 1 * s.val) (h1 : (x 1).val = w 1 * 512 + 1 * n.val) (h2 : (x 2).val = w 2 * 128 + 1 * j.val)
    (hS : S.val = 8 * a + s.val) (hN : N.val = 512 * b + n.val) : x = ix3 S N j := by
  subst h
  have h0 : (x 0).val = a * 8 + 1 * s.val := h0
  have h1 : (x 1).val = b * 512 + 1 * n.val := h1
  have h2 : (x 2).val = 0 * 128 + 1 * j.val := h2
  funext q
  apply Fin.ext
  match q with
  | ⟨0, _⟩ => show (x 0).val = S.val; omega
  | ⟨1, _⟩ => show (x 1).val = N.val; omega
  | ⟨2, _⟩ => show (x 2).val = j.val; omega

theorem iblk_q (t : Fin cfg0.N) (s : Fin 8) (n : Fin 512) (j : Fin 128) :
    iblk m c 0 t (ix3 s n j) = V m c main_v13 (ix3 (⟨s.val, by omega⟩ : Fin 24) (curRow t n) j) :=
  congrArg (V m c main_v13) (placed (at0 t) s n j (((cfg0.win 0).blk t).view.emb (ix3 s n j)) _ _ rfl rfl rfl (by show s.val = _; omega) rfl)

theorem iblk_kp (t : Fin cfg0.N) (s : Fin 8) (n : Fin 512) (j : Fin 128) :
    iblk m c 1 t (ix3 s n j) = V m c main_v13 (ix3 (⟨8 + s.val, by omega⟩ : Fin 24) (prevRow t n) j) :=
  congrArg (V m c main_v13) (placed (at1 t) s n j (((cfg0.win 1).blk t).view.emb (ix3 s n j)) _ _ rfl rfl rfl rfl rfl)

theorem iblk_kc (t : Fin cfg0.N) (s : Fin 8) (n : Fin 512) (j : Fin 128) :
    iblk m c 2 t (ix3 s n j) = V m c main_v13 (ix3 (⟨8 + s.val, by omega⟩ : Fin 24) (curRow t n) j) :=
  congrArg (V m c main_v13) (placed (at2 t) s n j (((cfg0.win 2).blk t).view.emb (ix3 s n j)) _ _ rfl rfl rfl rfl rfl)

theorem iblk_vp (t : Fin cfg0.N) (s : Fin 8) (n : Fin 512) (j : Fin 128) :
    iblk m c 3 t (ix3 s n j) = V m c main_v13 (ix3 (⟨16 + s.val, by omega⟩ : Fin 24) (prevRow t n) j) :=
  congrArg (V m c main_v13) (placed (at3 t) s n j (((cfg0.win 3).blk t).view.emb (ix3 s n j)) _ _ rfl rfl rfl rfl rfl)

theorem iblk_vc (t : Fin cfg0.N) (s : Fin 8) (n : Fin 512) (j : Fin 128) :
    iblk m c 4 t (ix3 s n j) = V m c main_v13 (ix3 (⟨16 + s.val, by omega⟩ : Fin 24) (curRow t n) j) :=
  congrArg (V m c main_v13) (placed (at4 t) s n j (((cfg0.win 4).blk t).view.emb (ix3 s n j)) _ _ rfl rfl rfl rfl rfl)

theorem iblk_rel (t : Fin cfg0.N) : iblk m c 5 t = V m c main_v20 := by
  funext y
  refine congrArg (V m c main_v20) (?_ : ((cfg0.win 5).blk t).view.emb y = y)
  have e := at5 t
  funext q
  apply Fin.ext
  match q with
  | ⟨0, _⟩ =>
    show win0_5.index t 0 * 1 + 1 * (y 0).val = (y 0).val
    rw [e]; show 0 * 1 + 1 * (y 0).val = _; omega
  | ⟨1, _⟩ =>
    show win0_5.index t 1 * 16 + 1 * (y 1).val = (y 1).val
    rw [e]; show 0 * 16 + 1 * (y 1).val = _; omega
  | ⟨2, _⟩ =>
    show win0_5.index t 2 * 768 + 1 * (y 2).val = (y 2).val
    rw [e]; show 0 * 768 + 1 * (y 2).val = _; omega

/-- The table the run works with. -/
def theTable : Vec Ideal S5x16x128x640 .f32 := table (V m c main_v20)

/-- The biased scores of a point. -/
def scores (t : Fin cfg0.N) : Fin 8 → Fin 4 → FVec Ideal S2x128x640 .f32 :=
  if t.val % 8 = 0 then
    scoresFull (iblk m c 0 t) (iblk m c 1 t) (iblk m c 2 t)
      (fun n s => View.ld (theTable m c) (Rect.unit ![n.val, 2 * s.val, 0, 0] ![1, 2, 128, 640] (inbT n s)))
  else scoresEnds (iblk m c 0 t) (iblk m c 1 t) (iblk m c 2 t) (theTable m c)

theorem scratch_A (t : Fin cfg0.N) (h0 : t.val % 32 = 0) : (outsAt0 m c t.val t.isLt).2 = theTable m c := by
  rw [outsAt0_A m c t h0 (by omega) (by omega)]
  dsimp only
  unfold sout0_A_0
  rw [View.read_writes_junk_eq_canon, table_A, iblk_rel]
  rfl

theorem scratch (n : Nat) (hn : n < cfg0.N) : (outsAt0 m c n hn).2 = theTable m c := by
  have hN : cfg0.N = 32 := N_0
  induction n with
  | zero => exact scratch_A m c ⟨0, hn⟩ rfl
  | succ n ih =>
    by_cases h1 : (n + 1) % 8 = 0
    · rw [outsAt0_C m c ⟨n + 1, hn⟩ (by show ¬(n + 1) % 32 = 0; omega) h1 (by show ¬1 ≤ (n + 1) % 8; omega)]
      exact ih _
    · rw [outsAt0_B m c ⟨n + 1, hn⟩ (by show ¬(n + 1) % 32 = 0; omega) h1 (by show 1 ≤ (n + 1) % 8; omega)]
      exact ih _

theorem outs (t : Fin cfg0.N) : (outsAt0 m c t.val t.isLt).1 = block (scores m c t) (iblk m c 3 t) (iblk m c 4 t) := by
  have hN : cfg0.N = 32 := N_0
  have ht := t.isLt
  unfold scores
  by_cases h1 : t.val % 8 = 0
  · rw [if_pos h1]
    by_cases h0 : t.val % 32 = 0
    · rw [outsAt0_A m c t h0 h1 (by omega)]
      dsimp only
      unfold out0_A_6
      rw [View.read_writes_junk_eq_canon, pieces_A, iblk_rel]
      rfl
    · rw [outsAt0_C m c t h0 h1 (by omega)]
      dsimp only
      unfold out0_C_6
      rw [View.read_writes_junk_eq_canon, pieces_C, scratch m c]
      rfl
  · rw [if_neg h1, outsAt0_B m c t (by omega) h1 (by omega)]
    dsimp only
    unfold out0_B_6
    rw [View.read_writes_junk_eq_canon, pieces_B, scratch m c]
    rfl

/-- The output after the run. -/
theorem out_apply (s : Fin 8) (t : Fin cfg0.N) (i : Fin 4) (r l : Fin 128) :
    Value.G6 m c (ix3 s (curRow t (row i r)) l)
      = soft2 (fun k => scores m c t s i (ix3 (half l) r k)) (fun k => both (iblk m c 3 t) (iblk m c 4 t) s (key i k) l) := by
  have hN : cfg0.N = 32 := N_0
  have ht := t.isLt
  have hp : Value.pt6Of (ix3 s (curRow t (row i r)) l) = t.val := by
    show 32 * (s.val / 8 - 0) + 1 * ((512 * t.val + (128 * i.val + r.val)) / 512 - 0) + 1 * (l.val / 128 - 0) = t.val
    omega
  have hl : Value.loc6Of (ix3 s (curRow t (row i r)) l) = ix3 s (row i r) l := by
    funext a
    apply Fin.ext
    match a with
    | ⟨0, _⟩ => show s.val % 8 = s.val; omega
    | ⟨1, _⟩ => show (512 * t.val + (128 * i.val + r.val)) % 512 = 128 * i.val + r.val; omega
    | ⟨2, _⟩ => show l.val % 128 = l.val; omega
  unfold Value.G6
  rw [dif_pos (by rw [hp]; exact t.isLt), hl, Value.fold0_congr m c _ _ t.val (by omega) hp, ← Value.outsAt0_sweep m c t.val t.isLt, outs]
  exact block_apply _ _ _ _ _ _ _

end Cert.KernelIdeal.Att
end
-- ==== Proof.Att.Soft.lean ====
/- A softmax-weighted mean, in base two and in base e, brought to one form. -/
module

public import proofs.«01_k».proof.Proof.Att.TileMath

@[expose] public section
noncomputable section
namespace Cert.KernelIdeal.Att
open Idealize.ShloMosaic

/-- A sum of reals is the real sum. -/
theorem sum_real {ι : Type*} (s : Finset ι) (f : ι → ℝ) : ∑ k ∈ s, ((f k : ℝ) : EReal) = ((∑ k ∈ s, f k : ℝ) : EReal) := by
  classical
  induction s using Finset.induction with
  | empty => simp
  | insert a s ha ih => rw [Finset.sum_insert ha, Finset.sum_insert ha, ih, EReal.coe_add]

/-- A nonnegative real factor comes out of a sum. -/
theorem real_mul_sum {ι : Type*} (s : Finset ι) {K : ℝ} (hK : 0 ≤ K) (f : ι → EReal) :
    (K : EReal) * ∑ k ∈ s, f k = ∑ k ∈ s, (K : EReal) * f k := by
  classical
  induction s using Finset.induction with
  | empty => simp
  | insert a s ha ih =>
    rw [Finset.sum_insert ha, Finset.sum_insert ha, ← ih]
    exact EReal.left_distrib_of_nonneg_of_ne_top (EReal.coe_nonneg.2 hK) (EReal.coe_ne_top _) _ _

/-- The greatest of entries that are real where `P` holds and −∞ elsewhere is real. -/
theorem rowMax_real {n : Nat} (P : Fin n → Prop) [DecidablePred P] (t : Fin n → ℝ) (z : Fin n → EReal)
    (hz : ∀ c, z c = if P c then ((t c : ℝ) : EReal) else ⊥) (hP : ∃ c, P c) : ∃ M : ℝ, rowMax z = (M : EReal) := by
  have h : ∀ s : Finset (Fin n), (s.fold max ⊥ z = ⊥ ∧ ∀ k ∈ s, ¬P k) ∨ ∃ M : ℝ, s.fold max ⊥ z = (M : EReal) := by
    intro s
    induction s using Finset.induction with
    | empty => exact .inl ⟨rfl, by simp⟩
    | insert a s ha ih =>
      rw [Finset.fold_insert ha, hz a]
      split
      · next hp =>
        rcases ih with ⟨e, -⟩ | ⟨M, e⟩
        · exact .inr ⟨t a, by rw [e]; exact max_eq_left bot_le⟩
        · exact .inr ⟨max (t a) M, by rw [e]; exact (EReal.coe_strictMono.monotone.map_max).symm⟩
      · next hp =>
        rw [max_eq_right bot_le]
        rcases ih with ⟨e, hs⟩ | ⟨M, e⟩
        · exact .inl ⟨e, fun k hk => by
            rcases Finset.mem_insert.1 hk with rfl | hk
            · exact hp
            · exact hs k hk⟩
        · exact .inr ⟨M, e⟩
  rcases h Finset.univ with ⟨-, hn⟩ | h
  · obtain ⟨c, hc⟩ := hP
    exact absurd hc (hn c (Finset.mem_univ c))
  · exact h

/-- The weight of an entry: its exponential where `P` holds, nothing elsewhere. -/
def weight {n : Nat} (P : Fin n → Prop) [DecidablePred P] (t : Fin n → ℝ) (c : Fin n) : ℝ := if P c then Real.exp (t c) else 0

theorem weight_nonneg {n : Nat} (P : Fin n → Prop) [DecidablePred P] (t : Fin n → ℝ) (c : Fin n) : 0 ≤ weight P t c := by
  unfold weight
  split
  · exact (Real.exp_pos _).le
  · exact le_rfl

theorem weight_sum_pos {n : Nat} (P : Fin n → Prop) [DecidablePred P] (t : Fin n → ℝ) (hP : ∃ c, P c) : 0 < ∑ c, weight P t c := by
  obtain ⟨c, hc⟩ := hP
  refine Finset.sum_pos' (fun k _ => weight_nonneg P t k) ⟨c, Finset.mem_univ c, ?_⟩
  unfold weight
  rw [if_pos hc]
  exact Real.exp_pos _

/-- The weighted mean both programs compute. -/
def mean {n : Nat} (P : Fin n → Prop) [DecidablePred P] (t : Fin n → ℝ) (v : Fin n → EReal) : EReal :=
  (∑ c, (weight P t c : EReal) * v c) * ((1 / ∑ c, weight P t c : ℝ) : EReal)

/-- In base two, over scores lowered by a constant, divided after the sum. -/
theorem soft2_mean (P : Fin 640 → Prop) [DecidablePred P] (t : Fin 640 → ℝ) (a : ℝ) (z v : Fin 640 → EReal)
    (hz : ∀ c, z c = if P c then (((t c - a) * (Real.log 2)⁻¹ : ℝ) : EReal) else ⊥) (hP : ∃ c, P c) : soft2 z v = mean P t v := by
  obtain ⟨M, hM⟩ := rowMax_real P _ z hz hP
  have hl : Real.log 2 ≠ 0 := (Real.log_pos one_lt_two).ne'
  have hK : 0 < Real.exp (-a - M * Real.log 2) := Real.exp_pos _
  have hp : ∀ c, Ideal.exp2 (z c - rowMax z) = ((Real.exp (-a - M * Real.log 2) * weight P t c : ℝ) : EReal) := by
    intro c
    rw [hM, hz c]
    unfold weight
    split
    · rw [← EReal.coe_sub, Ideal.exp2_coe]
      refine congrArg _ ?_
      show (2 : ℝ) ^ ((t c - a) * (Real.log 2)⁻¹ - M) = _
      rw [Real.rpow_def_of_pos two_pos, ← Real.exp_add]
      refine congrArg _ ?_
      field_simp
      ring
    · rw [EReal.bot_sub, Ideal.exp2_bot, mul_zero, EReal.coe_zero]
  unfold soft2 mean
  simp only [hp]
  have hD := weight_sum_pos P t hP
  rw [sum_real, ← Finset.mul_sum, Ideal.div_coe (mul_pos hK hD).ne']
  simp only [EReal.coe_mul, mul_assoc]
  rw [← real_mul_sum _ hK.le, mul_comm (Real.exp (-a - M * Real.log 2) : EReal), mul_assoc, ← EReal.coe_mul]
  refine congrArg _ (congrArg _ ?_)
  field_simp

/-- In base e, each weight divided before the sum. -/
theorem soft_mean {n : Nat} (P : Fin n → Prop) [DecidablePred P] (t : Fin n → ℝ) (z v : Fin n → EReal)
    (hz : ∀ c, z c = if P c then ((t c : ℝ) : EReal) else ⊥) (hP : ∃ c, P c) :
    ∑ c, Ideal.div (Ideal.exp (z c - rowMax z)) (∑ k, Ideal.exp (z k - rowMax z)) * v c = mean P t v := by
  obtain ⟨M, hM⟩ := rowMax_real P _ z hz hP
  have hK : 0 < Real.exp (-M) := Real.exp_pos _
  have hp : ∀ c, Ideal.exp (z c - rowMax z) = ((Real.exp (-M) * weight P t c : ℝ) : EReal) := by
    intro c
    rw [hM, hz c]
    unfold weight
    split
    · rw [← EReal.coe_sub, Ideal.exp_coe, ← Real.exp_add]
      refine congrArg _ (congrArg _ ?_)
      ring
    · rw [EReal.bot_sub, Ideal.exp_bot, mul_zero, EReal.coe_zero]
  have hD := weight_sum_pos P t hP
  unfold mean
  simp only [hp]
  rw [sum_real, ← Finset.mul_sum, mul_comm (∑ c, (weight P t c : EReal) * v c), real_mul_sum _ (by positivity)]
  refine Finset.sum_congr rfl fun c _ => ?_
  rw [Ideal.div_coe (mul_pos hK hD).ne', ← EReal.coe_mul, ← mul_assoc, ← EReal.coe_mul]
  refine congrArg (· * v c) (congrArg _ ?_)
  field_simp

/-- A sum over 640 keys that vanishes outside a band of 576 is the sum over the band. -/
theorem sum_band {α : Type*} [AddCommMonoid α] (lo : Nat) (hlo : lo + 576 ≤ 640) (f : Fin 640 → α)
    (hf : ∀ c : Fin 640, ¬(lo ≤ c.val ∧ c.val < lo + 576) → f c = 0) :
    ∑ c, f c = ∑ k : Fin 576, f ⟨lo + k.val, by have := k.isLt; omega⟩ := by
  symm
  refine Finset.sum_of_injOn (fun k : Fin 576 => (⟨lo + k.val, by have := k.isLt; omega⟩ : Fin 640)) ?_ (fun _ _ => Finset.mem_coe.2 (Finset.mem_univ _)) ?_ (fun _ _ => rfl)
  · intro a _ b _ h
    have := congrArg Fin.val h
    exact Fin.ext (by simp only at this; omega)
  · intro c _ hc
    refine hf c fun h => hc ⟨⟨c.val - lo, by omega⟩, Finset.mem_coe.2 (Finset.mem_univ _), Fin.ext ?_⟩
    show lo + (c.val - lo) = c.val
    omega

/-- The mean over a band, from the mean over all 640 keys. -/
theorem mean_band (lo : Nat) (hlo : lo + 576 ≤ 640) (P : Fin 640 → Prop) [DecidablePred P] (t : Fin 640 → ℝ) (v : Fin 640 → EReal)
    (P' : Fin 576 → Prop) [DecidablePred P'] (t' : Fin 576 → ℝ) (v' : Fin 576 → EReal)
    (hout : ∀ c : Fin 640, ¬(lo ≤ c.val ∧ c.val < lo + 576) → ¬P c)
    (hP : ∀ k : Fin 576, P ⟨lo + k.val, by have := k.isLt; omega⟩ ↔ P' k)
    (ht : ∀ k : Fin 576, P' k → t ⟨lo + k.val, by have := k.isLt; omega⟩ = t' k)
    (hv : ∀ k : Fin 576, P' k → v ⟨lo + k.val, by have := k.isLt; omega⟩ = v' k) : mean P t v = mean P' t' v' := by
  have hw : ∀ k : Fin 576, weight P t ⟨lo + k.val, by have := k.isLt; omega⟩ = weight P' t' k := by
    intro k
    unfold weight
    by_cases h : P' k
    · rw [if_pos h, if_pos ((hP k).2 h), ht k h]
    · rw [if_neg h, if_neg fun h' => h ((hP k).1 h')]
  have h0 : ∀ c : Fin 640, ¬(lo ≤ c.val ∧ c.val < lo + 576) → weight P t c = 0 := fun c hc => if_neg (hout c hc)
  unfold mean
  rw [sum_band lo hlo (fun c => weight P t c) h0, sum_band lo hlo (fun c => (weight P t c : EReal) * v c) fun c hc => by
    show (weight P t c : EReal) * v c = 0
    rw [h0 c hc, EReal.coe_zero, zero_mul]]
  simp only [hw]
  refine congrArg (· * _) (Finset.sum_congr rfl fun k _ => ?_)
  by_cases h : P' k
  · rw [hv k h]
  · unfold weight
    rw [if_neg h, EReal.coe_zero, zero_mul, zero_mul]

end Cert.KernelIdeal.Att
end
-- ==== Proof.Att.Target.lean ====
/- The attention both programs compute, as a function of the arguments. -/
module

public import proofs.«01_k».proof.Proof.Att.Soft

@[expose] public section
noncomputable section
namespace Cert.KernelIdeal.Att
open Idealize.ShloMosaic Idealize.ShloMosaic.ValueIdx

/-- An argument read at a row of all batches, a head and a place in the head. -/
def rowAt {α : Type} (x : S4x4096x16x64.Idx → α) (n : Fin 16384) (h : Fin 16) (d : Fin 64) : α :=
  x (ix4 (⟨n.val / 4096, by omega⟩ : Fin 4) (⟨n.val % 4096, Nat.mod_lt _ (by norm_num)⟩ : Fin 4096) h d)

/-- Whether key `k` of a row's band lies in its sequence. -/
def live (n : Fin 16384) (k : Fin 576) : Prop := 512 ≤ 64 * (n.val % 4096 / 64) + k.val

instance (n : Fin 16384) : DecidablePred (live n) := fun _ => inferInstanceAs (Decidable (_ ≤ _))

/-- The row of key `k` of a row's band. -/
def keyRow (n : Fin 16384) (k : Fin 576) : Fin 16384 := ⟨64 * (n.val / 64) + k.val - 512, by omega⟩

/-- The bias's entry for key `k` of a row's band. -/
def entry (n : Fin 16384) (k : Fin 576) : Fin 257 := ⟨min (n.val % 64 + 640 - k.val) 256, by omega⟩

/-- A score, a row's product with a key over the root of the head's width, and the bias. -/
def score (rq rk : S4x4096x16x64.Idx → ℝ) (rb : S16x257.Idx → ℝ) (n p : Fin 16384) (h : Fin 16) (o : Fin 257) : ℝ :=
  (∑ d : Fin 64, rowAt rq n h d * rowAt rk p h d) / 8 + rb (ix2 h o)

/-- The attention. -/
def target (rq rk : S4x4096x16x64.Idx → ℝ) (rb : S16x257.Idx → ℝ) (v : S4x4096x16x64.Idx → EReal) (n : Fin 16384) (h : Fin 16) (d : Fin 64) : EReal :=
  mean (live n) (fun k => score rq rk rb n (keyRow n k) h (entry n k)) (fun k => rowAt v (keyRow n k) h d)

end Cert.KernelIdeal.Att
end
-- ==== Proof.Att.KVal.lean ====
/- What the kernel leaves is the attention. -/
module

public import proofs.«01_k».proof.Proof.Att.Points
public import proofs.«01_k».proof.Proof.Att.Target

@[expose] public section
set_option maxRecDepth 65536
noncomputable section
namespace Cert.KernelIdeal.Att
open Idealize.ShloMosaic Idealize.ShloMosaic.TcCoe Idealize.ShloMosaic.Tactic Idealize.ShloMosaic.ValueIdx
open Cert.KernelIdeal.Gen Idealize.SL.Sem

variable (m : (ℓ : Loc nD τ sig) → Buf (Elt Ideal) ℓ) (c : Dev nD)

/-- The queries, the keys, the values and the bias. -/
abbrev argQ : Vec Ideal S4x4096x16x64 .f32 := m ((c : Thread nD τ).loc main_arg0)
abbrev argK : Vec Ideal S4x4096x16x64 .f32 := m ((c : Thread nD τ).loc main_arg1)
abbrev argV : Vec Ideal S4x4096x16x64 .f32 := m ((c : Thread nD τ).loc main_arg2)
abbrev argB : Vec Ideal S16x257 .f32 := m ((c : Thread nD τ).loc main_arg3)

theorem V_sections : V m c main_v13 = slabs (argQ m c) (argK m c) (argV m c) := V_slabs m c
theorem V_bias : V m c main_v20 = relRows (argB m c) := V_relRows m c

/-- The row of key `k` in reach of sub-block `i` of a point. -/
def reach (t : Fin cfg0.N) (i : Fin 4) (k : Fin 640) : Fin 16384 :=
  if h : 128 * i.val + k.val < 512 then prevRow t ⟨128 * i.val + k.val, h⟩
  else curRow t ⟨128 * i.val + k.val - 512, by omega⟩

theorem both_k (t : Fin cfg0.N) (s : Fin 8) (i : Fin 4) (k : Fin 640) (j : Fin 128) :
    both (iblk m c 1 t) (iblk m c 2 t) s (key i k) j = rowAt (argK m c) (reach t i k) (head s (half j)) (slot j) := by
  unfold both reach
  by_cases h : 128 * i.val + k.val < 512
  · rw [dif_pos (show (key i k).val < 512 from h), dif_pos h, iblk_kp, V_sections, slabs_k]
    rfl
  · rw [dif_neg (show ¬(key i k).val < 512 from h), dif_neg h, iblk_kc, V_sections, slabs_k]
    rfl

theorem both_v (t : Fin cfg0.N) (s : Fin 8) (i : Fin 4) (k : Fin 640) (j : Fin 128) :
    both (iblk m c 3 t) (iblk m c 4 t) s (key i k) j = rowAt (argV m c) (reach t i k) (head s (half j)) (slot j) := by
  unfold both reach
  by_cases h : 128 * i.val + k.val < 512
  · rw [dif_pos (show (key i k).val < 512 from h), dif_pos h, iblk_vp, V_sections, slabs_v]
    rfl
  · rw [dif_neg (show ¬(key i k).val < 512 from h), dif_neg h, iblk_vc, V_sections, slabs_v]
    rfl

/-- Lane `d` of head `e` of a pair. -/
def lane (e : Fin 2) (d : Fin 64) : Fin 128 := ⟨64 * e.val + d.val, by omega⟩

theorem half_lane (e : Fin 2) (d : Fin 64) : half (lane e d) = e := by
  apply Fin.ext
  rw [half_val]
  show (64 * e.val + d.val) / 64 = e.val
  omega

theorem slot_lane (e : Fin 2) (d : Fin 64) : slot (lane e d) = d := by
  apply Fin.ext
  show (64 * e.val + d.val) % 64 = d.val
  omega

theorem sum_lanes (e : Fin 2) (f : Fin 128 → EReal) (hf : ∀ j, half j ≠ e → f j = 0) : ∑ j, f j = ∑ d : Fin 64, f (lane e d) := by
  symm
  refine Finset.sum_of_injOn (lane e) ?_ (fun _ _ => Finset.mem_coe.2 (Finset.mem_univ _)) ?_ (fun _ _ => rfl)
  · intro a _ b _ h
    have := congrArg slot h
    rwa [slot_lane, slot_lane] at this
  · intro j _ hj
    refine hf j fun h => hj ⟨slot j, Finset.mem_coe.2 (Finset.mem_univ _), Fin.ext ?_⟩
    have := half_val j
    rw [h] at this
    show 64 * e.val + j.val % 64 = j.val
    omega

/-- Whether key `k` in reach of a row counts for it. -/
def counts (t : Fin cfg0.N) (i : Fin 4) (r : Fin 128) (k : Fin 640) : Prop :=
  (low r ≤ k.val ∧ k.val < low r + 576) ∧ (t.val % 8 = 0 → 512 ≤ 128 * i.val + k.val)

instance (t : Fin cfg0.N) (i : Fin 4) (r : Fin 128) : DecidablePred (counts t i r) := fun _ => inferInstanceAs (Decidable (_ ∧ _))

section Real
variable (rq rk : S4x4096x16x64.Idx → ℝ) (rb : S16x257.Idx → ℝ)
  (hq : ∀ i, argQ m c i = ((rq i : ℝ) : EReal)) (hk : ∀ i, argK m c i = ((rk i : ℝ) : EReal)) (hb : ∀ i, argB m c i = ((rb i : ℝ) : EReal))

include hq hk in
theorem dot_real (t : Fin cfg0.N) (s : Fin 8) (i : Fin 4) (e : Fin 2) (r : Fin 128) (k : Fin 640) :
    dotQK (iblk m c 0 t) (iblk m c 1 t) (iblk m c 2 t) s i e r k
      = (((∑ d : Fin 64, rowAt rq (curRow t (row i r)) (head s e) d * rowAt rk (reach t i k) (head s e) d) * (1 / (8 * Real.log 2)) : ℝ) : EReal) := by
  unfold dotQK
  rw [sum_lanes e _ fun j hj => by
    unfold headLane
    rw [if_neg hj, zero_mul], Finset.sum_mul, ← sum_real]
  refine Finset.sum_congr rfl fun d _ => ?_
  unfold headLane
  rw [if_pos (half_lane e d), iblk_q, V_sections, slabs_q, scaledQ_argAt, both_k, half_lane, slot_lane]
  unfold argAt rowAt
  rw [hq, hk, ← EReal.coe_mul, ← EReal.coe_mul]
  refine congrArg _ ?_
  ring

include hb in
theorem bias_real (h : Fin 16) (k : Fin 768) :
    biasAt (V m c main_v20) h k = (((rb (ix2 h (relCol k)) - rb (ix2 h (256 : Fin 257))) * (Real.log 2)⁻¹ : ℝ) : EReal) := by
  unfold biasAt
  rw [V_bias, relRows_apply, relRows_apply, show relCol 0 = 256 from rfl, hb, hb, ← EReal.coe_sub, ← EReal.coe_mul]

include hb in
theorem shifted_real (h : Fin 16) (r : Fin 128) (k : Fin 640) :
    shifted (V m c main_v20) h (ix2 r k) = if low r ≤ k.val ∧ k.val < low r + 576 then
      (((rb (ix2 h (relCol (lag r k))) - rb (ix2 h (256 : Fin 257))) * (Real.log 2)⁻¹ : ℝ) : EReal) else ⊥ := by
  rw [shifted_apply, bias_real m c rb hb]

theorem relCol_middle (r : Fin 128) (k : Fin 640) (h : 128 ≤ k.val ∧ k.val < 384) : relCol (lag r k) = 256 := by
  have e : (lag r k).val = k.val - r.val := by
    unfold lag
    rw [dif_pos (by omega)]
  unfold relCol
  rw [dif_neg (by omega)]

include hq hk hb in
theorem score_real (t : Fin cfg0.N) (s : Fin 8) (i : Fin 4) (e : Fin 2) (r : Fin 128) (k : Fin 640) :
    scores m c t s i (ix3 e r k) = if counts t i r k then
      (((score rq rk rb (curRow t (row i r)) (reach t i k) (head s e) (relCol (lag r k)) - rb (ix2 (head s e) (256 : Fin 257))) * (Real.log 2)⁻¹ : ℝ) : EReal)
      else ⊥ := by
  have hl : Real.log 2 ≠ 0 := (Real.log_pos one_lt_two).ne'
  have key : ∀ (A B C : ℝ), A * (1 / (8 * Real.log 2)) + (B - C) * (Real.log 2)⁻¹ = (A / 8 + B - C) * (Real.log 2)⁻¹ := fun A B C => by
    field_simp
    ring
  unfold scores score
  by_cases ht : t.val % 8 = 0
  · rw [if_pos ht, scoresFull_apply, dot_real m c rq rk hq hk]
    have e1 : theTable m c (ix4 i.succ (head s e) r k) = if 512 ≤ 128 * i.val + k.val then shifted (V m c main_v20) (head s e) (ix2 r k) else ⊥ :=
      (table_apply _ _ _ _ _).trans (started_apply _ _ _ _ _)
    rw [e1, shifted_real m c rb hb]
    by_cases h1 : 512 ≤ 128 * i.val + k.val
    · by_cases h2 : low r ≤ k.val ∧ k.val < low r + 576
      · rw [if_pos h1, if_pos h2, if_pos (show counts t i r k from ⟨h2, fun _ => h1⟩), ← EReal.coe_add, key]
      · rw [if_pos h1, if_neg h2, if_neg fun h : counts t i r k => h2 h.1, EReal.add_bot]
    · rw [if_neg h1, if_neg fun h : counts t i r k => h1 (h.2 ht), EReal.add_bot]
  · rw [if_neg ht, scoresEnds_apply, dot_real m c rq rk hq hk]
    have e1 : theTable m c (ix4 0 (head s e) r k) = shifted (V m c main_v20) (head s e) (ix2 r k) := table_apply _ _ _ _ _
    rw [e1, shifted_real m c rb hb]
    by_cases h3 : 128 ≤ k.val ∧ k.val < 384
    · have : low r ≤ 64 := by unfold low; omega
      rw [if_pos h3, if_pos (show counts t i r k from ⟨⟨by omega, by omega⟩, fun h => absurd h ht⟩), relCol_middle r k h3, ← key, sub_self, zero_mul, add_zero]
    · by_cases h2 : low r ≤ k.val ∧ k.val < low r + 576
      · rw [if_neg h3, if_pos h2, if_pos (show counts t i r k from ⟨h2, fun h => absurd h ht⟩), ← EReal.coe_add, key]
      · rw [if_neg h3, if_neg h2, if_neg fun h : counts t i r k => h2 h.1, EReal.add_bot]

include hq hk hb in
theorem out_tile (s : Fin 8) (t : Fin cfg0.N) (i : Fin 4) (r l : Fin 128) :
    Value.G6 m c (ix3 s (curRow t (row i r)) l) = target rq rk rb (argV m c) (curRow t (row i r)) (head s (half l)) (slot l) := by
  have hN : cfg0.N = 32 := N_0
  have htN := t.isLt
  have hn : (curRow t (row i r)).val = 512 * t.val + (128 * i.val + r.val) := rfl
  have hlow : low r = 64 * (r.val / 64) := rfl
  rw [out_apply, soft2_mean (counts t i r) _ (rb (ix2 (head s (half l)) (256 : Fin 257))) _ _
    (fun k => score_real m c rq rk rb hq hk hb t s i (half l) r k)
    ⟨⟨low r + 512, by omega⟩, ⟨by show low r ≤ low r + 512; omega, by show low r + 512 < low r + 576; omega⟩,
      fun _ => by show 512 ≤ 128 * i.val + (low r + 512); omega⟩]
  unfold target
  have hreach : ∀ k : Fin 576, live (curRow t (row i r)) k → reach t i ⟨low r + k.val, by omega⟩ = keyRow (curRow t (row i r)) k := by
    intro k hv
    unfold live at hv
    rw [hn] at hv
    apply Fin.ext
    show _ = 64 * ((512 * t.val + (128 * i.val + r.val)) / 64) + k.val - 512
    unfold reach
    split
    · next h =>
      show 512 * (8 * (t.val / 8) + (t.val % 8 - 1)) + (128 * i.val + (low r + k.val)) = _
      have h : 128 * i.val + (low r + k.val) < 512 := h
      omega
    · next h =>
      show 512 * t.val + (128 * i.val + (low r + k.val) - 512) = _
      have h : ¬128 * i.val + (low r + k.val) < 512 := h
      omega
  refine mean_band (low r) (by omega) _ _ _ _ _ _ (fun k h => fun h' => h h'.1) (fun k => ?_) (fun k hv => ?_) (fun k hv => ?_)
  · unfold counts live
    rw [hn]
    constructor
    · rintro ⟨-, h⟩
      have h : t.val % 8 = 0 → 512 ≤ 128 * i.val + (low r + k.val) := h
      omega
    · intro h
      refine ⟨⟨by show low r ≤ low r + k.val; omega, by show low r + k.val < low r + 576; omega⟩, fun h' => ?_⟩
      show 512 ≤ 128 * i.val + (low r + k.val)
      omega
  · rw [hreach k hv]
    refine congrArg _ (Fin.ext ?_)
    show _ = min ((512 * t.val + (128 * i.val + r.val)) % 64 + 640 - k.val) 256
    have hlag : (lag r ⟨low r + k.val, by omega⟩).val = if r.val ≤ low r + k.val then low r + k.val - r.val else 768 - (r.val - (low r + k.val)) := by
      unfold lag
      split <;> rfl
    unfold relCol
    split at hlag <;> split <;> rename_i hx <;> rw [hlag] at hx
    · show 640 - (lag r ⟨low r + k.val, _⟩).val = _
      omega
    · show 256 = _
      omega
    · omega
    · show 256 = _
      omega
  · rw [both_v, hreach k hv]

include hq hk hb in
/-- The kernel's output, everywhere. -/
theorem out_value (s : Fin 8) (n : Fin 16384) (l : Fin 128) :
    Value.G6 m c (ix3 s n l) = target rq rk rb (argV m c) n (head s (half l)) (slot l) := by
  have hN : cfg0.N = 32 := N_0
  have h := out_tile m c rq rk rb hq hk hb s (⟨n.val / 512, by omega⟩ : Fin cfg0.N) ⟨n.val % 512 / 128, by omega⟩ ⟨n.val % 128, by omega⟩ l
  rwa [show curRow (⟨n.val / 512, by omega⟩ : Fin cfg0.N) (row ⟨n.val % 512 / 128, by omega⟩ ⟨n.val % 128, by omega⟩) = n from
    Fin.ext (by show 512 * (n.val / 512) + (128 * (n.val % 512 / 128) + n.val % 128) = n.val; omega)] at h

end Real
end Cert.KernelIdeal.Att
end
-- ==== Proof.Att.RParts.lean ====
/- The parts of the reference that no arithmetic touches: which of the table's entries a query and a key
meet at, which keys are in reach, and where the padded and windowed keys and values come from. -/
module

public import proofs.«01_k».proof.Proof.Att.Target
public import proofs.«01_k».proof.Proof.Gen.ReferenceIdeal.Read
public import Idealize.ShloMosaic.Lib.KernelVsHost
public import Idealize.ShloMosaic.Lib.Pipeline.Value

@[expose] public section
set_option maxRecDepth 65536
noncomputable section
namespace Cert.KernelIdeal.Att
open Idealize.ShloMosaic Idealize.ShloMosaic.ValueIdx
open Cert.ReferenceIdeal Cert.ReferenceIdeal.Gen Cert.ReferenceIdeal.Read

/-- The word by which the reference picks a table entry for query `a` of a chunk and key `k` of its band. -/
def entryWord (a k : Nat) : BitVec 32 :=
  Scalar.select
    (IntOp.cmpi .slt (IntOp.addi (IntOp.minsi 128#32 (IntOp.maxsi 4294967168#32
      (IntOp.subi (BitVec.ofNat 32 a) (IntOp.subi (BitVec.ofNat 32 k) 512#32)))) 128#32) 0#32)
    (IntOp.addi (IntOp.addi (IntOp.minsi 128#32 (IntOp.maxsi 4294967168#32
      (IntOp.subi (BitVec.ofNat 32 a) (IntOp.subi (BitVec.ofNat 32 k) 512#32)))) 128#32) 257#32)
    (IntOp.addi (IntOp.minsi 128#32 (IntOp.maxsi 4294967168#32
      (IntOp.subi (BitVec.ofNat 32 a) (IntOp.subi (BitVec.ofNat 32 k) 512#32)))) 128#32)

theorem entryWord_val : ∀ (a : Fin 64) (k : Fin 576),
    min (entryWord a.val k.val).toInt.toNat 256 = min (a.val + 640 - k.val) 256 := by
  decide +kernel

theorem v45_word (a : Fin 64) (k : Fin 576) (z : Fin 1) :
    val_main_v45 (F := Ideal) (ix3 a k z) = entryWord a.val k.val := by
  rw [val_main_v45_apply, val_main_v44_apply, val_main_v43_apply, val_main_v42_apply, val_main_v41_apply,
    val_main_v40_apply, val_main_v39_apply, val_main_v38_apply, val_main_v37_apply, val_main_call2_v4_apply,
    val_main_call2_v3_apply, val_main_call2_v2_apply, val_main_call2_v1_apply, val_main_call2_v0_apply,
    val_main_v36_apply, val_main_v35_apply, val_main_v34_apply, val_main_v33_apply, val_main_v32_apply,
    val_main_v31_apply, val_main_v30_apply, val_main_v29_apply, val_main_v28_apply]
  rfl

/-- The floor of `k / 64` as the reference computes it. -/
def floorWord (k : Nat) : BitVec 32 :=
  Scalar.select
    (IntOp.andi (IntOp.cmpi .ne
        (if BitVec.ofNat 32 k = 0 then (0 : BitVec 32) else if (BitVec.ofNat 32 k).msb then -1 else 1)
        (if (64#32 : BitVec 32) = 0 then (0 : BitVec 32) else if (64#32 : BitVec 32).msb then -1 else 1))
      (IntOp.cmpi .ne (IntOp.remsi .host (BitVec.ofNat 32 k) 64#32) 0#32))
    (IntOp.subi (IntOp.divsi .host (BitVec.ofNat 32 k) 64#32) 1#32)
    (IntOp.divsi .host (BitVec.ofNat 32 k) 64#32)

theorem floorWord_val : ∀ k : Fin 576, floorWord k.val = BitVec.ofNat 32 (k.val / 64) := by
  decide +kernel

theorem reach_word : ∀ (c : Fin 64) (w : Fin 9),
    IntOp.cmpi .sge (IntOp.addi (IntOp.subi (BitVec.ofNat 32 c.val) 8#32) (BitVec.ofNat 32 w.val)) 0#32
      = if 8 ≤ c.val + w.val then 1#1 else 0#1 := by
  decide +kernel

theorem v52_floor (k : Fin 576) : val_main_v52 (F := Ideal) (ix1 k) = floorWord k.val := by
  rw [val_main_v52_apply, val_main_call3_v13_apply, val_main_call3_v12_apply, val_main_call3_v11_apply,
    val_main_call3_v10_apply, val_main_call3_v9_apply, val_main_call3_v8_apply, val_main_call3_v7_apply,
    val_main_call3_v6_apply, val_main_call3_v5_apply, val_main_call3_v2_apply, val_main_call3_v1_apply,
    val_main_call3_v0_apply, val_main_v51_apply]
  rfl

theorem v58_reach (c : Fin 64) (k : Fin 576) :
    val_main_v58 (F := Ideal) (ix2 c k) = if 512 ≤ 64 * c.val + k.val then 1#1 else 0#1 := by
  have e : val_main_v58 (F := Ideal) (ix2 c k)
      = IntOp.cmpi .sge (IntOp.addi (IntOp.subi (BitVec.ofNat 32 c.val) 8#32)
          (val_main_v52 (F := Ideal) (ix1 k))) 0#32 := by
    rw [val_main_v58_apply, val_main_v57_apply, val_main_v56_apply, val_main_v55_apply, val_main_v54_apply,
      val_main_v53_apply, val_main_v50_apply, val_main_v49_apply, val_main_v48_apply, val_main_v47_apply]
    have hi : idx_main_v53 (idx_main_v55 (ix2 c k)) = ix1 k := by
      funext a
      match a with
      | ⟨0, _⟩ => rfl
    rw [hi]
    rfl
  rw [e, v52_floor, floorWord_val]
  have hw : k.val / 64 < 9 := by have := k.isLt; omega
  rw [show k.val / 64 = (⟨k.val / 64, hw⟩ : Fin 9).val from rfl, reach_word]
  by_cases h : 512 ≤ 64 * c.val + k.val
  · rw [if_pos h, if_pos (by show 8 ≤ c.val + k.val / 64; omega)]
  · rw [if_neg h, if_neg (by show ¬ 8 ≤ c.val + k.val / 64; omega)]

/-- The table entry the reference takes for head `h`, query `a` of a chunk and key `k` of its band. -/
theorem v46_entry (x3 : S16x257.Idx → Ideal .f32) (h : Fin 16) (a : Fin 64) (k : Fin 576) :
    val_main_v46 (F := Ideal) x3 (ix3 h a k)
      = x3 (ix2 h (⟨min (a.val + 640 - k.val) 256, by omega⟩ : Fin 257)) := by
  unfold val_main_v46
  unfold Host.gather
  congr 1
  funext b
  refine Fin.ext ?_
  match b with
  | ⟨0, _⟩ =>
    show GatherDims.start _ _ _ _ + GatherDims.batchCoord _ _ _ + GatherDims.offCoord _ _ _ = h.val
    rw [GatherDims.batchCoord_eq_zero _ _ _ List.not_mem_nil]
    unfold GatherDims.start
    rw [dif_neg (show ¬(⟨0, by decide⟩ : Fin S16x257.rank) ∈ gather_S16x257_S64x576x1_S16x64x576_0_1_n_n_1_2_161.startIndexMap by decide)]
    unfold GatherDims.offCoord
    rw [dif_pos (show (⟨0, by decide⟩ : Fin S16x257.rank) ∈ gather_S16x257_S64x576x1_S16x64x576_0_1_n_n_1_2_161.sKept by decide)]
    show 0 + 0 + h.val = h.val
    omega
  | ⟨1, _⟩ =>
    show GatherDims.start _ _ _ _ + GatherDims.batchCoord _ _ _ + GatherDims.offCoord _ _ _
      = min (a.val + 640 - k.val) 256
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (⟨1, by decide⟩ : Fin S16x257.rank) ∈ gather_S16x257_S64x576x1_S16x64x576_0_1_n_n_1_2_161.startIndexMap by decide)]
    rw [← entryWord_val, ← v45_word a k 0]
    have hsi : ∀ p, gather_S16x257_S64x576x1_S16x64x576_0_1_n_n_1_2_161.siIdx (ix3 h a k) p = ix3 a k 0 := by
      intro p
      funext b
      apply Fin.ext
      match b with
      | ⟨0, _⟩ => rfl
      | ⟨1, _⟩ => rfl
      | ⟨2, _⟩ => exact Nat.lt_one_iff.mp (Fin.isLt _)
    rw [hsi]
    generalize BitVec.toInt (val_main_v45 (F := Ideal) (ix3 a k 0)) = w
    show min w.toNat (257 - 1) + 0 + 0 = min w.toNat 256
    rw [Nat.add_zero]

/-- The keys of a padded array: chunk `c` of the padded axis is chunk `c - 8` of the sequence. -/
theorem v2_real (x1 : S4x4096x16x64.Idx → Ideal .f32) (b : Fin 4) (c : Fin 72) (r : Fin 64) (h : Fin 16)
    (d : Fin 64) (hc : 8 ≤ c.val) :
    val_main_v2 (F := Ideal) x1 (ix5 b c r h d)
      = x1 (ix4 b (⟨64 * (c.val - 8) + r.val, by have := c.isLt; have := r.isLt; omega⟩ : Fin 4096) h d) := by
  unfold val_main_v2
  have hcl := c.isLt
  rw [pad_apply_of_inside _ _ _ _ _ _ _ _
    (k := ix5 b (⟨c.val - 8, by omega⟩ : Fin 64) r h d) (fun a => by
      match a with
      | ⟨0, _⟩ => show b.val = 0 + b.val * 1; omega
      | ⟨1, _⟩ => show c.val = 8 + (c.val - 8) * 1; omega
      | ⟨2, _⟩ => show r.val = 0 + r.val * 1; omega
      | ⟨3, _⟩ => show h.val = 0 + h.val * 1; omega
      | ⟨4, _⟩ => show d.val = 0 + d.val * 1; omega)]
  rw [val_main_v1_apply]
  congr 1
  have hb := b.isLt
  have hr := r.isLt
  have hh := h.isLt
  have hd := d.isLt
  funext a
  apply Fin.ext
  match a with
  | ⟨0, _⟩ => simp [idx_main_v1, ix5, ix4]; omega
  | ⟨1, _⟩ => simp [idx_main_v1, ix5, ix4]; omega
  | ⟨2, _⟩ => simp [idx_main_v1, ix5, ix4]; omega
  | ⟨3, _⟩ => simp [idx_main_v1, ix5, ix4]

theorem v4_real (x2 : S4x4096x16x64.Idx → Ideal .f32) (b : Fin 4) (c : Fin 72) (r : Fin 64) (h : Fin 16)
    (d : Fin 64) (hc : 8 ≤ c.val) :
    val_main_v4 (F := Ideal) x2 (ix5 b c r h d)
      = x2 (ix4 b (⟨64 * (c.val - 8) + r.val, by have := c.isLt; have := r.isLt; omega⟩ : Fin 4096) h d) :=
  v2_real x2 b c r h d hc

/-- The nine shifted copies of a padded array set side by side: key `k` of a band is row `k % 64` of the
chunk `k / 64` places on. -/
theorem windows (y : S4x72x64x16x64.Idx → Ideal .f32) (f : Fin 9 → S4x64x64x16x64.Idx → Ideal .f32)
    (hf : ∀ (w : Fin 9) (b : Fin 4) (c : Fin 64) (r : Fin 64) (h : Fin 16) (d : Fin 64), f w (ix5 b c r h d)
      = y (ix5 b (⟨w.val + c.val, by have := w.isLt; have := c.isLt; omega⟩ : Fin 72) r h d))
    (hcat : Shape.Concatenates (List.map Sigma.fst
      (List.ofFn fun w : Fin 9 => (⟨S4x64x64x16x64, f w⟩ : (s : Shape) × (s.Idx → Ideal .f32)))) S4x64x576x16x64 2)
    (b : Fin 4) (c : Fin 64) (k : Fin 576) (h : Fin 16) (d : Fin 64) :
    concatenate S4x64x576x16x64 2 (List.ofFn fun w : Fin 9 => ⟨S4x64x64x16x64, f w⟩) hcat (ix5 b c k h d)
      = y (ix5 b (⟨k.val / 64 + c.val, by have := k.isLt; have := c.isLt; omega⟩ : Fin 72)
          (⟨k.val % 64, by omega⟩ : Fin 64) h d) := by
  have hk := k.isLt
  rw [concatenate_ofFn_apply 2 f hcat rfl 64 rfl (ix5 b c k h d) ⟨k.val / 64, by omega⟩ rfl
    (ix5 b c (⟨k.val % 64, by omega⟩ : Fin 64) h d) rfl (fun a ha => by
      match a, ha with
      | ⟨0, _⟩, _ => rfl
      | ⟨1, _⟩, _ => rfl
      | ⟨2, _⟩, ha => exact absurd rfl ha
      | ⟨3, _⟩, _ => rfl
      | ⟨4, _⟩, _ => rfl)]
  rw [hf]

theorem v14_window (x1 : S4x4096x16x64.Idx → Ideal .f32) (b : Fin 4) (c : Fin 64) (k : Fin 576) (h : Fin 16)
    (d : Fin 64) :
    val_main_v14 (F := Ideal) x1 (ix5 b c k h d)
      = val_main_v2 (F := Ideal) x1 (ix5 b
          (⟨k.val / 64 + c.val, by have := k.isLt; have := c.isLt; omega⟩ : Fin 72)
          (⟨k.val % 64, by omega⟩ : Fin 64) h d) := by
  refine windows (val_main_v2 (F := Ideal) x1)
    (![val_main_v5 (F := Ideal) x1, val_main_v6 (F := Ideal) x1, val_main_v7 (F := Ideal) x1,
      val_main_v8 (F := Ideal) x1, val_main_v9 (F := Ideal) x1, val_main_v10 (F := Ideal) x1,
      val_main_v11 (F := Ideal) x1, val_main_v12 (F := Ideal) x1, val_main_v13 (F := Ideal) x1])
    (fun w b c r h d => ?_)
    concatenates_S4x64x64x16x64_S4x64x64x16x64_S4x64x64x16x64_S4x64x64x16x64_S4x64x64x16x64_S4x64x64x16x64_S4x64x64x16x64_S4x64x64x16x64_S4x64x64x16x64_S4x64x576x16x64_d2
    b c k h d
  have key : ∀ (i i' : S4x72x64x16x64.Idx), (∀ a, (i a).val = (i' a).val) →
      val_main_v2 (F := Ideal) x1 i = val_main_v2 (F := Ideal) x1 i' := fun i i' e =>
    congrArg _ (funext fun a => Fin.ext (e a))
  fin_cases w
  · show val_main_v5 (F := Ideal) x1 (ix5 b c r h d) = _
    rw [val_main_v5_apply]
    refine key _ _ fun a => ?_
    fin_cases a <;> first | rfl | (show c.val = 0 + c.val; omega)
  · show val_main_v6 (F := Ideal) x1 (ix5 b c r h d) = _
    rw [val_main_v6_apply]
    exact key _ _ fun a => by fin_cases a <;> rfl
  · show val_main_v7 (F := Ideal) x1 (ix5 b c r h d) = _
    rw [val_main_v7_apply]
    exact key _ _ fun a => by fin_cases a <;> rfl
  · show val_main_v8 (F := Ideal) x1 (ix5 b c r h d) = _
    rw [val_main_v8_apply]
    exact key _ _ fun a => by fin_cases a <;> rfl
  · show val_main_v9 (F := Ideal) x1 (ix5 b c r h d) = _
    rw [val_main_v9_apply]
    exact key _ _ fun a => by fin_cases a <;> rfl
  · show val_main_v10 (F := Ideal) x1 (ix5 b c r h d) = _
    rw [val_main_v10_apply]
    exact key _ _ fun a => by fin_cases a <;> rfl
  · show val_main_v11 (F := Ideal) x1 (ix5 b c r h d) = _
    rw [val_main_v11_apply]
    exact key _ _ fun a => by fin_cases a <;> rfl
  · show val_main_v12 (F := Ideal) x1 (ix5 b c r h d) = _
    rw [val_main_v12_apply]
    exact key _ _ fun a => by fin_cases a <;> rfl
  · show val_main_v13 (F := Ideal) x1 (ix5 b c r h d) = _
    rw [val_main_v13_apply]
    exact key _ _ fun a => by fin_cases a <;> rfl

theorem v24_window (x2 : S4x4096x16x64.Idx → Ideal .f32) (b : Fin 4) (c : Fin 64) (k : Fin 576) (h : Fin 16)
    (d : Fin 64) :
    val_main_v24 (F := Ideal) x2 (ix5 b c k h d)
      = val_main_v4 (F := Ideal) x2 (ix5 b
          (⟨k.val / 64 + c.val, by have := k.isLt; have := c.isLt; omega⟩ : Fin 72)
          (⟨k.val % 64, by omega⟩ : Fin 64) h d) :=
  v14_window x2 b c k h d

end Cert.KernelIdeal.Att
-- ==== Proof.Att.RVal.lean ====
/- What the reference computes is the attention. -/
module

public import proofs.«01_k».proof.Proof.Att.RParts
public import proofs.«01_k».proof.Proof.Att.Host

@[expose] public section
set_option maxRecDepth 65536
noncomputable section
namespace Cert.KernelIdeal.Att
open Idealize.ShloMosaic Idealize.ShloMosaic.ValueIdx
open Cert.ReferenceIdeal Cert.ReferenceIdeal.Gen Cert.ReferenceIdeal.Read

/-- The row of a batch, a chunk and a place in the chunk. -/
def rowOf (b : Fin 4) (c r : Fin 64) : Fin 16384 := ⟨4096 * b.val + 64 * c.val + r.val, by omega⟩

/-- A row in batch, chunk and place. -/
theorem rowAt_rowOf {α : Type} (x : S4x4096x16x64.Idx → α) (b : Fin 4) (c r : Fin 64) (h : Fin 16) (d : Fin 64)
    (i : S4x4096x16x64.Idx) (h0 : (i 0).val = b.val) (h1 : (i 1).val = 64 * c.val + r.val) (h2 : (i 2).val = h.val)
    (h3 : (i 3).val = d.val) : x i = rowAt x (rowOf b c r) h d := by
  unfold rowAt rowOf
  refine congrArg x (funext fun a => Fin.ext ?_)
  match a with
  | ⟨0, _⟩ => exact h0.trans (by show b.val = (4096 * b.val + 64 * c.val + r.val) / 4096; omega)
  | ⟨1, _⟩ => exact h1.trans (by show 64 * c.val + r.val = (4096 * b.val + 64 * c.val + r.val) % 4096; omega)
  | ⟨2, _⟩ => exact h2
  | ⟨3, _⟩ => exact h3

theorem v0_row (x0 : S4x4096x16x64.Idx → Ideal .f32) (b : Fin 4) (c r : Fin 64) (h : Fin 16) (d : Fin 64) :
    val_main_v0 (F := Ideal) x0 (ix5 b c r h d) = rowAt x0 (rowOf b c r) h d := by
  rw [val_main_v0_apply]
  refine rowAt_rowOf x0 b c r h d _ ?_ ?_ ?_ ?_ <;> simp [idx_main_v0, ix5] <;> omega

/-- A key in reach, from the windows of the padded keys. -/
theorem v14_row (x1 : S4x4096x16x64.Idx → Ideal .f32) (b : Fin 4) (c r : Fin 64) (k : Fin 576) (h : Fin 16)
    (d : Fin 64) (hl : live (rowOf b c r) k) :
    val_main_v14 (F := Ideal) x1 (ix5 b c k h d) = rowAt x1 (keyRow (rowOf b c r) k) h d := by
  have hl' : 512 ≤ 64 * ((4096 * b.val + 64 * c.val + r.val) % 4096 / 64) + k.val := hl
  rw [v14_window, v2_real x1 _ _ _ _ _ (by show 8 ≤ k.val / 64 + c.val; omega)]
  unfold rowAt
  refine congrArg x1 (funext fun a => Fin.ext ?_)
  match a with
  | ⟨0, _⟩ => show b.val = (64 * ((4096 * b.val + 64 * c.val + r.val) / 64) + k.val - 512) / 4096; omega
  | ⟨1, _⟩ => show 64 * (k.val / 64 + c.val - 8) + k.val % 64 = (64 * ((4096 * b.val + 64 * c.val + r.val) / 64) + k.val - 512) % 4096; omega
  | ⟨2, _⟩ => rfl
  | ⟨3, _⟩ => rfl

theorem v24_row (x2 : S4x4096x16x64.Idx → Ideal .f32) (b : Fin 4) (c r : Fin 64) (k : Fin 576) (h : Fin 16)
    (d : Fin 64) (hl : live (rowOf b c r) k) :
    val_main_v24 (F := Ideal) x2 (ix5 b c k h d) = rowAt x2 (keyRow (rowOf b c r) k) h d :=
  v14_row x2 b c r k h d hl

/-- The bias at a query and a key. -/
theorem v61_entry (x3 : S16x257.Idx → Ideal .f32) (b : Fin 4) (h : Fin 16) (c r : Fin 64) (k : Fin 576) :
    val_main_v61 (F := Ideal) x3 (ix5 b h c r k) = x3 (ix2 h (entry (rowOf b c r) k)) := by
  have e : val_main_v61 (F := Ideal) x3 (ix5 b h c r k) = val_main_v46 (F := Ideal) x3 (ix3 h r k) := by
    rw [val_main_v61_apply, val_main_v60_apply, val_main_v59_apply]
    refine congrArg _ (funext fun a => ?_)
    match a with
    | ⟨0, _⟩ => rfl
    | ⟨1, _⟩ => rfl
    | ⟨2, _⟩ => rfl
  rw [e, v46_entry]
  unfold entry rowOf
  refine congrArg x3 (congrArg (ix2 h) (Fin.ext ?_))
  show min (r.val + 640 - k.val) 256 = min ((4096 * b.val + 64 * c.val + r.val) % 64 + 640 - k.val) 256
  omega

theorem mask_word (b : Fin 4) (h : Fin 16) (c r : Fin 64) (k : Fin 576) :
    val_main_call4_v1 (F := Ideal) (ix5 b h c r k) = if live (rowOf b c r) k then 1#1 else 0#1 := by
  have e : val_main_call4_v1 (F := Ideal) (ix5 b h c r k) = val_main_v58 (F := Ideal) (ix2 c k) := by
    rw [val_main_call4_v1_apply, val_main_v63_apply]
    refine congrArg _ (funext fun a => ?_)
    match a with
    | ⟨0, _⟩ => rfl
    | ⟨1, _⟩ => rfl
  rw [e, v58_reach]
  have hv : (4096 * b.val + 64 * c.val + r.val) % 4096 / 64 = c.val := by omega
  by_cases hl : 512 ≤ 64 * c.val + k.val
  · rw [if_pos hl, if_pos (show live (rowOf b c r) k from by
      show 512 ≤ 64 * ((4096 * b.val + 64 * c.val + r.val) % 4096 / 64) + k.val; omega)]
  · rw [if_neg hl, if_neg (show ¬live (rowOf b c r) k from by
      show ¬512 ≤ 64 * ((4096 * b.val + 64 * c.val + r.val) % 4096 / 64) + k.val; omega)]

theorem eight_bits : (FloatOps.ofBits .f32 0x41000000#32 : Ideal .f32) = ((8 : ℝ) : EReal) := by
  show Ideal.ofBits .f32 _ = _
  simp [Ideal.ofBits, Ideal.ieee, -EReal.coe_mul]
  norm_num

theorem negInf_bits : (FloatOps.ofBits .f32 0xFF800000#32 : Ideal .f32) = (⊥ : EReal) := by
  show Ideal.ofBits .f32 _ = _
  simp [Ideal.ofBits, Ideal.ieee]

theorem nil_bits : (FloatOps.ofBits .f32 0x00000000#32 : Ideal .f32) = (0 : EReal) := by
  show Ideal.ofBits .f32 _ = _
  simp [Ideal.ofBits, Ideal.ieee]

section
variable (x0 x1 x2 : S4x4096x16x64.Idx → Ideal .f32) (x3 : S16x257.Idx → Ideal .f32)
  (rq rk : S4x4096x16x64.Idx → ℝ) (rb : S16x257.Idx → ℝ)
  (hq : ∀ i, x0 i = ((rq i : ℝ) : EReal)) (hk : ∀ i, x1 i = ((rk i : ℝ) : EReal)) (hb : ∀ i, x3 i = ((rb i : ℝ) : EReal))
include hq hk hb

/-- The masked scores. -/
theorem v64_score (b : Fin 4) (h : Fin 16) (c r : Fin 64) (k : Fin 576) :
    val_main_v64 (F := Ideal) x0 x1 x3 (ix5 b h c r k)
      = if live (rowOf b c r) k then ((score rq rk rb (rowOf b c r) (keyRow (rowOf b c r) k) h (entry (rowOf b c r) k) : ℝ) : EReal) else ⊥ := by
  rw [val_main_v64_apply, mask_word]
  by_cases hl : live (rowOf b c r) k
  · rw [if_pos hl, if_pos hl]
    show val_main_v62 (F := Ideal) x0 x1 x3 (ix5 b h c r k) = _
    rw [val_main_v62_apply, v61_entry, val_main_v27_apply, val_main_v26_apply, val_main_cst_apply, eight_bits, val_main_v25_apply]
    have hl' : ∀ d : Fin 64, lidx_main_v25 (ix5 b h c r k) d = ix5 b c r h d := fun d => funext fun a => by
      match a with
      | ⟨0, _⟩ => rfl
      | ⟨1, _⟩ => rfl
      | ⟨2, _⟩ => rfl
      | ⟨3, _⟩ => rfl
      | ⟨4, _⟩ => rfl
    have hr' : ∀ d : Fin 64, ridx_main_v25 (ix5 b h c r k) d = ix5 b c k h d := fun d => funext fun a => by
      match a with
      | ⟨0, _⟩ => rfl
      | ⟨1, _⟩ => rfl
      | ⟨2, _⟩ => rfl
      | ⟨3, _⟩ => rfl
      | ⟨4, _⟩ => rfl
    have hs : ∀ d : Fin 64, val_main_v0 (F := Ideal) x0 (lidx_main_v25 (ix5 b h c r k) d) * val_main_v14 (F := Ideal) x1 (ridx_main_v25 (ix5 b h c r k) d)
        = ((rowAt rq (rowOf b c r) h d * rowAt rk (keyRow (rowOf b c r) k) h d : ℝ) : EReal) := by
      intro d
      rw [hl', hr', v0_row, v14_row x1 b c r k h d hl, EReal.coe_mul]
      exact congrArg₂ (· * ·) (hq _) (hk _)
    rw [Finset.sum_congr rfl fun d _ => hs d, sum_real, hb]
    show Ideal.div _ _ + _ = _
    rw [Ideal.div_coe (by norm_num), ← EReal.coe_mul, ← EReal.coe_add]
    refine congrArg _ ?_
    unfold score
    ring
  · rw [if_neg hl, if_neg hl]
    show val_main_call4_v2 (F := Ideal) (ix5 b h c r k) = _
    rw [val_main_call4_v2_apply, val_main_call4_v0_apply, val_main_cst_10_apply, negInf_bits]

/-- A row's masked scores. -/
def maskedRow (b : Fin 4) (h : Fin 16) (c r : Fin 64) (k : Fin 576) : EReal :=
  val_main_v64 (F := Ideal) x0 x1 x3 (ix5 b h c r k)

omit hq hk hb in
theorem v67_max (b : Fin 4) (h : Fin 16) (c r : Fin 64) :
    val_main_v67 (F := Ideal) x0 x1 x3 (ix4 b h c r) = rowMax (maskedRow x0 x1 x3 b h c r) := by
  rw [val_main_v67_apply, val_main_v66_apply, val_main_cst_12_apply, negInf_bits]
  unfold val_main_v65
  rw [Host.reduce_eq_fold_single FloatOps.maximumf _ _ reducesTo_S4x16x64x64x576_S4x16x64x64_d4 (by decide) h_S_,
    val_main_cst_11_apply, negInf_bits]
  refine (max_eq_right bot_le).trans ?_
  unfold rowMax
  refine congrArg (fun f => Finset.univ.fold max ⊥ f) (funext fun k => ?_)
  unfold maskedRow
  refine congrArg (val_main_v64 (F := Ideal) x0 x1 x3) (funext fun a => Fin.ext ?_)
  match a with
  | ⟨0, _⟩ => rfl
  | ⟨1, _⟩ => rfl
  | ⟨2, _⟩ => rfl
  | ⟨3, _⟩ => rfl
  | ⟨4, _⟩ => rfl

omit hq hk hb in
theorem v71_exp (b : Fin 4) (h : Fin 16) (c r : Fin 64) (k : Fin 576) :
    val_main_v71 (F := Ideal) x0 x1 x3 (ix5 b h c r k)
      = Ideal.exp (maskedRow x0 x1 x3 b h c r k - rowMax (maskedRow x0 x1 x3 b h c r)) := by
  rw [← v67_max, val_main_v71_apply, val_main_v70_apply, val_main_v69_apply, val_main_v68_apply]
  have e : idx_main_v68 (idx_main_v69 (ix5 b h c r k)) = ix4 b h c r := funext fun a => by
    match a with
    | ⟨0, _⟩ => rfl
    | ⟨1, _⟩ => rfl
    | ⟨2, _⟩ => rfl
    | ⟨3, _⟩ => rfl
  rw [e, Ideal.hostUnary_exp_def]
  rfl

omit hq hk hb in
theorem v75_weight (b : Fin 4) (h : Fin 16) (c r : Fin 64) (k : Fin 576) :
    val_main_v75 (F := Ideal) x0 x1 x3 (ix5 b h c r k)
      = Ideal.div (Ideal.exp (maskedRow x0 x1 x3 b h c r k - rowMax (maskedRow x0 x1 x3 b h c r)))
          (∑ j, Ideal.exp (maskedRow x0 x1 x3 b h c r j - rowMax (maskedRow x0 x1 x3 b h c r))) := by
  rw [val_main_v75_apply, v71_exp, val_main_v74_apply, val_main_v73_apply, val_main_v72_apply, val_main_cst_13_apply, nil_bits,
    Ideal.hostDivf_def, zero_add]
  have e : ∀ j : Fin 576, idx_main_v72 (idx_main_v73 (idx_main_v74 (ix5 b h c r k))) j = ix5 b h c r j := fun j => funext fun a => by
    match a with
    | ⟨0, _⟩ => rfl
    | ⟨1, _⟩ => rfl
    | ⟨2, _⟩ => rfl
    | ⟨3, _⟩ => rfl
    | ⟨4, _⟩ => rfl
  simp only [e, v71_exp]

omit hq hk hb in
/-- A mean only sees the keys in reach. -/
theorem mean_congr {n : Nat} (P : Fin n → Prop) [DecidablePred P] (t : Fin n → ℝ) (v w : Fin n → EReal) (h : ∀ c, P c → v c = w c) :
    mean P t v = mean P t w := by
  unfold mean
  refine congrArg (· * _) (Finset.sum_congr rfl fun k _ => ?_)
  by_cases hp : P k
  · rw [h k hp]
  · unfold weight
    rw [if_neg hp, EReal.coe_zero, zero_mul, zero_mul]

theorem v76_mean (b : Fin 4) (c : Fin 64) (h : Fin 16) (d r : Fin 64) :
    val_main_v76 (F := Ideal) x0 x1 x2 x3 (ix5 b c h d r) = target rq rk rb x2 (rowOf b c r) h d := by
  rw [val_main_v76_apply]
  have hl' : ∀ k : Fin 576, lidx_main_v76 (ix5 b c h d r) k = ix5 b c k h d := fun k => funext fun a => by
    match a with
    | ⟨0, _⟩ => rfl
    | ⟨1, _⟩ => rfl
    | ⟨2, _⟩ => rfl
    | ⟨3, _⟩ => rfl
    | ⟨4, _⟩ => rfl
  have hr' : ∀ k : Fin 576, ridx_main_v76 (ix5 b c h d r) k = ix5 b h c r k := fun k => funext fun a => by
    match a with
    | ⟨0, _⟩ => rfl
    | ⟨1, _⟩ => rfl
    | ⟨2, _⟩ => rfl
    | ⟨3, _⟩ => rfl
    | ⟨4, _⟩ => rfl
  simp only [hl', hr', v75_weight]
  simp only [mul_comm (val_main_v24 (F := Ideal) x2 _)]
  refine (soft_mean (live (rowOf b c r))
    (fun k => score rq rk rb (rowOf b c r) (keyRow (rowOf b c r) k) h (entry (rowOf b c r) k))
    (maskedRow x0 x1 x3 b h c r) (fun k => val_main_v24 (F := Ideal) x2 (ix5 b c k h d))
    (fun k => v64_score x0 x1 x3 rq rk rb hq hk hb b h c r k) ⟨⟨512, by norm_num⟩, ?_⟩).trans ?_
  · show 512 ≤ 64 * ((rowOf b c r).val % 4096 / 64) + 512
    omega
  · unfold target
    exact mean_congr _ _ _ _ fun k hl => v24_row x2 b c r k h d hl

/-- What the reference leaves, as a function of the arguments. -/
theorem ref_value (s : Fin 8) (n : Fin 16384) (l : Fin 128) :
    val_main_v80 (F := Ideal) x0 x1 x2 x3 (ix3 s n l) = target rq rk rb x2 n (head s (half l)) (slot l) := by
  have hn : rowOf (⟨n.val / 4096, by omega⟩ : Fin 4) (⟨n.val / 64 % 64, by omega⟩ : Fin 64) (⟨n.val % 64, by omega⟩ : Fin 64) = n :=
    Fin.ext (by show 4096 * (n.val / 4096) + 64 * (n.val / 64 % 64) + n.val % 64 = n.val; omega)
  rw [val_main_v80_apply, val_main_v79_apply, val_main_v78_apply, val_main_v77_apply]
  refine Eq.trans ?_ ((v76_mean x0 x1 x2 x3 rq rk rb hq hk hb (⟨n.val / 4096, by omega⟩ : Fin 4) (⟨n.val / 64 % 64, by omega⟩ : Fin 64)
    (head s (half l)) (slot l) (⟨n.val % 64, by omega⟩ : Fin 64)).trans (by rw [hn]))
  show val_main_v76 (F := Ideal) x0 x1 x2 x3 _ = _
  have hh := half_val l
  have hs := s.isLt
  have hl := l.isLt
  have hnn := n.isLt
  refine congrArg (val_main_v76 (F := Ideal) x0 x1 x2 x3) (funext fun a => Fin.ext ?_)
  match a with
  | ⟨0, _⟩ => show ((n.val * 8 + s.val) * 128 + l.val) / 4194304 = n.val / 4096; omega
  | ⟨1, _⟩ => show ((n.val * 8 + s.val) * 128 + l.val) / 65536 % 64 = n.val / 64 % 64; omega
  | ⟨2, _⟩ => show ((n.val * 8 + s.val) * 128 + l.val) / 64 % 16 = 2 * s.val + (half l).val; omega
  | ⟨3, _⟩ => show ((n.val * 8 + s.val) * 128 + l.val) % 64 = l.val % 64; omega
  | ⟨4, _⟩ => show ((n.val * 8 + s.val) * 128 + l.val) / 1024 % 64 = n.val % 64; omega

end

end Cert.KernelIdeal.Att
end
-- ==== Proof.Ffn.Cases.lean ====
/- The four kinds of grid point of the feed-forward call: the first step of a row block, the full tiles, the tile cut
   at the end of the weights, the last step. Which points are of which kind, and the buffers the body runs on. -/
module

public import proofs.«01_k».proof.Proof.Gen.Kernel2Ideal.Frame
public import proofs.«01_k».proof.Proof.Gen.Kernel2Ideal.Points
public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section
set_option maxRecDepth 16384
noncomputable section
namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal.Gen
variable {F : FTy → Type} [FloatOps F]
local notation "𝕄" => MT nD τ sig Unit (Elt F) ℕ (UR sig nD τ) ℕ

abbrev cond0_0 (i : grid0.Coords) : Prop := k0_cond1 i = 1#1
theorem hcond0_0 : ∀ t : Fin cfg0.N, cond0_0 (grid0.coords t) ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

abbrev cond0_1 (i : grid0.Coords) : Prop := k0_cond2 i = 1#1
theorem hcond0_1 : ∀ t : Fin cfg0.N, cond0_1 (grid0.coords t) ↔ ¬(t.val % 11 = 0 ∨ t.val % 11 = 5 ∨ t.val % 11 = 10) :=
  (by decide +kernel : ∀ t : Fin grid0.N, cond0_1 (grid0.coords t) ↔ ¬(t.val % 11 = 0 ∨ t.val % 11 = 5 ∨ t.val % 11 = 10))

abbrev cond0_2 (i : grid0.Coords) : Prop := k0_cond3 i = 1#1
theorem hcond0_2 : ∀ t : Fin cfg0.N, cond0_2 (grid0.coords t) ↔ t.val % 11 = 5 :=
  (by decide +kernel : ∀ t : Fin grid0.N, cond0_2 (grid0.coords t) ↔ t.val % 11 = 5)

abbrev cond0_3 (i : grid0.Coords) : Prop := k0_cond4 i = 1#1
theorem hcond0_3 : ∀ t : Fin cfg0.N, cond0_3 (grid0.coords t) ↔ t.val % 11 = 10 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0_3, k0_cond4, e0, e1]
    word_cmp
   : ∀ t : Fin grid0.N, cond0_3 (grid0.coords t) ↔ t.val % 11 = 10)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
def freshTab0_8 : ℕ → Bool
  | 0 => true
  | n + 1 => (0x80100200400801002004008010020040080100200400 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
theorem liveAt0_8_A : ∀ t : Fin cfg0.N, cond0_0 (grid0.coords t) → ¬cond0_1 (grid0.coords t) → ¬cond0_2 (grid0.coords t) → ¬cond0_3 (grid0.coords t) → cfg0.idle 8 (grid0.coords t) = false :=
  fun t h0 h1 h2 h3 => (by decide +kernel : ∀ t : Fin cfg0.N, conds0_A (grid0.coords t) → cfg0.idle 8 (grid0.coords t) = false) t ⟨h0, h1, h2, h3⟩
theorem liveAt0_8_B : ∀ t : Fin cfg0.N, ¬cond0_0 (grid0.coords t) → cond0_1 (grid0.coords t) → ¬cond0_2 (grid0.coords t) → ¬cond0_3 (grid0.coords t) → cfg0.idle 8 (grid0.coords t) = false :=
  fun t h0 h1 h2 h3 => (by decide +kernel : ∀ t : Fin cfg0.N, conds0_B (grid0.coords t) → cfg0.idle 8 (grid0.coords t) = false) t ⟨h0, h1, h2, h3⟩
theorem notFresh0_8_B : ∀ t : Fin cfg0.N, ¬cond0_0 (grid0.coords t) → cond0_1 (grid0.coords t) → ¬cond0_2 (grid0.coords t) → ¬cond0_3 (grid0.coords t) → cfg0.fresh 8 t.val = false :=
  fun t h0 h1 h2 h3 => (by intro t; rw [fresh0_8_eq t]; revert t; decide +kernel : ∀ t : Fin cfg0.N, conds0_B (grid0.coords t) → cfg0.fresh 8 t.val = false) t ⟨h0, h1, h2, h3⟩
theorem liveAt0_8_C : ∀ t : Fin cfg0.N, ¬cond0_0 (grid0.coords t) → ¬cond0_1 (grid0.coords t) → cond0_2 (grid0.coords t) → ¬cond0_3 (grid0.coords t) → cfg0.idle 8 (grid0.coords t) = false :=
  fun t h0 h1 h2 h3 => (by decide +kernel : ∀ t : Fin cfg0.N, conds0_C (grid0.coords t) → cfg0.idle 8 (grid0.coords t) = false) t ⟨h0, h1, h2, h3⟩
theorem notFresh0_8_C : ∀ t : Fin cfg0.N, ¬cond0_0 (grid0.coords t) → ¬cond0_1 (grid0.coords t) → cond0_2 (grid0.coords t) → ¬cond0_3 (grid0.coords t) → cfg0.fresh 8 t.val = false :=
  fun t h0 h1 h2 h3 => (by intro t; rw [fresh0_8_eq t]; revert t; decide +kernel : ∀ t : Fin cfg0.N, conds0_C (grid0.coords t) → cfg0.fresh 8 t.val = false) t ⟨h0, h1, h2, h3⟩
theorem liveAt0_8_D : ∀ t : Fin cfg0.N, ¬cond0_0 (grid0.coords t) → ¬cond0_1 (grid0.coords t) → ¬cond0_2 (grid0.coords t) → cond0_3 (grid0.coords t) → cfg0.idle 8 (grid0.coords t) = false :=
  fun t h0 h1 h2 h3 => (by decide +kernel : ∀ t : Fin cfg0.N, conds0_D (grid0.coords t) → cfg0.idle 8 (grid0.coords t) = false) t ⟨h0, h1, h2, h3⟩
theorem notFresh0_8_D : ∀ t : Fin cfg0.N, ¬cond0_0 (grid0.coords t) → ¬cond0_1 (grid0.coords t) → ¬cond0_2 (grid0.coords t) → cond0_3 (grid0.coords t) → cfg0.fresh 8 t.val = false :=
  fun t h0 h1 h2 h3 => (by intro t; rw [fresh0_8_eq t]; revert t; decide +kernel : ∀ t : Fin cfg0.N, conds0_D (grid0.coords t) → cfg0.fresh 8 t.val = false) t ⟨h0, h1, h2, h3⟩

abbrev VO0_8 : View sig .tc .vmem S1024x2048 .f32 := (Memref.whole cc0_stg8_0 : Memref sig .tc .vmem S1024x2048 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2048 .f32 := win0_8.stage (cfg0.slots t 8)
abbrev hs0_8 (t : Fin cfg0.N) : (ms0_8 t).IsWhole := hstage0_8 ((cfg0.slots t 8).cast nbuf0_8)
abbrev scM0_0 : Memref sig .tc .vmem S1024x2048 .bf16 := Memref.whole cc0_scratch0
abbrev VS0_0 : View sig .tc .vmem S1024x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Ffn

end
-- ==== Proof.Ffn.RunA.lean ====
/- The body at the first step of a row block. -/
module

public import proofs.«01_k».proof.Proof.Ffn.Cases

@[expose] public section
set_option maxRecDepth 16384
noncomputable section
namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal.Gen
variable {F : FTy → Type} [FloatOps F]
local notation "𝕄" => MT nD τ sig Unit (Elt F) ℕ (UR sig nD τ) ℕ

set_option maxHeartbeats 1000000 in
/-- What the body stores at the first step of a row block, with the proof that it runs there. -/
noncomputable def runA (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048x1024 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (hc2 : ¬cond0_2 i) (hc3 : ¬cond0_3 i)
    (x0 : Vec F S1024x2048 .f32) (x1 : Vec F S1x1x2048 .f32) (x2 : Vec F S1x1x2048 .f32) (x3 : Vec F S1x1x2048 .f32) (x4 : Vec F S1x2048 .f32) (x5 : Vec F S1x2048 .f32) (x6 : Vec F S1x2048x1024 .bf16) (x7 : Vec F S512x2048 .bf16) :
    Σ' (L8 : List (View.Piece (Elt F) S1024x2048 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_ffn_eq_skeleton]; unfold cc0_ffn_skel
    simp only [k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel2Ideal.Ffn

end
-- ==== Proof.Ffn.RunB.lean ====
/- The body at a full tile in the middle. -/
module

public import proofs.«01_k».proof.Proof.Ffn.Cases

@[expose] public section
set_option maxRecDepth 16384
noncomputable section
namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal.Gen
variable {F : FTy → Type} [FloatOps F]
local notation "𝕄" => MT nD τ sig Unit (Elt F) ℕ (UR sig nD τ) ℕ

set_option maxHeartbeats 1000000 in
/-- What the body stores at a full tile in the middle, with the proof that it runs there. -/
noncomputable def runB (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048x1024 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : cond0_1 i) (hc2 : ¬cond0_2 i) (hc3 : ¬cond0_3 i)
    (x0 : Vec F S1024x2048 .f32) (x1 : Vec F S1x1x2048 .f32) (x2 : Vec F S1x1x2048 .f32) (x3 : Vec F S1x1x2048 .f32) (x4 : Vec F S1x2048 .f32) (x5 : Vec F S1x2048 .f32) (x6 : Vec F S1x2048x1024 .bf16) (x7 : Vec F S512x2048 .bf16) (xo8 : Vec F S1024x2048 .f32) (xs0 : Vec F S1024x2048 .bf16) :
    Σ' (L8 : List (View.Piece (Elt F) S1024x2048 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, [], fun E K => ?run⟩
  case run =>
    simp only [cc0_ffn_eq_skeleton]; unfold cc0_ffn_skel
    simp only [k0_part7_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; isplitr; · ipureintro; exact harg11.read_unread _
    iexact HS0

end Cert.Kernel2Ideal.Ffn

end
-- ==== Proof.Ffn.RunC.lean ====
/- The body at the cut tile. -/
module

public import proofs.«01_k».proof.Proof.Ffn.Cases

@[expose] public section
set_option maxRecDepth 16384
noncomputable section
namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal.Gen
variable {F : FTy → Type} [FloatOps F]
local notation "𝕄" => MT nD τ sig Unit (Elt F) ℕ (UR sig nD τ) ℕ

set_option maxHeartbeats 1000000 in
/-- What the body stores at the cut tile, with the proof that it runs there. -/
noncomputable def runC (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048x1024 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : ¬cond0_1 i) (hc2 : cond0_2 i) (hc3 : ¬cond0_3 i)
    (x0 : Vec F S1024x2048 .f32) (x1 : Vec F S1x1x2048 .f32) (x2 : Vec F S1x1x2048 .f32) (x3 : Vec F S1x1x2048 .f32) (x4 : Vec F S1x2048 .f32) (x5 : Vec F S1x2048 .f32) (x6 : Vec F S1x2048x1024 .bf16) (x7 : Vec F S512x2048 .bf16) (xo8 : Vec F S1024x2048 .f32) (xs0 : Vec F S1024x2048 .bf16) :
    Σ' (L8 : List (View.Piece (Elt F) S1024x2048 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, [], fun E K => ?run⟩
  case run =>
    simp only [cc0_ffn_eq_skeleton]; unfold cc0_ffn_skel
    simp only [k0_part7_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; isplitr; · ipureintro; exact harg11.read_unread _
    iexact HS0

end Cert.Kernel2Ideal.Ffn

end
-- ==== Proof.Ffn.RunD.lean ====
/- The body at the last step of a row block. -/
module

public import proofs.«01_k».proof.Proof.Ffn.Cases

@[expose] public section
set_option maxRecDepth 16384
noncomputable section
namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal.Gen
variable {F : FTy → Type} [FloatOps F]
local notation "𝕄" => MT nD τ sig Unit (Elt F) ℕ (UR sig nD τ) ℕ

set_option maxHeartbeats 1000000 in
/-- What the body stores at the last step of a row block, with the proof that it runs there. -/
noncomputable def runD (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048x1024 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : ¬cond0_1 i) (hc2 : ¬cond0_2 i) (hc3 : cond0_3 i)
    (x0 : Vec F S1024x2048 .f32) (x1 : Vec F S1x1x2048 .f32) (x2 : Vec F S1x1x2048 .f32) (x3 : Vec F S1x1x2048 .f32) (x4 : Vec F S1x2048 .f32) (x5 : Vec F S1x2048 .f32) (x6 : Vec F S1x2048x1024 .bf16) (x7 : Vec F S512x2048 .bf16) (xo8 : Vec F S1024x2048 .f32) (xs0 : Vec F S1024x2048 .bf16) :
    Σ' (L8 : List (View.Piece (Elt F) S1024x2048 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, [], fun E K => ?run⟩
  case run =>
    simp only [cc0_ffn_eq_skeleton]; unfold cc0_ffn_skel
    simp only [k0_part7_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; isplitr; · ipureintro; exact harg11.read_unread _
    iexact HS0

end Cert.Kernel2Ideal.Ffn

end
-- ==== Proof.Ffn.Steps.lean ====
/- What the body leaves at each kind of point, as functions of the blocks it reads. -/
module

public import proofs.«01_k».proof.Proof.Ffn.RunA
public import proofs.«01_k».proof.Proof.Ffn.RunB
public import proofs.«01_k».proof.Proof.Ffn.RunC
public import proofs.«01_k».proof.Proof.Ffn.RunD
public import Idealize.ShloMosaic.Lib.WritesUnit
public import Idealize.ShloMosaic.Lib.Pipeline.Value
public import Idealize.ShloMosaic.Init
public import Idealize.ShloMosaic.Lib.ValueIdx

@[expose] public section
set_option maxRecDepth 16384
noncomputable section
namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal.Gen
open Idealize.ShloMosaic.ValueIdx (ix2)
variable {F : FTy → Type} [FloatOps F]
local notation "𝕄" => MT nD τ sig Unit (Elt F) ℕ (UR sig nD τ) ℕ

/-- The upper half of a block's rows. -/
def lo {e : EltTy} (x : Vec F S1024x2048 e) : Vec F S512x2048 e := View.ld x (Rect.unit ![0, 0] S512x2048.size inb_S1024x2048_S512x2048_0_0)
/-- The lower half of a block's rows. -/
def hi {e : EltTy} (x : Vec F S1024x2048 e) : Vec F S512x2048 e := View.ld x (Rect.unit ![512, 0] S512x2048.size inb_S1024x2048_S512x2048_512_0)
/-- A row of one number per lane, read whole. -/
def row1 (x : Vec F S1x2048 .f32) : Vec F S1x2048 .f32 := View.ld x (Rect.unit ![0, 0] S1x2048.size inb_S1x2048_S1x2048_0_0)
/-- A row of the modulation, read whole. -/
def row3 (x : Vec F S1x1x2048 .f32) : Vec F S1x1x2048 .f32 := View.ld x (Rect.unit ![0, 0, 0] S1x1x2048.size inb_S1x1x2048_S1x1x2048_0_0_0)
/-- A tile of the packed gate and up weights, read whole. -/
def gu (x : Vec F S1x2048x1024 .bf16) : Vec F S1x2048x1024 .bf16 := View.ld x (Rect.unit ![0, 0, 0] S1x2048x1024.size inb_S1x2048x1024_S1x2048x1024_0_0_0)
/-- The 768 lanes of the cut tile that hold weights. -/
def guCut (x : Vec F S1x2048x1024 .bf16) : Vec F S1x2048x768 .bf16 := View.ld x (Rect.unit ![0, 0, 0] S1x2048x768.size inb_S1x2048x1024_S1x2048x768_0_0_0)
/-- A tile of the down weights, read whole. -/
def dn (x : Vec F S512x2048 .bf16) : Vec F S512x2048 .bf16 := View.ld x (Rect.unit ![0, 0] S512x2048.size inb_S512x2048_S512x2048_0_0)
/-- The 384 rows of the cut tile that hold weights. -/
def dnCut (x : Vec F S512x2048 .bf16) : Vec F S384x2048 .bf16 := View.ld x (Rect.unit ![0, 0] S384x2048.size inb_S512x2048_S384x2048_0_0)

/-- Two halves, one above the other. -/
def stack {e : EltTy} (a b : Vec F S512x2048 e) : Vec F S1024x2048 e := fun y =>
  if h : (y (0 : Fin 2)).val < 512 then a (ix2 ⟨(y (0 : Fin 2)).val, h⟩ (y (1 : Fin 2)))
  else b (ix2 ⟨(y (0 : Fin 2)).val - 512, by have h2 : (y (0 : Fin 2)).val < 1024 := (y (0 : Fin 2)).isLt; omega⟩ (y (1 : Fin 2)))

/-- Two pieces that fill the block row half by row half. -/
abbrev two {e : EltTy} (a b : Vec F S512x2048 e) : List (View.Piece (Elt F) S1024x2048 e) :=
  [⟨Rect.unit ![512, 0] S512x2048.size inb_S1024x2048_S512x2048_512_0, b⟩, ⟨Rect.unit ![0, 0] S512x2048.size inb_S1024x2048_S512x2048_0_0, a⟩]

/-- What a buffer reads once both halves are written. -/
theorem read_two {κ : Kind} {sp : Space} {e : EltTy} (v : View sig κ sp S1024x2048 e) (f : v.ty.Contents (Elt F)) (a b : Vec F S512x2048 e) :
    v.read (Elt F) (v.writes (Elt F) f (two a b)) = stack a b := by
  funext y
  unfold stack
  have h2 : (y (0 : Fin 2)).val < 1024 := (y (0 : Fin 2)).isLt
  by_cases h : (y (0 : Fin 2)).val < 512
  · rw [dif_pos h]
    refine (View.read_writes_cons_rows_of_not_mem v f inb_S1024x2048_S512x2048_512_0 b _ y (o := 512) (W := 512) rfl rfl (.inl h)).trans ?_
    exact View.read_writes_cons_rows_of_mem v f inb_S1024x2048_S512x2048_0_0 a _ y (ix2 ⟨(y (0 : Fin 2)).val, h⟩ (y (1 : Fin 2))) (o := 0) rfl (by show _ = 0 + (y (0 : Fin 2)).val; omega) rfl
  · rw [dif_neg h]
    exact View.read_writes_cons_rows_of_mem v f inb_S1024x2048_S512x2048_512_0 b _ y (ix2 ⟨(y (0 : Fin 2)).val - 512, by omega⟩ (y (1 : Fin 2))) (o := 512) rfl
      (by show _ = 512 + ((y (0 : Fin 2)).val - 512); omega) rfl

/-- The normalised and modulated rows, as the scratch keeps them. -/
def hInit (x0 : Vec F S1024x2048 .f32) (x1 x2 : Vec F S1x1x2048 .f32) (x4 : Vec F S1x2048 .f32) : Vec F S1024x2048 .bf16 :=
  stack (k0_pay3 (lo x0) (row1 x4) (row3 x2) (row3 x1)) (k0_pay3 (hi x0) (row1 x4) (row3 x2) (row3 x1))
/-- One tile's product, of half the rows. -/
def prodA (h : Vec F S512x2048 .bf16) (x6 : Vec F S1x2048x1024 .bf16) (x7 : Vec F S512x2048 .bf16) : Vec F S512x2048 .f32 := k0_pay18 h (k0_pay8 (gu x6)) (dn x7)
/-- The running sum after the first step. -/
def stepA (x0 : Vec F S1024x2048 .f32) (x1 x2 : Vec F S1x1x2048 .f32) (x4 : Vec F S1x2048 .f32) (x6 : Vec F S1x2048x1024 .bf16) (x7 : Vec F S512x2048 .bf16) : Vec F S1024x2048 .f32 :=
  stack (prodA (k0_pay2 (lo x0) (row1 x4) (row3 x2) (row3 x1)) x6 x7) (prodA (k0_pay2 (hi x0) (row1 x4) (row3 x2) (row3 x1)) x6 x7)
/-- The running sum after a full tile. -/
def stepB (x6 : Vec F S1x2048x1024 .bf16) (x7 : Vec F S512x2048 .bf16) (acc : Vec F S1024x2048 .f32) (h : Vec F S1024x2048 .bf16) : Vec F S1024x2048 .f32 :=
  stack (k0_pay9 (lo h) (gu x6) (lo acc) (dn x7)) (k0_pay9 (hi h) (gu x6) (hi acc) (dn x7))
/-- The running sum after the cut tile. -/
def stepC (x6 : Vec F S1x2048x1024 .bf16) (x7 : Vec F S512x2048 .bf16) (acc : Vec F S1024x2048 .f32) (h : Vec F S1024x2048 .bf16) : Vec F S1024x2048 .f32 :=
  stack (k0_pay11 (lo h) (guCut x6) (lo acc) (dnCut x7)) (k0_pay11 (hi h) (guCut x6) (hi acc) (dnCut x7))
/-- The result, at the last step. -/
def stepD (x0 : Vec F S1024x2048 .f32) (x3 : Vec F S1x1x2048 .f32) (x5 : Vec F S1x2048 .f32) (x6 : Vec F S1x2048x1024 .bf16) (x7 : Vec F S512x2048 .bf16)
    (acc : Vec F S1024x2048 .f32) (h : Vec F S1024x2048 .bf16) : Vec F S1024x2048 .f32 :=
  stack (k0_pay13 (lo h) (gu x6) (lo acc) (dn x7) (lo x0) (row3 x3) (row1 x5)) (k0_pay13 (hi h) (gu x6) (hi acc) (dn x7) (hi x0) (row3 x3) (row1 x5))

section Runs
variable (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048x1024 .bf16) (harg8 : arg8.IsWhole) (arg9 : Memref sig .tc .vmem S512x2048 .bf16) (harg9 : arg9.IsWhole)
    (arg10 : Memref sig .tc .vmem S1024x2048 .f32) (harg10 : arg10.IsWhole) (arg11 : Memref sig .tc .vmem S1024x2048 .bf16) (harg11 : arg11.IsWhole)
    (x0 : Vec F S1024x2048 .f32) (x1 : Vec F S1x1x2048 .f32) (x2 : Vec F S1x1x2048 .f32) (x3 : Vec F S1x1x2048 .f32) (x4 : Vec F S1x2048 .f32) (x5 : Vec F S1x2048 .f32) (x6 : Vec F S1x2048x1024 .bf16) (x7 : Vec F S512x2048 .bf16) (xo8 : Vec F S1024x2048 .f32) (xs0 : Vec F S1024x2048 .bf16)

set_option maxHeartbeats 4000000 in
theorem piecesA (hc0 : cond0_0 i) (hc1 : ¬cond0_1 i) (hc2 : ¬cond0_2 i) (hc3 : ¬cond0_3 i) :
    (runA c i arg2 harg2 arg3 harg3 arg4 harg4 arg5 harg5 arg6 harg6 arg7 harg7 arg8 harg8 arg9 harg9 arg10 harg10 arg11 harg11 hc0 hc1 hc2 hc3 x0 x1 x2 x3 x4 x5 x6 x7).1
      = two (prodA (k0_pay2 (lo x0) (row1 x4) (row3 x2) (row3 x1)) x6 x7) (prodA (k0_pay2 (hi x0) (row1 x4) (row3 x2) (row3 x1)) x6 x7) := by
  unfold runA
  dsimp only
  sl_unfold_words
  simp only [View.readAt_eq_ld]
  rw [harg2.read_unread x0, harg3.read_unread x1, harg4.read_unread x2, harg6.read_unread x4, harg8.read_unread x6, harg9.read_unread x7]
  rfl

set_option maxHeartbeats 4000000 in
theorem piecesS (hc0 : cond0_0 i) (hc1 : ¬cond0_1 i) (hc2 : ¬cond0_2 i) (hc3 : ¬cond0_3 i) :
    (runA c i arg2 harg2 arg3 harg3 arg4 harg4 arg5 harg5 arg6 harg6 arg7 harg7 arg8 harg8 arg9 harg9 arg10 harg10 arg11 harg11 hc0 hc1 hc2 hc3 x0 x1 x2 x3 x4 x5 x6 x7).2.1
      = two (k0_pay3 (lo x0) (row1 x4) (row3 x2) (row3 x1)) (k0_pay3 (hi x0) (row1 x4) (row3 x2) (row3 x1)) := by
  unfold runA
  dsimp only
  sl_unfold_words
  simp only [View.readAt_eq_ld]
  rw [harg2.read_unread x0, harg3.read_unread x1, harg4.read_unread x2, harg6.read_unread x4]
  rfl

set_option maxHeartbeats 4000000 in
theorem piecesB (hc0 : ¬cond0_0 i) (hc1 : cond0_1 i) (hc2 : ¬cond0_2 i) (hc3 : ¬cond0_3 i) :
    (runB c i arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0).1
      = two (k0_pay9 (lo xs0) (gu x6) (lo xo8) (dn x7)) (k0_pay9 (hi xs0) (gu x6) (hi xo8) (dn x7)) := by
  unfold runB
  dsimp only
  sl_unfold_words
  simp only [View.readAt_eq_ld]
  rw [harg8.read_unread x6, harg9.read_unread x7, harg10.read_unread xo8, harg11.read_unread xs0]
  rfl

set_option maxHeartbeats 4000000 in
theorem piecesC (hc0 : ¬cond0_0 i) (hc1 : ¬cond0_1 i) (hc2 : cond0_2 i) (hc3 : ¬cond0_3 i) :
    (runC c i arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0).1
      = two (k0_pay11 (lo xs0) (guCut x6) (lo xo8) (dnCut x7)) (k0_pay11 (hi xs0) (guCut x6) (hi xo8) (dnCut x7)) := by
  unfold runC
  dsimp only
  sl_unfold_words
  simp only [View.readAt_eq_ld]
  rw [harg8.read_unread x6, harg9.read_unread x7, harg10.read_unread xo8, harg11.read_unread xs0]
  rfl

set_option maxHeartbeats 4000000 in
theorem piecesD (hc0 : ¬cond0_0 i) (hc1 : ¬cond0_1 i) (hc2 : ¬cond0_2 i) (hc3 : cond0_3 i) :
    (runD c i arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0).1
      = two (k0_pay13 (lo xs0) (gu x6) (lo xo8) (dn x7) (lo x0) (row3 x3) (row1 x5)) (k0_pay13 (hi xs0) (gu x6) (hi xo8) (dn x7) (hi x0) (row3 x3) (row1 x5)) := by
  unfold runD
  dsimp only
  sl_unfold_words
  simp only [View.readAt_eq_ld]
  rw [harg2.read_unread x0, harg5.read_unread x3, harg7.read_unread x5, harg8.read_unread x6, harg9.read_unread x7, harg10.read_unread xo8, harg11.read_unread xs0]
  rfl

end Runs

end Cert.Kernel2Ideal.Ffn

end
-- ==== Proof.Ffn.Frame.lean ====
/- The run of the feed-forward call: what each step leaves, and the frame. -/
module

public import proofs.«01_k».proof.Proof.Ffn.Steps
public import Idealize.ShloMosaic.Lib.Claim

@[expose] public section
set_option maxRecDepth 16384
noncomputable section
namespace Cert.Kernel2Ideal.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel2Ideal.Gen
variable {F : FTy → Type} [FloatOps F]
local notation "𝕄" => MT nD τ sig Unit (Elt F) ℕ (UR sig nD τ) ℕ

variable (m : (l : Loc nD τ sig) → Buf (Elt F) l) (ρ : Dev nD → PrngReg)

/-- The tile of the weights the step at point `n` takes: the row blocks go through the tiles forth and back in turn, and
    take the cut tile in the middle. -/
def tileOf (n : ℕ) : ℕ :=
  let f := if n / 11 % 2 = 0 then n % 11 else 10 - n % 11
  if f = 5 then 10 else if f < 5 then f else f - 1

theorem index7 : ∀ (t : Fin cfg0.N) (a : Fin 2), cc0_transform_7 (grid0.coords t) a = (![tileOf t.val, 0] : Fin 2 → ℕ) a :=
  (by decide +kernel : ∀ (t : Fin grid0.N) (a : Fin 2), cc0_transform_7 (grid0.coords t) a = (![tileOf t.val, 0] : Fin 2 → ℕ) a)

/-- A block that is not the cut tile lies inside the array. -/
theorem uncut7 : ∀ t : Fin cfg0.N, t.val % 11 ≠ 5 → ∀ a, (cfg0.win 7).clip (cfg0.grid.coords t) a = none :=
  (by decide +kernel : ∀ t : Fin grid0.N, t.val % 11 ≠ 5 → ∀ a : Fin 2, win0_7.clip (grid0.coords t) a = none)
/-- The cut tile has 384 rows. -/
theorem extent7 : ∀ t : Fin cfg0.N, t.val % 11 = 5 → ∀ a, (cfg0.win 7).xsize (cfg0.grid.coords t) a = (![384, 2048] : Fin 2 → ℕ) a :=
  (by decide +kernel : ∀ t : Fin grid0.N, t.val % 11 = 5 → ∀ a : Fin 2, win0_7.xsize (grid0.coords t) a = (![384, 2048] : Fin 2 → ℕ) a)

/-- The down weights' buffer at point `t`, what lies beyond the array's end being `d`. -/
def wd (c : Dev nD) (t : Fin cfg0.N) (d : Vec F S512x2048 .bf16) : Vec F S512x2048 .bf16 :=
  (cfg0.win 7).fill (cfg0.grid.coords t) d (iblk m c 7 t)
/-- The same with zeros beyond the end. -/
def wd0 (c : Dev nD) (t : Fin cfg0.N) : Vec F S512x2048 .bf16 := wd m c t (constant S512x2048 .bf16 0x0000#16)

theorem wd_full (c : Dev nD) (t : Fin cfg0.N) (h : t.val % 11 ≠ 5) (d : Vec F S512x2048 .bf16) : wd m c t d = wd0 m c t :=
  Pipeline.fill_of_clip_none (cfg := cfg0) 7 (cfg0.grid.coords t) (uncut7 t h) _ _ _

theorem wd_cut (c : Dev nD) (t : Fin cfg0.N) (h : t.val % 11 = 5) (d : Vec F S512x2048 .bf16) : dnCut (wd m c t d) = dnCut (wd0 m c t) := by
  funext y
  show wd m c t d ((Rect.unit (s := S512x2048) ![0, 0] S384x2048.size inb_S512x2048_S384x2048_0_0).idx y) = wd0 m c t ((Rect.unit (s := S512x2048) ![0, 0] S384x2048.size inb_S512x2048_S384x2048_0_0).idx y)
  have hm : (cfg0.win 7).moved (cfg0.grid.coords t) ((Rect.unit (s := S512x2048) ![0, 0] S384x2048.size inb_S512x2048_S384x2048_0_0).idx y) = true := by
    refine ((cfg0.win 7).moved_iff _ _).mpr fun a => ?_
    rw [extent7 t h a]
    match a with
    | ⟨0, _⟩ => show 0 + 1 * (y (0 : Fin 2)).val < 384; have : (y (0 : Fin 2)).val < 384 := (y (0 : Fin 2)).isLt; omega
    | ⟨1, _⟩ => show 0 + 1 * (y (1 : Fin 2)).val < 2048; have : (y (1 : Fin 2)).val < 2048 := (y (1 : Fin 2)).isLt; omega
  unfold wd0 wd Pipeline.Window.fill
  rw [dif_pos hm, dif_pos hm]

/-- The running sum and the normalised rows after point `n`. -/
def st (c : Dev nD) : (n : ℕ) → n < cfg0.N → Vec F S1024x2048 .f32 × Vec F S1024x2048 .bf16
  | 0, hn => (stepA (iblk m c 0 ⟨0, hn⟩) (iblk m c 1 ⟨0, hn⟩) (iblk m c 2 ⟨0, hn⟩) (iblk m c 4 ⟨0, hn⟩) (iblk m c 6 ⟨0, hn⟩) (wd0 m c ⟨0, hn⟩),
      hInit (iblk m c 0 ⟨0, hn⟩) (iblk m c 1 ⟨0, hn⟩) (iblk m c 2 ⟨0, hn⟩) (iblk m c 4 ⟨0, hn⟩))
  | n + 1, hn =>
    if (n + 1) % 11 = 0 then
      (stepA (iblk m c 0 ⟨n + 1, hn⟩) (iblk m c 1 ⟨n + 1, hn⟩) (iblk m c 2 ⟨n + 1, hn⟩) (iblk m c 4 ⟨n + 1, hn⟩) (iblk m c 6 ⟨n + 1, hn⟩) (wd0 m c ⟨n + 1, hn⟩),
        hInit (iblk m c 0 ⟨n + 1, hn⟩) (iblk m c 1 ⟨n + 1, hn⟩) (iblk m c 2 ⟨n + 1, hn⟩) (iblk m c 4 ⟨n + 1, hn⟩))
    else if (n + 1) % 11 = 5 then
      (stepC (iblk m c 6 ⟨n + 1, hn⟩) (wd0 m c ⟨n + 1, hn⟩) (st c n (by omega)).1 (st c n (by omega)).2, (st c n (by omega)).2)
    else if (n + 1) % 11 = 10 then
      (stepD (iblk m c 0 ⟨n + 1, hn⟩) (iblk m c 3 ⟨n + 1, hn⟩) (iblk m c 5 ⟨n + 1, hn⟩) (iblk m c 6 ⟨n + 1, hn⟩) (wd0 m c ⟨n + 1, hn⟩) (st c n (by omega)).1 (st c n (by omega)).2, (st c n (by omega)).2)
    else (stepB (iblk m c 6 ⟨n + 1, hn⟩) (wd0 m c ⟨n + 1, hn⟩) (st c n (by omega)).1 (st c n (by omega)).2, (st c n (by omega)).2)

theorem st_A (c : Dev nD) (t : Fin cfg0.N) (h0 : t.val % 11 = 0) :
    st m c t.val t.isLt = (stepA (iblk m c 0 t) (iblk m c 1 t) (iblk m c 2 t) (iblk m c 4 t) (iblk m c 6 t) (wd0 m c t),
      hInit (iblk m c 0 t) (iblk m c 1 t) (iblk m c 2 t) (iblk m c 4 t)) := by
  obtain ⟨n, hn⟩ := t
  cases n with
  | zero => rfl
  | succ n => dsimp only [st]; exact if_pos h0
theorem st_B (c : Dev nD) (t : Fin cfg0.N) (h0 : ¬t.val % 11 = 0) (h2 : ¬t.val % 11 = 5) (h3 : ¬t.val % 11 = 10) :
    st m c t.val t.isLt = (stepB (iblk m c 6 t) (wd0 m c t) (st m c (t.val - 1) (by omega)).1 (st m c (t.val - 1) (by omega)).2, (st m c (t.val - 1) (by omega)).2) := by
  obtain ⟨n, hn⟩ := t
  cases n with
  | zero => exact absurd rfl h0
  | succ n => dsimp only [st]; exact (if_neg h0).trans ((if_neg h2).trans (if_neg h3))
theorem st_C (c : Dev nD) (t : Fin cfg0.N) (h2 : t.val % 11 = 5) :
    st m c t.val t.isLt = (stepC (iblk m c 6 t) (wd0 m c t) (st m c (t.val - 1) (by omega)).1 (st m c (t.val - 1) (by omega)).2, (st m c (t.val - 1) (by omega)).2) := by
  obtain ⟨n, hn⟩ := t
  cases n with
  | zero => exact absurd h2 (show ¬ 0 % 11 = 5 by decide)
  | succ n => have h0 : ¬ (n + 1) % 11 = 0 := by have h2 : (n + 1) % 11 = 5 := h2; omega
              dsimp only [st]; exact (if_neg h0).trans (if_pos h2)
theorem st_D (c : Dev nD) (t : Fin cfg0.N) (h3 : t.val % 11 = 10) :
    st m c t.val t.isLt = (stepD (iblk m c 0 t) (iblk m c 3 t) (iblk m c 5 t) (iblk m c 6 t) (wd0 m c t) (st m c (t.val - 1) (by omega)).1 (st m c (t.val - 1) (by omega)).2, (st m c (t.val - 1) (by omega)).2) := by
  obtain ⟨n, hn⟩ := t
  cases n with
  | zero => exact absurd h3 (show ¬ 0 % 11 = 10 by decide)
  | succ n => have h0 : ¬ (n + 1) % 11 = 0 := by have h3 : (n + 1) % 11 = 10 := h3; omega
              have h2 : ¬ (n + 1) % 11 = 5 := by have h3 : (n + 1) % 11 = 10 := h3; omega
              dsimp only [st]; exact (if_neg h0).trans ((if_neg h2).trans (if_pos h3))

/-- What holds before point `n`, beyond the staged blocks. -/
def PhiS (c : Dev nD) : (n : ℕ) → n ≤ cfg0.N → sProp 𝕄
  | 0, _ => Pipeline.ΦA spec0 c
  | n + 1, hn => iprop(iprop(owns (c : Thread nD τ) scM0_0 fullShare ((st m c n hn).2)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((st m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((st m c (n - 1) (by omega)).2)) ∗ (∃ r, prngReg c r)) := by
  cases n with
  | zero => exact absurd rfl hz
  | succ n => rfl

/-- The arrays as the call finds them and what the body leaves in each staged block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => wd0 m c t
    | ⟨8, _⟩ => (st m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = wd0 m c t := by dsimp only [dats]
theorem after0_8 (c : Dev nD) (t : Fin cfg0.N) : (dats m 0 c).after 8 t = (st m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem blockOf7 (c : Dev nD) (t : Fin cfg0.N) : (dats m 0 c).blockOf 7 t = iblk m c 7 t := by
  unfold Dat.blockOf iblk; rw [A_eq]; try rfl
theorem cut7 (c : Dev nD) (t : Fin cfg0.N) : (cfg0.win 7).cut (cfg0.grid.coords t) ((dats m 0 c).after 7 t) = iblk m c 7 t := by
  rw [after0_7]; exact (cfg0.win 7).cut_fill _ _ _
theorem before0_7 (c : Dev nD) (t : Fin cfg0.N) (d) : (dats m 0 c).before 7 t d = wd m c t d := by
  refine ((dats m 0 c).before_in_eq_fetched 7 rfl (fun _ => rfl) ?_ (fun t => (cut7 m c t).trans (blockOf7 m c t).symm) t d).trans ?_
  · intro t t' h
    funext a
    have ha : (cfg0.win 7).index t a = (cfg0.win 7).index t' a := by rw [h]
    show Pipeline.Clip.of ((cfg0.win 7).index t a) _ _ = Pipeline.Clip.of ((cfg0.win 7).index t' a) _ _
    rw [ha]
  · unfold Dat.fetched wd; rw [blockOf7]

theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  exfalso
  by_cases h0 : t.val % 11 = 0
  · rw [liveAt0_8_A t ((hcond0_0 t).mpr h0) (fun h => (hcond0_1 t).mp h (.inl h0)) (fun h => by have := (hcond0_2 t).mp h; omega) (fun h => by have := (hcond0_3 t).mp h; omega)] at hi
    exact absurd hi Bool.false_ne_true
  · by_cases h2 : t.val % 11 = 5
    · rw [liveAt0_8_C t (fun h => by have := (hcond0_0 t).mp h; omega) (fun h => (hcond0_1 t).mp h (.inr (.inl h2))) ((hcond0_2 t).mpr h2) (fun h => by have := (hcond0_3 t).mp h; omega)] at hi
      exact absurd hi Bool.false_ne_true
    · by_cases h3 : t.val % 11 = 10
      · rw [liveAt0_8_D t (fun h => by have := (hcond0_0 t).mp h; omega) (fun h => (hcond0_1 t).mp h (.inr (.inr h3))) (fun h => by have := (hcond0_2 t).mp h; omega) ((hcond0_3 t).mpr h3)] at hi
        exact absurd hi Bool.false_ne_true
      · rw [liveAt0_8_B t (fun h => h0 ((hcond0_0 t).mp h)) ((hcond0_1 t).mpr (by omega)) (fun h => h2 ((hcond0_2 t).mp h)) (fun h => h3 ((hcond0_3 t).mp h))] at hi
        exact absurd hi Bool.false_ne_true
theorem before0_8_B (c : Dev nD) (t : Fin cfg0.N) (h0 : ¬t.val % 11 = 0) (h2 : ¬t.val % 11 = 5) (h3 : ¬t.val % 11 = 10) (d) :
    (dats m 0 c).before 8 t d = (st m c (t.val - 1) (Nat.lt_of_le_of_lt (Nat.sub_le _ _) t.isLt)).1 := by
  rw [Dat.before_out_traj _ 8 rfl (fun _ _ => rfl) (hcarry0_8 m c) t.val t rfl d,
    if_neg (by rw [notFresh0_8_B t (fun h => h0 ((hcond0_0 t).mp h)) ((hcond0_1 t).mpr (by omega)) (fun h => h2 ((hcond0_2 t).mp h)) (fun h => h3 ((hcond0_3 t).mp h))]; exact Bool.false_ne_true)]
  dsimp only [dats]
theorem before0_8_C (c : Dev nD) (t : Fin cfg0.N) (h2 : t.val % 11 = 5) (d) :
    (dats m 0 c).before 8 t d = (st m c (t.val - 1) (Nat.lt_of_le_of_lt (Nat.sub_le _ _) t.isLt)).1 := by
  rw [Dat.before_out_traj _ 8 rfl (fun _ _ => rfl) (hcarry0_8 m c) t.val t rfl d,
    if_neg (by rw [notFresh0_8_C t (fun h => by have := (hcond0_0 t).mp h; omega) (fun h => (hcond0_1 t).mp h (.inr (.inl h2))) ((hcond0_2 t).mpr h2) (fun h => by have := (hcond0_3 t).mp h; omega)]; exact Bool.false_ne_true)]
  dsimp only [dats]
theorem before0_8_D (c : Dev nD) (t : Fin cfg0.N) (h3 : t.val % 11 = 10) (d) :
    (dats m 0 c).before 8 t d = (st m c (t.val - 1) (Nat.lt_of_le_of_lt (Nat.sub_le _ _) t.isLt)).1 := by
  rw [Dat.before_out_traj _ 8 rfl (fun _ _ => rfl) (hcarry0_8 m c) t.val t rfl d,
    if_neg (by rw [notFresh0_8_D t (fun h => by have := (hcond0_0 t).mp h; omega) (fun h => (hcond0_1 t).mp h (.inr (.inr h3))) (fun h => by have := (hcond0_2 t).mp h; omega) ((hcond0_3 t).mpr h3)]; exact Bool.false_ne_true)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t)

theorem leaves0_0 (c : Dev nD) (t : Fin cfg0.N) : (dats m 0 c).leaves 0 t = owns (c : Thread nD τ) (ms0_0 t) fullShare (iblk m c 0 t) := by
  unfold Dat.leaves; rw [liveAt0_0 t, after0_0]
theorem leaves0_1 (c : Dev nD) (t : Fin cfg0.N) : (dats m 0 c).leaves 1 t = owns (c : Thread nD τ) (ms0_1 t) fullShare (iblk m c 1 t) := by
  unfold Dat.leaves; rw [liveAt0_1 t, after0_1]
theorem leaves0_2 (c : Dev nD) (t : Fin cfg0.N) : (dats m 0 c).leaves 2 t = owns (c : Thread nD τ) (ms0_2 t) fullShare (iblk m c 2 t) := by
  unfold Dat.leaves; rw [liveAt0_2 t, after0_2]
theorem leaves0_3 (c : Dev nD) (t : Fin cfg0.N) : (dats m 0 c).leaves 3 t = owns (c : Thread nD τ) (ms0_3 t) fullShare (iblk m c 3 t) := by
  unfold Dat.leaves; rw [liveAt0_3 t, after0_3]
theorem leaves0_4 (c : Dev nD) (t : Fin cfg0.N) : (dats m 0 c).leaves 4 t = owns (c : Thread nD τ) (ms0_4 t) fullShare (iblk m c 4 t) := by
  unfold Dat.leaves; rw [liveAt0_4 t, after0_4]
theorem leaves0_5 (c : Dev nD) (t : Fin cfg0.N) : (dats m 0 c).leaves 5 t = owns (c : Thread nD τ) (ms0_5 t) fullShare (iblk m c 5 t) := by
  unfold Dat.leaves; rw [liveAt0_5 t, after0_5]
theorem leaves0_6 (c : Dev nD) (t : Fin cfg0.N) : (dats m 0 c).leaves 6 t = owns (c : Thread nD τ) (ms0_6 t) fullShare (iblk m c 6 t) := by
  unfold Dat.leaves; rw [liveAt0_6 t, after0_6]
theorem leaves0_7 (c : Dev nD) (t : Fin cfg0.N) : (dats m 0 c).leaves 7 t = iprop(∃ d, owns (c : Thread nD τ) (ms0_7 t) fullShare (wd m c t d)) := by
  unfold Dat.leaves; rw [liveAt0_7 t, cut7]; rfl
theorem leaves0_8 (c : Dev nD) (t : Fin cfg0.N) : (dats m 0 c).leaves 8 t = owns (c : Thread nD τ) (ms0_8 t) fullShare ((st m c t.val t.isLt).1) := by
  unfold Dat.leaves
  rw [show cfg0.idle 8 (cfg0.grid.coords t) = false from by
    by_cases h0 : t.val % 11 = 0
    · exact liveAt0_8_A t ((hcond0_0 t).mpr h0) (fun h => (hcond0_1 t).mp h (.inl h0)) (fun h => by have := (hcond0_2 t).mp h; omega) (fun h => by have := (hcond0_3 t).mp h; omega)
    · by_cases h2 : t.val % 11 = 5
      · exact liveAt0_8_C t (fun h => by have := (hcond0_0 t).mp h; omega) (fun h => (hcond0_1 t).mp h (.inr (.inl h2))) ((hcond0_2 t).mpr h2) (fun h => by have := (hcond0_3 t).mp h; omega)
      · by_cases h3 : t.val % 11 = 10
        · exact liveAt0_8_D t (fun h => by have := (hcond0_0 t).mp h; omega) (fun h => (hcond0_1 t).mp h (.inr (.inr h3))) (fun h => by have := (hcond0_2 t).mp h; omega) ((hcond0_3 t).mpr h3)
        · exact liveAt0_8_B t (fun h => h0 ((hcond0_0 t).mp h)) ((hcond0_1 t).mpr (by omega)) (fun h => h2 ((hcond0_2 t).mp h)) (fun h => h3 ((hcond0_3 t).mp h)), after0_8]

set_option maxHeartbeats 12800000 in
theorem sound_A (c : Dev nD) (t : Fin cfg0.N) (h0 : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  by_cases hz : t.val = 0
  · rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ ((hcond0_0 t).mpr h0) (fun h => (hcond0_1 t).mp h (.inl h0)) (fun h => by have := (hcond0_2 t).mp h; omega) (fun h => by have := (hcond0_3 t).mp h; omega) (iblk m c 0 t) (iblk m c 1 t) (iblk m c 2 t) (iblk m c 3 t) (iblk m c 4 t) (iblk m c 5 t) (iblk m c 6 t) (wd m c t d7)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, ⟨%e8, H8⟩, ⟨%es0, HS0⟩⟩
    isplitl [HS0 Hg]
    · isplitl [HS0]
      · unfold owns; iexists _; isplitr
        swap; · iexact HS0
        ipureintro; rw [piecesS, read_two, st_A m c t h0]; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    unfold owns; iexists _; isplitr
    swap; · iexact H8
    ipureintro; rw [piecesA, read_two, st_A m c t h0, wd_full m c t (by omega) d7]; rfl
  · rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ ((hcond0_0 t).mpr h0) (fun h => (hcond0_1 t).mp h (.inl h0)) (fun h => by have := (hcond0_2 t).mp h; omega) (fun h => by have := (hcond0_3 t).mp h; omega) (iblk m c 0 t) (iblk m c 1 t) (iblk m c 2 t) (iblk m c 3 t) (iblk m c 4 t) (iblk m c 5 t) (iblk m c 6 t) (wd m c t d7)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexists _; iexact HS0
    iintro ⟨H0, H1, H2, H3, H4, H5, H6, H7, ⟨%e8, H8⟩, ⟨%es0, HS0⟩⟩
    isplitl [HS0 Hg]
    · isplitl [HS0]
      · unfold owns; iexists _; isplitr
        swap; · iexact HS0
        ipureintro; rw [piecesS, read_two, st_A m c t h0]; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    unfold owns; iexists _; isplitr
    swap; · iexact H8
    ipureintro; rw [piecesA, read_two, st_A m c t h0, wd_full m c t (by omega) d7]; rfl

set_option maxHeartbeats 12800000 in
theorem sound_B (c : Dev nD) (t : Fin cfg0.N) (h0 : ¬t.val % 11 = 0) (h2 : ¬t.val % 11 = 5) (h3 : ¬t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [PhiS_castSucc m c t, PhiS_pos m c _ _ (by omega)]
  simp only [before0_8_B m c t h0 h2 h3]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) _ _ _ _ _ _ _ _ _ _ _ _ _ _ _ _ _ _ _ _ (fun h => h0 ((hcond0_0 t).mp h)) ((hcond0_1 t).mpr (by omega)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (wd m c t d7) _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  iintro ⟨H0, H1, H2, H3, H4, H5, H6, H7, ⟨%e8, H8⟩, HS0⟩
  isplitl [HS0 Hg]
  · isplitl [HS0]
    · rw [st_B m c t h0 h2 h3]; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  unfold owns; iexists _; isplitr
  swap; · iexact H8
  ipureintro; rw [piecesB, read_two, st_B m c t h0 h2 h3, wd_full m c t h2 d7]; rfl

set_option maxHeartbeats 12800000 in
theorem sound_C (c : Dev nD) (t : Fin cfg0.N) (h2 : t.val % 11 = 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [PhiS_castSucc m c t, PhiS_pos m c _ _ (by omega)]
  simp only [before0_8_C m c t h2]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC c (grid0.coords t) _ _ _ _ _ _ _ _ _ _ _ _ _ _ _ _ _ _ _ _ (fun h => by have := (hcond0_0 t).mp h; omega) (fun h => (hcond0_1 t).mp h (.inr (.inl h2))) ((hcond0_2 t).mpr h2) (fun h => by have := (hcond0_3 t).mp h; omega) (iblk m c 0 t) (iblk m c 1 t) (iblk m c 2 t) (iblk m c 3 t) (iblk m c 4 t) (iblk m c 5 t) (iblk m c 6 t) (wd m c t d7) _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  iintro ⟨H0, H1, H2, H3, H4, H5, H6, H7, ⟨%e8, H8⟩, HS0⟩
  isplitl [HS0 Hg]
  · isplitl [HS0]
    · rw [st_C m c t h2]; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  unfold owns; iexists _; isplitr
  swap; · iexact H8
  ipureintro; rw [piecesC, read_two, st_C m c t h2, wd_cut m c t h2 d7]; rfl

set_option maxHeartbeats 12800000 in
theorem sound_D (c : Dev nD) (t : Fin cfg0.N) (h3 : t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [PhiS_castSucc m c t, PhiS_pos m c _ _ (by omega)]
  simp only [before0_8_D m c t h3]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runD c (grid0.coords t) _ _ _ _ _ _ _ _ _ _ _ _ _ _ _ _ _ _ _ _ (fun h => by have := (hcond0_0 t).mp h; omega) (fun h => (hcond0_1 t).mp h (.inr (.inr h3))) (fun h => by have := (hcond0_2 t).mp h; omega) ((hcond0_3 t).mpr h3) (iblk m c 0 t) (iblk m c 1 t) (iblk m c 2 t) (iblk m c 3 t) (iblk m c 4 t) (iblk m c 5 t) (iblk m c 6 t) (wd m c t d7) _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  iintro ⟨H0, H1, H2, H3, H4, H5, H6, H7, ⟨%e8, H8⟩, HS0⟩
  isplitl [HS0 Hg]
  · isplitl [HS0]
    · rw [st_D m c t h3]; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  unfold owns; iexists _; isplitr
  swap; · iexact H8
  ipureintro; rw [piecesD, read_two, st_D m c t h3, wd_full m c t (by omega) d7]; rfl

theorem sound_body (c : Dev nD) (t : Fin cfg0.N) :
    bodyPre m c t ⊢ wp frame (wpE (defs₀ (F := F)) Variants.none c none) Set.univ (bodyAt0 t) (fun _ => bodyPost m c t) := by
  by_cases h0 : t.val % 11 = 0
  · exact sound_A m c t h0
  · by_cases h2 : t.val % 11 = 5
    · exact sound_C m c t h2
    · by_cases h3 : t.val % 11 = 10
      · exact sound_D m c t h3
      · exact sound_B m c t h0 h2 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg
theorem hout (c : Dev nD) : (dats m 0 c).Φ (Fin.last cfg0.N) ⊢ Pipeline.ΦA spec0 c :=
  Phi_out m c _ (by rw [Fin.val_last]; have : cfg0.N = 176 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- From any memory with zero counters the call runs to the end, and leaves in every array what the steps say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter is zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel2Ideal.Ffn

end
-- ==== Proof.Ffn.Host.lean ====
/- What the host operations before the call leave for it: the blocks the body reads, in terms of the arguments. -/
module

public import proofs.«01_k».proof.Proof.Ffn.Frame
public import Idealize.ShloMosaic.Lib.ValueIdx
public import Idealize.ShloMosaic.Lib.ValueIdxCoords
public import Idealize.ShloMosaic.Lib.ValueLayout
public import Idealize.ShloMosaic.Lib.Pipeline.Value
public import Idealize.ShloMosaic.PureOps.Ideal.Laws

@[expose] public section
set_option maxRecDepth 65536
noncomputable section
namespace Cert.Kernel2Ideal.Ffn
open Idealize.ShloMosaic Idealize.ShloMosaic.TcCoe Idealize.ShloMosaic.Tactic Idealize.ShloMosaic.ValueIdx
open Cert.Kernel2Ideal.Gen Idealize.SL.Sem Idealize.ShloMosaic.StableHlo

variable (m : (l : Loc nD τ sig) → Buf (Elt Ideal) l) (c : Dev nD)

/-- The gate and up weights in the short format. -/
def narrow (x : Vec Ideal S2048x11008 .f32) : Vec Ideal S2048x11008 .bf16 := truncf (F := Ideal) (φ := .f32) .bf16 x bitsLt_bf16_f32
/-- A packed tile: 512 gate lanes from lane `o`, then 512 up lanes from lane `p`. -/
def tileF (x : Vec Ideal S2048x11008 .f32) (o p : ℕ) (ho : S2048x11008.Slices ![0, o] S2048x512) (hp : S2048x11008.Slices ![0, p] S2048x512) : Vec Ideal S1x2048x1024 .bf16 :=
  broadcastInDim S1x2048x1024 ![1, 2] bcast_S2048x1024_S1x2048x1024_1_2
    (concatenate S2048x1024 1 [⟨S2048x512, extractStridedSlice (s := S2048x11008) S2048x512 ![0, o] (narrow x) ho⟩,
      ⟨S2048x512, extractStridedSlice (s := S2048x11008) S2048x512 ![0, p] (narrow x) hp⟩] concatenates_S2048x512_S2048x512_S2048x1024_d1)
/-- The cut tile: 384 gate lanes, 384 up lanes, and zeros. -/
def tileCut (x : Vec Ideal S2048x11008 .f32) : Vec Ideal S1x2048x1024 .bf16 :=
  broadcastInDim S1x2048x1024 ![1, 2] bcast_S2048x1024_S1x2048x1024_1_2
    (concatenate S2048x1024 1 [⟨S2048x384, extractStridedSlice (s := S2048x11008) S2048x384 ![0, 5120] (narrow x) slices_S2048x11008_S2048x384_0_5120⟩,
      ⟨S2048x384, extractStridedSlice (s := S2048x11008) S2048x384 ![0, 10624] (narrow x) slices_S2048x11008_S2048x384_0_10624⟩,
      ⟨S2048x256, broadcastInDim S2048x256 ![] bcast_S_S2048x256 (constant (F := Ideal) S_ .bf16 0x0000#16)⟩] concatenates_S2048x384_S2048x384_S2048x256_S2048x1024_d1)

/-- Eleven tiles, one behind the other. -/
def packed (T : Fin 11 → Vec Ideal S1x2048x1024 .bf16) : Vec Ideal S11x2048x1024 .bf16 :=
  concatenate S11x2048x1024 0 [⟨S1x2048x1024, T 0⟩, ⟨S1x2048x1024, T 1⟩, ⟨S1x2048x1024, T 2⟩, ⟨S1x2048x1024, T 3⟩, ⟨S1x2048x1024, T 4⟩, ⟨S1x2048x1024, T 5⟩, ⟨S1x2048x1024, T 6⟩, ⟨S1x2048x1024, T 7⟩, ⟨S1x2048x1024, T 8⟩, ⟨S1x2048x1024, T 9⟩, ⟨S1x2048x1024, T 10⟩]
    concatenates_S1x2048x1024_S1x2048x1024_S1x2048x1024_S1x2048x1024_S1x2048x1024_S1x2048x1024_S1x2048x1024_S1x2048x1024_S1x2048x1024_S1x2048x1024_S1x2048x1024_S11x2048x1024_d0
/-- The tiles of the gate and up weights. -/
def tiles (x : Vec Ideal S2048x11008 .f32) : Fin 11 → Vec Ideal S1x2048x1024 .bf16
  | ⟨0, _⟩ => tileF x 0 5504 slices_S2048x11008_S2048x512_0_0 slices_S2048x11008_S2048x512_0_5504
  | ⟨1, _⟩ => tileF x 512 6016 slices_S2048x11008_S2048x512_0_512 slices_S2048x11008_S2048x512_0_6016
  | ⟨2, _⟩ => tileF x 1024 6528 slices_S2048x11008_S2048x512_0_1024 slices_S2048x11008_S2048x512_0_6528
  | ⟨3, _⟩ => tileF x 1536 7040 slices_S2048x11008_S2048x512_0_1536 slices_S2048x11008_S2048x512_0_7040
  | ⟨4, _⟩ => tileF x 2048 7552 slices_S2048x11008_S2048x512_0_2048 slices_S2048x11008_S2048x512_0_7552
  | ⟨5, _⟩ => tileF x 2560 8064 slices_S2048x11008_S2048x512_0_2560 slices_S2048x11008_S2048x512_0_8064
  | ⟨6, _⟩ => tileF x 3072 8576 slices_S2048x11008_S2048x512_0_3072 slices_S2048x11008_S2048x512_0_8576
  | ⟨7, _⟩ => tileF x 3584 9088 slices_S2048x11008_S2048x512_0_3584 slices_S2048x11008_S2048x512_0_9088
  | ⟨8, _⟩ => tileF x 4096 9600 slices_S2048x11008_S2048x512_0_4096 slices_S2048x11008_S2048x512_0_9600
  | ⟨9, _⟩ => tileF x 4608 10112 slices_S2048x11008_S2048x512_0_4608 slices_S2048x11008_S2048x512_0_10112
  | ⟨10, _⟩ => tileCut x

theorem packed_apply (T : Fin 11 → Vec Ideal S1x2048x1024 .bf16) (f : Fin 11) (i : Fin 2048) (j : Fin 1024) :
    packed T (ix3 f i j) = T f (ix3 (0 : Fin 1) i j) := by
  unfold packed
  match f with
  | ⟨0, h⟩ => exact concatenate_apply_piece (t := S11x2048x1024) 0 _ _ _ 0 (by simp) S1x2048x1024 _ rfl rfl 0 rfl (ix3 (0 : Fin 1) i j) (fun b => by
      match b with
      | ⟨0, _⟩ => exact fun h => absurd rfl h
      | ⟨1, _⟩ => exact fun _ => rfl
      | ⟨2, _⟩ => exact fun _ => rfl) rfl
  | ⟨1, h⟩ => exact concatenate_apply_piece (t := S11x2048x1024) 0 _ _ _ 1 (by simp) S1x2048x1024 _ rfl rfl 1 rfl (ix3 (0 : Fin 1) i j) (fun b => by
      match b with
      | ⟨0, _⟩ => exact fun h => absurd rfl h
      | ⟨1, _⟩ => exact fun _ => rfl
      | ⟨2, _⟩ => exact fun _ => rfl) rfl
  | ⟨2, h⟩ => exact concatenate_apply_piece (t := S11x2048x1024) 0 _ _ _ 2 (by simp) S1x2048x1024 _ rfl rfl 2 rfl (ix3 (0 : Fin 1) i j) (fun b => by
      match b with
      | ⟨0, _⟩ => exact fun h => absurd rfl h
      | ⟨1, _⟩ => exact fun _ => rfl
      | ⟨2, _⟩ => exact fun _ => rfl) rfl
  | ⟨3, h⟩ => exact concatenate_apply_piece (t := S11x2048x1024) 0 _ _ _ 3 (by simp) S1x2048x1024 _ rfl rfl 3 rfl (ix3 (0 : Fin 1) i j) (fun b => by
      match b with
      | ⟨0, _⟩ => exact fun h => absurd rfl h
      | ⟨1, _⟩ => exact fun _ => rfl
      | ⟨2, _⟩ => exact fun _ => rfl) rfl
  | ⟨4, h⟩ => exact concatenate_apply_piece (t := S11x2048x1024) 0 _ _ _ 4 (by simp) S1x2048x1024 _ rfl rfl 4 rfl (ix3 (0 : Fin 1) i j) (fun b => by
      match b with
      | ⟨0, _⟩ => exact fun h => absurd rfl h
      | ⟨1, _⟩ => exact fun _ => rfl
      | ⟨2, _⟩ => exact fun _ => rfl) rfl
  | ⟨5, h⟩ => exact concatenate_apply_piece (t := S11x2048x1024) 0 _ _ _ 5 (by simp) S1x2048x1024 _ rfl rfl 5 rfl (ix3 (0 : Fin 1) i j) (fun b => by
      match b with
      | ⟨0, _⟩ => exact fun h => absurd rfl h
      | ⟨1, _⟩ => exact fun _ => rfl
      | ⟨2, _⟩ => exact fun _ => rfl) rfl
  | ⟨6, h⟩ => exact concatenate_apply_piece (t := S11x2048x1024) 0 _ _ _ 6 (by simp) S1x2048x1024 _ rfl rfl 6 rfl (ix3 (0 : Fin 1) i j) (fun b => by
      match b with
      | ⟨0, _⟩ => exact fun h => absurd rfl h
      | ⟨1, _⟩ => exact fun _ => rfl
      | ⟨2, _⟩ => exact fun _ => rfl) rfl
  | ⟨7, h⟩ => exact concatenate_apply_piece (t := S11x2048x1024) 0 _ _ _ 7 (by simp) S1x2048x1024 _ rfl rfl 7 rfl (ix3 (0 : Fin 1) i j) (fun b => by
      match b with
      | ⟨0, _⟩ => exact fun h => absurd rfl h
      | ⟨1, _⟩ => exact fun _ => rfl
      | ⟨2, _⟩ => exact fun _ => rfl) rfl
  | ⟨8, h⟩ => exact concatenate_apply_piece (t := S11x2048x1024) 0 _ _ _ 8 (by simp) S1x2048x1024 _ rfl rfl 8 rfl (ix3 (0 : Fin 1) i j) (fun b => by
      match b with
      | ⟨0, _⟩ => exact fun h => absurd rfl h
      | ⟨1, _⟩ => exact fun _ => rfl
      | ⟨2, _⟩ => exact fun _ => rfl) rfl
  | ⟨9, h⟩ => exact concatenate_apply_piece (t := S11x2048x1024) 0 _ _ _ 9 (by simp) S1x2048x1024 _ rfl rfl 9 rfl (ix3 (0 : Fin 1) i j) (fun b => by
      match b with
      | ⟨0, _⟩ => exact fun h => absurd rfl h
      | ⟨1, _⟩ => exact fun _ => rfl
      | ⟨2, _⟩ => exact fun _ => rfl) rfl
  | ⟨10, h⟩ => exact concatenate_apply_piece (t := S11x2048x1024) 0 _ _ _ 10 (by simp) S1x2048x1024 _ rfl rfl 10 rfl (ix3 (0 : Fin 1) i j) (fun b => by
      match b with
      | ⟨0, _⟩ => exact fun h => absurd rfl h
      | ⟨1, _⟩ => exact fun _ => rfl
      | ⟨2, _⟩ => exact fun _ => rfl) rfl

theorem packed_congr {T : Fin 11 → Vec Ideal S1x2048x1024 .bf16} {x0 x1 x2 x3 x4 x5 x6 x7 x8 x9 x10 : Vec Ideal S1x2048x1024 .bf16} (h0 : x0 = T 0) (h1 : x1 = T 1) (h2 : x2 = T 2) (h3 : x3 = T 3) (h4 : x4 = T 4) (h5 : x5 = T 5) (h6 : x6 = T 6) (h7 : x7 = T 7) (h8 : x8 = T 8) (h9 : x9 = T 9) (h10 : x10 = T 10) :
    concatenate S11x2048x1024 0 [⟨S1x2048x1024, x0⟩, ⟨S1x2048x1024, x1⟩, ⟨S1x2048x1024, x2⟩, ⟨S1x2048x1024, x3⟩, ⟨S1x2048x1024, x4⟩, ⟨S1x2048x1024, x5⟩, ⟨S1x2048x1024, x6⟩, ⟨S1x2048x1024, x7⟩, ⟨S1x2048x1024, x8⟩, ⟨S1x2048x1024, x9⟩, ⟨S1x2048x1024, x10⟩]
      concatenates_S1x2048x1024_S1x2048x1024_S1x2048x1024_S1x2048x1024_S1x2048x1024_S1x2048x1024_S1x2048x1024_S1x2048x1024_S1x2048x1024_S1x2048x1024_S1x2048x1024_S11x2048x1024_d0 = packed T := by
  subst h0 h1 h2 h3 h4 h5 h6 h7 h8 h9 h10
  rfl

theorem two_congr {α : Type} {t s₁ s₂ : Shape} (a : Fin t.rank) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx hy
  rfl

theorem three_congr {α : Type} {t s₁ s₂ s₃ : Shape} (a : Fin t.rank) {x x' : s₁.Idx → α} {y y' : s₂.Idx → α} {z z' : s₃.Idx → α}
    (h : Shape.Concatenates [s₁, s₂, s₃] t a) (hx : x = x') (hy : y = y') (hz : z = z') :
    concatenate t a [⟨s₁, x⟩, ⟨s₂, y⟩, ⟨s₃, z⟩] h = concatenate t a [⟨s₁, x'⟩, ⟨s₂, y'⟩, ⟨s₃, z'⟩] h := by
  subst hx hy hz
  rfl

set_option maxHeartbeats 16000000 in
theorem V_gu : V m c main_v52 = packed (tiles (m ((c : Thread nD τ).loc main_arg6))) := by
  show StableHlo.after hostOps0 _ _ = _
  simp only [hostOps0]
  after_results_simp
  dsimp only [Matrix.cons_val]
  refine packed_congr ?_ ?_ ?_ ?_ ?_ ?_ ?_ ?_ ?_ ?_ ?_
  · after_results_simp
    refine congrArg (fun y : Vec Ideal S2048x1024 .bf16 => broadcastInDim S1x2048x1024 ![1, 2] bcast_S2048x1024_S1x2048x1024_1_2 y) (two_congr _ _ ?_ ?_) <;> after_results_simp <;> rfl
  · after_results_simp
    refine congrArg (fun y : Vec Ideal S2048x1024 .bf16 => broadcastInDim S1x2048x1024 ![1, 2] bcast_S2048x1024_S1x2048x1024_1_2 y) (two_congr _ _ ?_ ?_) <;> after_results_simp <;> rfl
  · after_results_simp
    refine congrArg (fun y : Vec Ideal S2048x1024 .bf16 => broadcastInDim S1x2048x1024 ![1, 2] bcast_S2048x1024_S1x2048x1024_1_2 y) (two_congr _ _ ?_ ?_) <;> after_results_simp <;> rfl
  · after_results_simp
    refine congrArg (fun y : Vec Ideal S2048x1024 .bf16 => broadcastInDim S1x2048x1024 ![1, 2] bcast_S2048x1024_S1x2048x1024_1_2 y) (two_congr _ _ ?_ ?_) <;> after_results_simp <;> rfl
  · after_results_simp
    refine congrArg (fun y : Vec Ideal S2048x1024 .bf16 => broadcastInDim S1x2048x1024 ![1, 2] bcast_S2048x1024_S1x2048x1024_1_2 y) (two_congr _ _ ?_ ?_) <;> after_results_simp <;> rfl
  · after_results_simp
    refine congrArg (fun y : Vec Ideal S2048x1024 .bf16 => broadcastInDim S1x2048x1024 ![1, 2] bcast_S2048x1024_S1x2048x1024_1_2 y) (two_congr _ _ ?_ ?_) <;> after_results_simp <;> rfl
  · after_results_simp
    refine congrArg (fun y : Vec Ideal S2048x1024 .bf16 => broadcastInDim S1x2048x1024 ![1, 2] bcast_S2048x1024_S1x2048x1024_1_2 y) (two_congr _ _ ?_ ?_) <;> after_results_simp <;> rfl
  · after_results_simp
    refine congrArg (fun y : Vec Ideal S2048x1024 .bf16 => broadcastInDim S1x2048x1024 ![1, 2] bcast_S2048x1024_S1x2048x1024_1_2 y) (two_congr _ _ ?_ ?_) <;> after_results_simp <;> rfl
  · after_results_simp
    refine congrArg (fun y : Vec Ideal S2048x1024 .bf16 => broadcastInDim S1x2048x1024 ![1, 2] bcast_S2048x1024_S1x2048x1024_1_2 y) (two_congr _ _ ?_ ?_) <;> after_results_simp <;> rfl
  · after_results_simp
    refine congrArg (fun y : Vec Ideal S2048x1024 .bf16 => broadcastInDim S1x2048x1024 ![1, 2] bcast_S2048x1024_S1x2048x1024_1_2 y) (two_congr _ _ ?_ ?_) <;> after_results_simp <;> rfl
  · after_results_simp
    dsimp only [Matrix.cons_val]
    show _ = tileCut _
    unfold tileCut
    refine congrArg (fun y : Vec Ideal S2048x1024 .bf16 => broadcastInDim S1x2048x1024 ![1, 2] bcast_S2048x1024_S1x2048x1024_1_2 y) (three_congr _ _ ?_ ?_ ?_) <;> after_results_simp <;> rfl

set_option maxHeartbeats 4000000 in
theorem V_v0 : V m c main_v0 = shapeCast S16384x2048 (m ((c : Thread nD τ).loc main_arg0)) shapeCasts_S4x4096x2048_S16384x2048 := by
  show StableHlo.after hostOps0 _ _ = _
  simp only [hostOps0]
  after_results_simp
  rfl

set_option maxHeartbeats 4000000 in
theorem V_v1 : V m c main_v1 = shapeCast S4x1x2048 (m ((c : Thread nD τ).loc main_arg1)) shapeCasts_S4x2048_S4x1x2048 := by
  show StableHlo.after hostOps0 _ _ = _
  simp only [hostOps0]
  after_results_simp
  rfl

set_option maxHeartbeats 4000000 in
theorem V_v2 : V m c main_v2 = shapeCast S4x1x2048 (m ((c : Thread nD τ).loc main_arg2)) shapeCasts_S4x2048_S4x1x2048 := by
  show StableHlo.after hostOps0 _ _ = _
  simp only [hostOps0]
  after_results_simp
  rfl

set_option maxHeartbeats 4000000 in
theorem V_v3 : V m c main_v3 = shapeCast S4x1x2048 (m ((c : Thread nD τ).loc main_arg3)) shapeCasts_S4x2048_S4x1x2048 := by
  show StableHlo.after hostOps0 _ _ = _
  simp only [hostOps0]
  after_results_simp
  rfl

set_option maxHeartbeats 4000000 in
theorem V_v4 : V m c main_v4 = shapeCast S1x2048 (m ((c : Thread nD τ).loc main_arg4)) shapeCasts_S2048_S1x2048 := by
  show StableHlo.after hostOps0 _ _ = _
  simp only [hostOps0]
  after_results_simp
  rfl

set_option maxHeartbeats 4000000 in
theorem V_v5 : V m c main_v5 = shapeCast S1x2048 (m ((c : Thread nD τ).loc main_arg5)) shapeCasts_S2048_S1x2048 := by
  show StableHlo.after hostOps0 _ _ = _
  simp only [hostOps0]
  after_results_simp
  rfl

set_option maxHeartbeats 4000000 in
theorem V_v53 : V m c main_v53 = (truncf (F := Ideal) .bf16 (φ := .f32) (m ((c : Thread nD τ).loc main_arg7)) bitsLt_bf16_f32 : Vec Ideal S5504x2048 .bf16) := by
  show StableHlo.after hostOps0 _ _ = _
  simp only [hostOps0]
  after_results_simp

theorem spread_apply (y : Vec Ideal S2048x1024 .bf16) (i : Fin 2048) (j : Fin 1024) :
    broadcastInDim S1x2048x1024 ![1, 2] bcast_S2048x1024_S1x2048x1024_1_2 y (ix3 (0 : Fin 1) i j) = y (ix2 i j) :=
  broadcastInDim_apply _ _ _ _ _ fun a => by
    match a with
    | ⟨0, _⟩ => show i.val = if (2048 : Nat) = 1 then 0 else i.val; rw [if_neg (by decide)]
    | ⟨1, _⟩ => show j.val = if (1024 : Nat) = 1 then 0 else j.val; rw [if_neg (by decide)]

theorem tileF_gate (x : Vec Ideal S2048x11008 .f32) (o p : ℕ) (ho : S2048x11008.Slices ![0, o] S2048x512) (hp : S2048x11008.Slices ![0, p] S2048x512) (i : Fin 2048) (j : Fin 512) (q : Fin 11008) (hq : q.val = o + j.val) :
    tileF x o p ho hp (ix3 (0 : Fin 1) i (⟨j.val, by omega⟩ : Fin 1024)) = x (ix2 i q) := by
  unfold tileF
  rw [spread_apply]
  refine (concatenate_apply_piece (t := S2048x1024) 1 _ _ _ 0 (by simp) S2048x512 _ rfl rfl 0 rfl (ix2 i j) (fun b => by
    match b with
    | ⟨0, _⟩ => exact fun _ => rfl
    | ⟨1, _⟩ => exact fun h => absurd rfl h) (by show 0 + j.val = j.val; omega)).trans ?_
  exact slice2_axis1_apply o _ _ _ _ q hq

theorem tileF_up (x : Vec Ideal S2048x11008 .f32) (o p : ℕ) (ho : S2048x11008.Slices ![0, o] S2048x512) (hp : S2048x11008.Slices ![0, p] S2048x512) (i : Fin 2048) (j : Fin 512) (q : Fin 11008) (hq : q.val = p + j.val) :
    tileF x o p ho hp (ix3 (0 : Fin 1) i (⟨512 + j.val, by omega⟩ : Fin 1024)) = x (ix2 i q) := by
  unfold tileF
  rw [spread_apply]
  refine (concatenate_apply_piece (t := S2048x1024) 1 _ _ _ 1 (by simp) S2048x512 _ rfl rfl 512 rfl (ix2 i j) (fun b => by
    match b with
    | ⟨0, _⟩ => exact fun _ => rfl
    | ⟨1, _⟩ => exact fun h => absurd rfl h) rfl).trans ?_
  exact slice2_axis1_apply p _ _ _ _ q hq

theorem tileCut_gate (x : Vec Ideal S2048x11008 .f32) (i : Fin 2048) (j : Fin 384) (q : Fin 11008) (hq : q.val = 5120 + j.val) :
    tileCut x (ix3 (0 : Fin 1) i (⟨j.val, by omega⟩ : Fin 1024)) = x (ix2 i q) := by
  unfold tileCut
  rw [spread_apply]
  refine (concatenate_apply_piece (t := S2048x1024) 1 _ _ _ 0 (by simp) S2048x384 _ rfl rfl 0 rfl (ix2 i j) (fun b => by
    match b with
    | ⟨0, _⟩ => exact fun _ => rfl
    | ⟨1, _⟩ => exact fun h => absurd rfl h) (by show 0 + j.val = j.val; omega)).trans ?_
  exact slice2_axis1_apply 5120 _ _ _ _ q hq

theorem tileCut_up (x : Vec Ideal S2048x11008 .f32) (i : Fin 2048) (j : Fin 384) (q : Fin 11008) (hq : q.val = 10624 + j.val) :
    tileCut x (ix3 (0 : Fin 1) i (⟨384 + j.val, by omega⟩ : Fin 1024)) = x (ix2 i q) := by
  unfold tileCut
  rw [spread_apply]
  refine (concatenate_apply_piece (t := S2048x1024) 1 _ _ _ 1 (by simp) S2048x384 _ rfl rfl 384 rfl (ix2 i j) (fun b => by
    match b with
    | ⟨0, _⟩ => exact fun _ => rfl
    | ⟨1, _⟩ => exact fun h => absurd rfl h) rfl).trans ?_
  exact slice2_axis1_apply 10624 _ _ _ _ q hq

/-- The gate lanes of a full tile are the weights' own. -/
theorem tiles_gate (x : Vec Ideal S2048x11008 .f32) (f : Fin 11) (hf : f.val ≠ 10) (i : Fin 2048) (j : Fin 512) (q : Fin 11008) (hq : q.val = 512 * f.val + j.val) :
    tiles x f (ix3 (0 : Fin 1) i (⟨j.val, by omega⟩ : Fin 1024)) = x (ix2 i q) := by
  match f with
  | ⟨0, _⟩ => exact tileF_gate x _ _ _ _ i j q hq
  | ⟨1, _⟩ => exact tileF_gate x _ _ _ _ i j q hq
  | ⟨2, _⟩ => exact tileF_gate x _ _ _ _ i j q hq
  | ⟨3, _⟩ => exact tileF_gate x _ _ _ _ i j q hq
  | ⟨4, _⟩ => exact tileF_gate x _ _ _ _ i j q hq
  | ⟨5, _⟩ => exact tileF_gate x _ _ _ _ i j q hq
  | ⟨6, _⟩ => exact tileF_gate x _ _ _ _ i j q hq
  | ⟨7, _⟩ => exact tileF_gate x _ _ _ _ i j q hq
  | ⟨8, _⟩ => exact tileF_gate x _ _ _ _ i j q hq
  | ⟨9, _⟩ => exact tileF_gate x _ _ _ _ i j q hq
  | ⟨10, _⟩ => exact absurd rfl hf

/-- The up lanes of a full tile are the weights' own. -/
theorem tiles_up (x : Vec Ideal S2048x11008 .f32) (f : Fin 11) (hf : f.val ≠ 10) (i : Fin 2048) (j : Fin 512) (q : Fin 11008) (hq : q.val = 5504 + (512 * f.val + j.val)) :
    tiles x f (ix3 (0 : Fin 1) i (⟨512 + j.val, by omega⟩ : Fin 1024)) = x (ix2 i q) := by
  match f with
  | ⟨0, _⟩ => exact tileF_up x _ _ _ _ i j q (hq.trans (by show 5504 + (512 * 0 + j.val) = 5504 + j.val; omega))
  | ⟨1, _⟩ => exact tileF_up x _ _ _ _ i j q (hq.trans (by show 5504 + (512 * 1 + j.val) = 6016 + j.val; omega))
  | ⟨2, _⟩ => exact tileF_up x _ _ _ _ i j q (hq.trans (by show 5504 + (512 * 2 + j.val) = 6528 + j.val; omega))
  | ⟨3, _⟩ => exact tileF_up x _ _ _ _ i j q (hq.trans (by show 5504 + (512 * 3 + j.val) = 7040 + j.val; omega))
  | ⟨4, _⟩ => exact tileF_up x _ _ _ _ i j q (hq.trans (by show 5504 + (512 * 4 + j.val) = 7552 + j.val; omega))
  | ⟨5, _⟩ => exact tileF_up x _ _ _ _ i j q (hq.trans (by show 5504 + (512 * 5 + j.val) = 8064 + j.val; omega))
  | ⟨6, _⟩ => exact tileF_up x _ _ _ _ i j q (hq.trans (by show 5504 + (512 * 6 + j.val) = 8576 + j.val; omega))
  | ⟨7, _⟩ => exact tileF_up x _ _ _ _ i j q (hq.trans (by show 5504 + (512 * 7 + j.val) = 9088 + j.val; omega))
  | ⟨8, _⟩ => exact tileF_up x _ _ _ _ i j q (hq.trans (by show 5504 + (512 * 8 + j.val) = 9600 + j.val; omega))
  | ⟨9, _⟩ => exact tileF_up x _ _ _ _ i j q (hq.trans (by show 5504 + (512 * 9 + j.val) = 10112 + j.val; omega))
  | ⟨10, _⟩ => exact absurd rfl hf

end Cert.Kernel2Ideal.Ffn
end
-- ==== Proof.Ffn.Math.lean ====
/- What the body computes, read entry by entry over the extended reals. -/
module

public import proofs.«01_k».proof.Proof.Ffn.Steps
public import Idealize.ShloMosaic.Lib.ValueIdx
public import Idealize.ShloMosaic.Lib.ValueIdxCoords
public import Idealize.ShloMosaic.Lib.ValueLayout
public import Idealize.ShloMosaic.Lib.MatmulPlain
public import Idealize.ShloMosaic.Lib.Pipeline.Value

@[expose] public section
set_option maxRecDepth 65536
noncomputable section
namespace Cert.Kernel2Ideal.Ffn
open Idealize.ShloMosaic Idealize.ShloMosaic.TcCoe Idealize.ShloMosaic.Tactic Idealize.ShloMosaic.ValueIdx
open Cert.Kernel2Ideal.Gen

/-- The reciprocal root mean square of a row. -/
def inv (x : Fin 2048 → EReal) : EReal :=
  Ideal.rsqrt (Ideal.div (∑ k, x k * x k) (Ideal.ofBits .f32 0x45000000#32) + Ideal.ofBits .f32 0x358637BD#32)
/-- A row, normalised and modulated. -/
def normed (x g sc sh : Fin 2048 → EReal) (k : Fin 2048) : EReal :=
  (x k * inv x) * (g k * (Ideal.ofBits .f32 0x3F800000#32 + sc k)) + sh k
/-- The product of a row with a column. -/
def dotp (h w : Fin 2048 → EReal) : EReal := ∑ k, h k * w k
/-- The gated lane. -/
def silu (g u : EReal) : EReal := (g * Ideal.logistic g) * u
/-- The result's row from the residual, the gate, the weight of the last normalisation and the feed-forward's row. -/
def outp (x gt po y : Fin 2048 → EReal) (k : Fin 2048) : EReal :=
  x k + ((Ideal.ofBits .f32 0x3F000000#32 * gt k) * po k) * (y k * inv y)

theorem sum_row (z : FVec Ideal S512x2048 .f32) (r : Fin 512) :
    multiReduction .add [1] S512 z 0x00000000#32 reduces_S512x2048_S512 (.inl rfl) rfl (ix1 r) = ∑ k : Fin 2048, z (ix2 r k) := by
  refine (Ideal.multiReduction_add_single (s := S512x2048) (t := S512) (a := 1) (φ := .f32) z _ _ _ _ _).trans ?_
  refine Finset.sum_congr rfl fun k _ => congrArg z (funext fun a => ?_)
  match a with
  | ⟨0, _⟩ => rfl
  | ⟨1, _⟩ => rfl

/-- The kernel's column of reciprocal root mean squares. -/
theorem inv_apply (x : FVec Ideal S512x2048 .f32) (r : Fin 512) (k : Fin 2048) :
    broadcastTo S512x2048 (rsqrt (addf (divf (shapeCast S512x1 (multiReduction .add [1] S512 (mulf x x) 0x00000000#32 reduces_S512x2048_S512 (.inl rfl) rfl) shapeCasts_S512_S512x1)
      (broadcast S512x1 (FloatOps.ofBits (F := Ideal) .f32 0x45000000#32))) (broadcast S512x1 (FloatOps.ofBits (F := Ideal) .f32 0x358637BD#32)))) broadcasts_S512x1_S512x2048 (ix2 r k)
      = inv fun k => x (ix2 r k) := by
  rw [broadcastTo_apply _ _ _ (ix2 r (0 : Fin 1)) fun a => by
    match a with
    | ⟨0, _⟩ => rfl
    | ⟨1, _⟩ => rfl]
  show Ideal.rsqrt ((addf _ _ : FVec Ideal S512x1 .f32) (ix2 r (0 : Fin 1))) = _
  rw [addf_apply, divf_apply, broadcast_apply, broadcast_apply]
  rw [shapeCast_apply _ _ _ (ix1 r) (by
    rw [Shape.rowMajor_val_one, Shape.rowMajor_val_two]
    show r.val = r.val * 1 + 0
    omega)]
  unfold inv
  refine congrArg (fun s => Ideal.rsqrt (Ideal.div s (Ideal.ofBits .f32 0x45000000#32) + Ideal.ofBits .f32 0x358637BD#32)) ?_
  exact sum_row _ r

theorem pay2_apply (x : Vec Ideal S512x2048 .f32) (g : Vec Ideal S1x2048 .f32) (sc sh : Vec Ideal S1x1x2048 .f32) (r : Fin 512) (k : Fin 2048) :
    k0_pay2 x g sc sh (ix2 r k)
      = normed (fun k => x (ix2 r k)) (fun k => g (ix2 (0 : Fin 1) k)) (fun k => sc (ix3 (0 : Fin 1) (0 : Fin 1) k)) (fun k => sh (ix3 (0 : Fin 1) (0 : Fin 1) k)) k := by
  unfold k0_pay2
  dsimp only
  rw [shapeCast_self, shapeCast_self]
  rw [truncf_apply, addf_apply, mulf_apply, mulf_apply, broadcastTo_1b_ab_apply, broadcastTo_1b_ab_apply, mulf_apply, addf_apply, broadcast_apply]
  rw [shapeCast_1ab_ab_apply, shapeCast_1ab_ab_apply]
  unfold normed
  rw [← inv_apply x r k]
  rfl

theorem pay3_eq (x : Vec Ideal S512x2048 .f32) (g : Vec Ideal S1x2048 .f32) (sc sh : Vec Ideal S1x1x2048 .f32) : k0_pay3 x g sc sh = k0_pay2 x g sc sh := by
  unfold k0_pay3
  dsimp only
  rw [shapeCast_self]

theorem logistic_at {s : Shape} {φ : FTy} (x : FVec Ideal s φ) (i : s.Idx) : logistic x i = Ideal.logistic (x i) := rfl

/-- A full tile's lanes. -/
theorem lanes_apply (h : Vec Ideal S512x2048 .bf16) (w : Vec Ideal S2048x1024 .bf16) (r : Fin 512) (j : Fin 1024) :
    ((matmul (φ₁ := .bf16) (φ₂ := .bf16) dot_S512x2048_S2048x1024_S512x1024_1_0_0_1_n_n none (h : FVec Ideal S512x2048 .bf16) (w : FVec Ideal S2048x1024 .bf16) (constant S512x1024 .f32 0x00000000#32) : FVec Ideal S512x1024 .f32) (ix2 r j) : EReal)
      = dotp (fun k => h (ix2 r k)) (fun k => w (ix2 k j)) := by
  refine (Ideal.matmul_plain_apply (M := 512) (K := 2048) (N := 1024) none _ _ _ r j).trans ?_
  rw [constant_apply, Ideal.ofBits_zero_f32, zero_add]
  rfl

/-- The cut tile's lanes. -/
theorem lanesCut_apply (h : Vec Ideal S512x2048 .bf16) (w : Vec Ideal S2048x768 .bf16) (r : Fin 512) (j : Fin 768) :
    ((matmul (φ₁ := .bf16) (φ₂ := .bf16) dot_S512x2048_S2048x768_S512x768_1_0_0_1_n_n none (h : FVec Ideal S512x2048 .bf16) (w : FVec Ideal S2048x768 .bf16) (constant S512x768 .f32 0x00000000#32) : FVec Ideal S512x768 .f32) (ix2 r j) : EReal)
      = dotp (fun k => h (ix2 r k)) (fun k => w (ix2 k j)) := by
  refine (Ideal.matmul_plain_apply (M := 512) (K := 2048) (N := 768) none _ _ _ r j).trans ?_
  rw [constant_apply, Ideal.ofBits_zero_f32, zero_add]
  rfl

/-- What a full tile adds to entry `k` of row `r`: the tile's lanes' sum. -/
def tileP (h : Fin 2048 → EReal) (w : Vec Ideal S1x2048x1024 .bf16) (d : Vec Ideal S512x2048 .bf16) (k : Fin 2048) : EReal :=
  ∑ j : Fin 512, silu (dotp h fun i => w (ix3 (0 : Fin 1) i (⟨j.val, by omega⟩ : Fin 1024))) (dotp h fun i => w (ix3 (0 : Fin 1) i (⟨512 + j.val, by omega⟩ : Fin 1024))) * d (ix2 j k)
/-- What the cut tile adds. -/
def tileC (h : Fin 2048 → EReal) (w : Vec Ideal S1x2048x768 .bf16) (d : Vec Ideal S384x2048 .bf16) (k : Fin 2048) : EReal :=
  ∑ j : Fin 384, silu (dotp h fun i => w (ix3 (0 : Fin 1) i (⟨j.val, by omega⟩ : Fin 768))) (dotp h fun i => w (ix3 (0 : Fin 1) i (⟨384 + j.val, by omega⟩ : Fin 768))) * d (ix2 j k)

theorem pay18_apply (h : Vec Ideal S512x2048 .bf16) (w : Vec Ideal S1x2048x1024 .bf16) (d : Vec Ideal S512x2048 .bf16) (r : Fin 512) (k : Fin 2048) :
    k0_pay18 h (k0_pay8 w) d (ix2 r k) = tileP (fun i => h (ix2 r i)) w d k := by
  unfold k0_pay18 k0_pay8
  dsimp only
  rw [shapeCast_self]
  refine (Ideal.matmul_plain_apply (M := 512) (K := 512) (N := 2048) none _ _ _ r k).trans ?_
  rw [constant_apply, Ideal.ofBits_zero_f32, zero_add]
  unfold tileP
  refine Finset.sum_congr rfl fun j _ => congrArg (· * d (ix2 j k)) ?_
  rw [truncf_apply, mulf_apply, mulf_apply]
  rw [slice2_axis1_apply 512 _ _ _ _ (⟨512 + j.val, by omega⟩ : Fin 1024) rfl]
  rw [logistic_at]
  rw [slice2_axis1_apply 0 _ _ _ _ (⟨j.val, by omega⟩ : Fin 1024) (by show j.val = 0 + j.val; omega)]
  rw [lanes_apply, lanes_apply]
  simp only [shapeCast_1ab_ab_apply]
  rfl

theorem pay9_apply (h : Vec Ideal S512x2048 .bf16) (w : Vec Ideal S1x2048x1024 .bf16) (acc : Vec Ideal S512x2048 .f32) (d : Vec Ideal S512x2048 .bf16) (r : Fin 512) (k : Fin 2048) :
    k0_pay9 h w acc d (ix2 r k) = acc (ix2 r k) + tileP (fun i => h (ix2 r i)) w d k := by
  rw [← pay18_apply]
  unfold k0_pay9 k0_pay18 k0_pay8
  rw [addf_apply, shapeCast_self, shapeCast_self]

theorem pay11_apply (h : Vec Ideal S512x2048 .bf16) (w : Vec Ideal S1x2048x768 .bf16) (acc : Vec Ideal S512x2048 .f32) (d : Vec Ideal S384x2048 .bf16) (r : Fin 512) (k : Fin 2048) :
    k0_pay11 h w acc d (ix2 r k) = acc (ix2 r k) + tileC (fun i => h (ix2 r i)) w d k := by
  unfold k0_pay11
  rw [addf_apply, shapeCast_self, shapeCast_self]
  refine congrArg (acc (ix2 r k) + ·) ?_
  refine (Ideal.matmul_plain_apply (M := 512) (K := 384) (N := 2048) none _ _ _ r k).trans ?_
  rw [constant_apply, Ideal.ofBits_zero_f32, zero_add]
  unfold tileC
  refine Finset.sum_congr rfl fun j _ => congrArg (· * d (ix2 j k)) ?_
  rw [truncf_apply, mulf_apply, mulf_apply]
  rw [slice2_axis1_apply 384 _ _ _ _ (⟨384 + j.val, by omega⟩ : Fin 768) rfl]
  rw [logistic_at]
  rw [slice2_axis1_apply 0 _ _ _ _ (⟨j.val, by omega⟩ : Fin 768) (by show j.val = 0 + j.val; omega)]
  rw [lanesCut_apply, lanesCut_apply]
  simp only [shapeCast_1ab_ab_apply]
  rfl

theorem pay13_apply (h : Vec Ideal S512x2048 .bf16) (w : Vec Ideal S1x2048x1024 .bf16) (acc : Vec Ideal S512x2048 .f32) (d : Vec Ideal S512x2048 .bf16)
    (x : Vec Ideal S512x2048 .f32) (gt : Vec Ideal S1x1x2048 .f32) (po : Vec Ideal S1x2048 .f32) (r : Fin 512) (k : Fin 2048) :
    k0_pay13 h w acc d x gt po (ix2 r k)
      = outp (fun k => x (ix2 r k)) (fun k => gt (ix3 (0 : Fin 1) (0 : Fin 1) k)) (fun k => po (ix2 (0 : Fin 1) k)) (fun k => acc (ix2 r k) + tileP (fun i => h (ix2 r i)) w d k) k := by
  have e : k0_pay13 h w acc d x gt po (ix2 r k)
      = outp (fun k => x (ix2 r k)) (fun k => gt (ix3 (0 : Fin 1) (0 : Fin 1) k)) (fun k => po (ix2 (0 : Fin 1) k)) (fun k => k0_pay9 h w acc d (ix2 r k)) k := by
    unfold k0_pay13
    dsimp only
    rw [addf_apply, mulf_apply, broadcastTo_1b_ab_apply, mulf_apply, mulf_apply, mulf_apply, broadcast_apply]
    rw [shapeCast_1ab_ab_apply, inv_apply]
    unfold outp k0_pay9
    dsimp only
    simp only [shapeCast_self]
    rfl
  rw [e]
  simp only [pay9_apply]

end Cert.Kernel2Ideal.Ffn
end
-- ==== Proof.Ffn.Spec.lean ====
/- The feed-forward's result, row by row, and its sum over the hidden lanes cut into the tiles the kernel takes. -/
module

public import proofs.«01_k».proof.Proof.Ffn.Math
public import Idealize.ShloMosaic.Lib.Pipeline.ValueKit.Tiles

@[expose] public section
set_option maxRecDepth 65536
noncomputable section
namespace Cert.Kernel2Ideal.Ffn
open Idealize.ShloMosaic Idealize.ShloMosaic.ValueIdx
open Cert.Kernel2Ideal.Gen

variable (x0 : Vec Ideal S4x4096x2048 .f32) (x1 x2 x3 : Vec Ideal S4x2048 .f32) (x4 x5 : Vec Ideal S2048 .f32)
  (x6 : Vec Ideal S2048x11008 .f32) (x7 : Vec Ideal S5504x2048 .f32)

/-- The sequence a row belongs to. -/
def bat (n : Fin 16384) : Fin 4 := ⟨n.val / 4096, by omega⟩
/-- Its place there. -/
def pos (n : Fin 16384) : Fin 4096 := ⟨n.val % 4096, Nat.mod_lt _ (by norm_num)⟩
def rowX (n : Fin 16384) (k : Fin 2048) : EReal := x0 (ix3 (bat n) (pos n) k)
/-- The row, normalised and modulated. -/
def rowH (n : Fin 16384) : Fin 2048 → EReal :=
  normed (rowX x0 n) (fun k => x4 (ix1 k)) (fun k => x2 (ix2 (bat n) k)) (fun k => x1 (ix2 (bat n) k))
/-- What hidden lane `j` gives to entry `d`. -/
def term (h : Fin 2048 → EReal) (d : Fin 2048) (j : ℕ) : EReal :=
  if hj : j < 5504 then
    silu (dotp h fun i => x6 (ix2 i (⟨j, by omega⟩ : Fin 11008))) (dotp h fun i => x6 (ix2 i (⟨5504 + j, by omega⟩ : Fin 11008))) * x7 (ix2 (⟨j, hj⟩ : Fin 5504) d)
  else 0
/-- The number of hidden lanes in tile `f`. -/
def tileLen (f : ℕ) : ℕ := if f = 10 then 384 else 512
/-- What tile `f` gives to entry `d`. -/
def tileSum (h : Fin 2048 → EReal) (d : Fin 2048) (f : ℕ) : EReal := ∑ j ∈ Finset.range (tileLen f), term x6 x7 h d (512 * f + j)
/-- The feed-forward's row. -/
def rowY (h : Fin 2048 → EReal) (d : Fin 2048) : EReal := ∑ j ∈ Finset.range 5504, term x6 x7 h d j
/-- The result at row `n`. -/
def target (n : Fin 16384) (d : Fin 2048) : EReal :=
  outp (rowX x0 n) (fun k => x3 (ix2 (bat n) k)) (fun k => x5 (ix1 k)) (rowY x6 x7 (rowH x0 x1 x2 x4 n)) d

theorem sum_full (g : ℕ → EReal) (n : ℕ) :
    ∑ f ∈ Finset.range n, ∑ j ∈ Finset.range 512, g (512 * f + j) = ∑ j ∈ Finset.range (512 * n), g j := by
  induction n with
  | zero => rfl
  | succ n ih => rw [Finset.sum_range_succ, ih, Nat.mul_succ, Finset.sum_range_add]

/-- The eleven tiles make up all hidden lanes. -/
theorem sum_tiles (h : Fin 2048 → EReal) (d : Fin 2048) :
    ∑ f ∈ Finset.range 11, tileSum x6 x7 h d f = rowY x6 x7 h d := by
  rw [Finset.sum_range_succ]
  have e : ∑ f ∈ Finset.range 10, tileSum x6 x7 h d f = ∑ j ∈ Finset.range (512 * 10), term x6 x7 h d j := by
    rw [← sum_full]
    refine Finset.sum_congr rfl fun f hf => ?_
    have hf : f < 10 := Finset.mem_range.mp hf
    unfold tileSum tileLen
    rw [if_neg (by omega)]
  rw [e]
  unfold tileSum rowY tileLen
  rw [if_pos rfl]
  exact (Finset.sum_range_add _ (512 * 10) 384).symm

theorem lo_apply {e : EltTy} (x : Vec Ideal S1024x2048 e) (r : Fin 512) (k : Fin 2048) : lo x (ix2 r k) = x (ix2 (⟨r.val, by omega⟩ : Fin 1024) k) :=
  View.ld_unit_apply_of _ _ _ _ _ _ fun a => by
    match a with
    | ⟨0, _⟩ => show r.val = 0 + r.val; omega
    | ⟨1, _⟩ => show k.val = 0 + k.val; omega
theorem hi_apply {e : EltTy} (x : Vec Ideal S1024x2048 e) (r : Fin 512) (k : Fin 2048) : hi x (ix2 r k) = x (ix2 (⟨512 + r.val, by omega⟩ : Fin 1024) k) :=
  View.ld_unit_apply_of _ _ _ _ _ _ fun a => by
    match a with
    | ⟨0, _⟩ => rfl
    | ⟨1, _⟩ => show k.val = 0 + k.val; omega
theorem row1_eq (x : Vec Ideal S1x2048 .f32) : row1 x = x := View.ld_unit_zero (S := S1x2048) (off := (![0, 0] : Fin 2 → Nat)) (show (![0, 0] : Fin 2 → Nat) = fun _ => 0 by decide) _ x
theorem row3_eq (x : Vec Ideal S1x1x2048 .f32) : row3 x = x := View.ld_unit_zero (S := S1x1x2048) (off := (![0, 0, 0] : Fin 3 → Nat)) (show (![0, 0, 0] : Fin 3 → Nat) = fun _ => 0 by decide) _ x
theorem gu_eq (x : Vec Ideal S1x2048x1024 .bf16) : gu x = x := View.ld_unit_zero (S := S1x2048x1024) (off := (![0, 0, 0] : Fin 3 → Nat)) (show (![0, 0, 0] : Fin 3 → Nat) = fun _ => 0 by decide) _ x
theorem dn_eq (x : Vec Ideal S512x2048 .bf16) : dn x = x := View.ld_unit_zero (S := S512x2048) (off := (![0, 0] : Fin 2 → Nat)) (show (![0, 0] : Fin 2 → Nat) = fun _ => 0 by decide) _ x
theorem guCut_apply (x : Vec Ideal S1x2048x1024 .bf16) (i : Fin 2048) (j : Fin 768) : guCut x (ix3 (0 : Fin 1) i j) = x (ix3 (0 : Fin 1) i (⟨j.val, by omega⟩ : Fin 1024)) :=
  View.ld_unit_apply_of _ _ _ _ _ _ fun a => by
    match a with
    | ⟨0, _⟩ => rfl
    | ⟨1, _⟩ => show i.val = 0 + i.val; omega
    | ⟨2, _⟩ => show j.val = 0 + j.val; omega
theorem dnCut_apply (x : Vec Ideal S512x2048 .bf16) (j : Fin 384) (k : Fin 2048) : dnCut x (ix2 j k) = x (ix2 (⟨j.val, by omega⟩ : Fin 512) k) :=
  View.ld_unit_apply_of _ _ _ _ _ _ fun a => by
    match a with
    | ⟨0, _⟩ => show j.val = 0 + j.val; omega
    | ⟨1, _⟩ => show k.val = 0 + k.val; omega

theorem stack_lo {e : EltTy} (a b : Vec Ideal S512x2048 e) (r : Fin 512) (k : Fin 2048) : stack a b (ix2 (⟨r.val, by omega⟩ : Fin 1024) k) = a (ix2 r k) := by
  unfold stack
  exact dif_pos r.isLt
theorem stack_hi {e : EltTy} (a b : Vec Ideal S512x2048 e) (r : Fin 512) (k : Fin 2048) : stack a b (ix2 (⟨512 + r.val, by omega⟩ : Fin 1024) k) = b (ix2 r k) := by
  unfold stack
  refine (dif_neg (by show ¬(512 + r.val < 512); omega)).trans ?_
  refine congrArg (fun q => b (ix2 q k)) (Fin.ext ?_)
  show 512 + r.val - 512 = r.val
  omega

/-- A row of a block is in its upper or its lower half. -/
theorem halves {P : Fin 1024 → Prop} (h1 : ∀ r : Fin 512, P ⟨r.val, by omega⟩) (h2 : ∀ r : Fin 512, P ⟨512 + r.val, by omega⟩) (r : Fin 1024) : P r := by
  by_cases h : r.val < 512
  · exact h1 ⟨r.val, h⟩
  · have e : r = ⟨512 + (r.val - 512), by omega⟩ := Fin.ext (by show r.val = 512 + (r.val - 512); omega)
    rw [e]
    exact h2 ⟨r.val - 512, by omega⟩

section Steps
variable (b0 : Vec Ideal S1024x2048 .f32) (b1 b2 b3 : Vec Ideal S1x1x2048 .f32) (b4 b5 : Vec Ideal S1x2048 .f32)
  (b6 : Vec Ideal S1x2048x1024 .bf16) (b7 : Vec Ideal S512x2048 .bf16) (acc : Vec Ideal S1024x2048 .f32) (h : Vec Ideal S1024x2048 .bf16)

/-- The normalised row of a block. -/
def blkH (r : Fin 1024) : Fin 2048 → EReal :=
  normed (fun k => b0 (ix2 r k)) (fun k => b4 (ix2 (0 : Fin 1) k)) (fun k => b2 (ix3 (0 : Fin 1) (0 : Fin 1) k)) (fun k => b1 (ix3 (0 : Fin 1) (0 : Fin 1) k))

theorem hInit_apply (r : Fin 1024) (k : Fin 2048) : hInit b0 b1 b2 b4 (ix2 r k) = blkH b0 b1 b2 b4 r k := by
  unfold hInit blkH
  rw [row1_eq, row3_eq, row3_eq, pay3_eq, pay3_eq]
  revert r
  refine halves (fun r => ?_) (fun r => ?_)
  · rw [stack_lo, pay2_apply]
    simp only [lo_apply]
  · rw [stack_hi, pay2_apply]
    simp only [hi_apply]

theorem stepA_apply (r : Fin 1024) (k : Fin 2048) : stepA b0 b1 b2 b4 b6 b7 (ix2 r k) = tileP (blkH b0 b1 b2 b4 r) b6 b7 k := by
  unfold stepA prodA blkH
  rw [row1_eq, row3_eq, row3_eq, gu_eq, dn_eq]
  revert r
  refine halves (fun r => ?_) (fun r => ?_)
  · rw [stack_lo, pay18_apply]
    simp only [pay2_apply, lo_apply]
  · rw [stack_hi, pay18_apply]
    simp only [pay2_apply, hi_apply]

theorem stepB_apply (r : Fin 1024) (k : Fin 2048) : stepB b6 b7 acc h (ix2 r k) = acc (ix2 r k) + tileP (fun i => h (ix2 r i)) b6 b7 k := by
  unfold stepB
  rw [gu_eq, dn_eq]
  revert r
  refine halves (fun r => ?_) (fun r => ?_)
  · rw [stack_lo, pay9_apply]
    simp only [lo_apply]
  · rw [stack_hi, pay9_apply]
    simp only [hi_apply]

theorem stepC_apply (r : Fin 1024) (k : Fin 2048) : stepC b6 b7 acc h (ix2 r k) = acc (ix2 r k) + tileC (fun i => h (ix2 r i)) (guCut b6) (dnCut b7) k := by
  unfold stepC
  revert r
  refine halves (fun r => ?_) (fun r => ?_)
  · rw [stack_lo, pay11_apply]
    simp only [lo_apply]
  · rw [stack_hi, pay11_apply]
    simp only [hi_apply]

theorem stepD_apply (r : Fin 1024) (k : Fin 2048) : stepD b0 b3 b5 b6 b7 acc h (ix2 r k)
    = outp (fun k => b0 (ix2 r k)) (fun k => b3 (ix3 (0 : Fin 1) (0 : Fin 1) k)) (fun k => b5 (ix2 (0 : Fin 1) k)) (fun k => acc (ix2 r k) + tileP (fun i => h (ix2 r i)) b6 b7 k) k := by
  unfold stepD
  rw [gu_eq, dn_eq, row1_eq, row3_eq]
  revert r
  refine halves (fun r => ?_) (fun r => ?_)
  · rw [stack_lo, pay13_apply]
    simp only [lo_apply]
  · rw [stack_hi, pay13_apply]
    simp only [hi_apply]
end Steps

end Cert.Kernel2Ideal.Ffn
end
-- ==== Proof.Ffn.Points.lean ====
/- The blocks the body reads at each grid point, in terms of the arguments. -/
module

public import proofs.«01_k».proof.Proof.Ffn.Host
public import proofs.«01_k».proof.Proof.Ffn.Spec

@[expose] public section
set_option maxRecDepth 65536
noncomputable section
namespace Cert.Kernel2Ideal.Ffn
open Idealize.ShloMosaic Idealize.ShloMosaic.TcCoe Idealize.ShloMosaic.Tactic Idealize.ShloMosaic.ValueIdx
open Cert.Kernel2Ideal.Gen Idealize.SL.Sem

variable (m : (l : Loc nD τ sig) → Buf (Elt Ideal) l) (c : Dev nD)

def a0 : Vec Ideal S4x4096x2048 .f32 := m ((c : Thread nD τ).loc main_arg0)
def a1 : Vec Ideal S4x2048 .f32 := m ((c : Thread nD τ).loc main_arg1)
def a2 : Vec Ideal S4x2048 .f32 := m ((c : Thread nD τ).loc main_arg2)
def a3 : Vec Ideal S4x2048 .f32 := m ((c : Thread nD τ).loc main_arg3)
def a4 : Vec Ideal S2048 .f32 := m ((c : Thread nD τ).loc main_arg4)
def a5 : Vec Ideal S2048 .f32 := m ((c : Thread nD τ).loc main_arg5)
def a6 : Vec Ideal S2048x11008 .f32 := m ((c : Thread nD τ).loc main_arg6)
def a7 : Vec Ideal S5504x2048 .f32 := m ((c : Thread nD τ).loc main_arg7)

/-- Row `r` of the block of rows point `t` works on. -/
def rowAt (t : Fin cfg0.N) (r : Fin 1024) : Fin 16384 := ⟨1024 * (t.val / 11) + r.val, by have := lt_of_lt_of_eq t.isLt N_0; omega⟩
theorem bat_rowAt (t : Fin cfg0.N) (r : Fin 1024) : (bat (rowAt t r)).val = t.val / 44 := by
  show (1024 * (t.val / 11) + r.val) / 4096 = _
  omega

theorem at0 : ∀ t : Fin cfg0.N, win0_0.index t = ![t.val / 11, 0] := (by decide +kernel : ∀ t : Fin grid0.N, _)
theorem at1 : ∀ t : Fin cfg0.N, win0_1.index t = ![t.val / 44, 0, 0] := (by decide +kernel : ∀ t : Fin grid0.N, _)
theorem at2 : ∀ t : Fin cfg0.N, win0_2.index t = ![t.val / 44, 0, 0] := (by decide +kernel : ∀ t : Fin grid0.N, _)
theorem at3 : ∀ t : Fin cfg0.N, win0_3.index t = ![t.val / 44, 0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![tileOf t.val, 0, 0] := (by decide +kernel : ∀ t : Fin grid0.N, _)
theorem at7 : ∀ t : Fin cfg0.N, win0_7.index t = ![tileOf t.val, 0] := (by decide +kernel : ∀ t : Fin grid0.N, _)

theorem placed2 {A B p q P : Nat} {w : Fin 2 → Nat} {a : Nat} (h : w = ![a, 0]) (i : Fin p) (j : Fin B) (x : (⟨2, ![A, B]⟩ : Shape).Idx) (I : Fin A)
    (h0 : (x (0 : Fin 2)).val = w 0 * p + 1 * i.val) (h1 : (x (1 : Fin 2)).val = w 1 * q + 1 * j.val) (hI : I.val = a * p + i.val) : x = ix2 I j := by
  subst h
  have h0 : (x (0 : Fin 2)).val = a * p + 1 * i.val := h0
  have h1 : (x (1 : Fin 2)).val = 0 * q + 1 * j.val := h1
  funext b
  apply Fin.ext
  match b with
  | ⟨0, _⟩ => show (x (0 : Fin 2)).val = I.val; omega
  | ⟨1, _⟩ => show (x (1 : Fin 2)).val = j.val; omega

theorem placed3 {A B C p q : Nat} {w : Fin 3 → Nat} {a : Nat} (h : w = ![a, 0, 0]) (i : Fin B) (j : Fin C) (x : (⟨3, ![A, B, C]⟩ : Shape).Idx) (I : Fin A)
    (h0 : (x (0 : Fin 3)).val = w 0 * 1 + 1 * 0) (h1 : (x (1 : Fin 3)).val = w 1 * p + 1 * i.val) (h2 : (x (2 : Fin 3)).val = w 2 * q + 1 * j.val) (hI : I.val = a) : x = ix3 I i j := by
  subst h
  have h0 : (x (0 : Fin 3)).val = a * 1 + 1 * 0 := h0
  have h1 : (x (1 : Fin 3)).val = 0 * p + 1 * i.val := h1
  have h2 : (x (2 : Fin 3)).val = 0 * q + 1 * j.val := h2
  funext b
  apply Fin.ext
  match b with
  | ⟨0, _⟩ => show (x (0 : Fin 3)).val = I.val; omega
  | ⟨1, _⟩ => show (x (1 : Fin 3)).val = i.val; omega
  | ⟨2, _⟩ => show (x (2 : Fin 3)).val = j.val; omega

theorem iblk_x (t : Fin cfg0.N) (r : Fin 1024) (k : Fin 2048) : iblk m c 0 t (ix2 r k) = rowX (a0 m c) (rowAt t r) k := by
  refine (congrArg (V m c main_v0) (placed2 (P := 0) (q := 2048) (at0 t) r k (((cfg0.win 0).blk t).view.emb (ix2 r k)) (rowAt t r) rfl rfl
    (by show 1024 * (t.val / 11) + r.val = t.val / 11 * 1024 + r.val; omega))).trans ?_
  rw [V_v0]
  refine shapeCast_apply _ _ _ (ix3 (bat (rowAt t r)) (pos (rowAt t r)) k) ?_
  rw [Shape.rowMajor_val_two, Shape.rowMajor_val_three]
  show ((rowAt t r).val / 4096 * 4096 + (rowAt t r).val % 4096) * 2048 + k.val = (rowAt t r).val * 2048 + k.val
  omega

theorem mod_apply (x : Vec Ideal S4x2048 .f32) (b : Fin 4) (k : Fin 2048) :
    shapeCast S4x1x2048 x shapeCasts_S4x2048_S4x1x2048 (ix3 b (0 : Fin 1) k) = x (ix2 b k) := by
  refine shapeCast_apply _ _ _ (ix2 b k) ?_
  rw [Shape.rowMajor_val_two, Shape.rowMajor_val_three]
  show b.val * 2048 + k.val = (b.val * 1 + 0) * 2048 + k.val
  omega

theorem iblk_sh (t : Fin cfg0.N) (r : Fin 1024) (k : Fin 2048) : iblk m c 1 t (ix3 (0 : Fin 1) (0 : Fin 1) k) = a1 m c (ix2 (bat (rowAt t r)) k) := by
  refine (congrArg (V m c main_v1) (placed3 (p := 1) (q := 2048) (at1 t) (0 : Fin 1) k (((cfg0.win 1).blk t).view.emb (ix3 (0 : Fin 1) (0 : Fin 1) k)) (bat (rowAt t r)) rfl rfl rfl (bat_rowAt t r))).trans ?_
  rw [V_v1]
  exact mod_apply _ _ _
theorem iblk_sc (t : Fin cfg0.N) (r : Fin 1024) (k : Fin 2048) : iblk m c 2 t (ix3 (0 : Fin 1) (0 : Fin 1) k) = a2 m c (ix2 (bat (rowAt t r)) k) := by
  refine (congrArg (V m c main_v2) (placed3 (p := 1) (q := 2048) (at2 t) (0 : Fin 1) k (((cfg0.win 2).blk t).view.emb (ix3 (0 : Fin 1) (0 : Fin 1) k)) (bat (rowAt t r)) rfl rfl rfl (bat_rowAt t r))).trans ?_
  rw [V_v2]
  exact mod_apply _ _ _
theorem iblk_gt (t : Fin cfg0.N) (r : Fin 1024) (k : Fin 2048) : iblk m c 3 t (ix3 (0 : Fin 1) (0 : Fin 1) k) = a3 m c (ix2 (bat (rowAt t r)) k) := by
  refine (congrArg (V m c main_v3) (placed3 (p := 1) (q := 2048) (at3 t) (0 : Fin 1) k (((cfg0.win 3).blk t).view.emb (ix3 (0 : Fin 1) (0 : Fin 1) k)) (bat (rowAt t r)) rfl rfl rfl (bat_rowAt t r))).trans ?_
  rw [V_v3]
  exact mod_apply _ _ _
theorem iblk_pre (t : Fin cfg0.N) (k : Fin 2048) : iblk m c 4 t (ix2 (0 : Fin 1) k) = a4 m c (ix1 k) := by
  refine (congrArg (V m c main_v4) (placed2 (P := 0) (q := 2048) (at4 t) (0 : Fin 1) k (((cfg0.win 4).blk t).view.emb (ix2 (0 : Fin 1) k)) (0 : Fin 1) rfl rfl rfl)).trans ?_
  rw [V_v4]
  exact shapeCast_a_1a_apply _ _ _ _
theorem iblk_post (t : Fin cfg0.N) (k : Fin 2048) : iblk m c 5 t (ix2 (0 : Fin 1) k) = a5 m c (ix1 k) := by
  refine (congrArg (V m c main_v5) (placed2 (P := 0) (q := 2048) (at5 t) (0 : Fin 1) k (((cfg0.win 5).blk t).view.emb (ix2 (0 : Fin 1) k)) (0 : Fin 1) rfl rfl rfl)).trans ?_
  rw [V_v5]
  exact shapeCast_a_1a_apply _ _ _ _

theorem tileOf_lt : ∀ n : ℕ, tileOf n < 11 := by
  intro n
  unfold tileOf
  dsimp only
  split <;> split <;> first | omega | (split <;> omega)
theorem tileOf_cut (n : ℕ) : tileOf n = 10 ↔ n % 11 = 5 := by
  unfold tileOf
  dsimp only
  split <;> split <;> first | omega | (split <;> omega)

theorem iblk_gu (t : Fin cfg0.N) (i : Fin 2048) (j : Fin 1024) :
    iblk m c 6 t (ix3 (0 : Fin 1) i j) = tiles (a6 m c) ⟨tileOf t.val, tileOf_lt _⟩ (ix3 (0 : Fin 1) i j) := by
  refine (congrArg (V m c main_v52) (placed3 (p := 2048) (q := 1024) (at6 t) i j (((cfg0.win 6).blk t).view.emb (ix3 (0 : Fin 1) i j)) (⟨tileOf t.val, tileOf_lt _⟩ : Fin 11) rfl rfl rfl rfl)).trans ?_
  rw [V_gu]
  exact packed_apply _ _ _ _

/-- A row of the down weights that the tile holds. -/
theorem wd0_apply (t : Fin cfg0.N) (j : Fin 512) (k : Fin 2048) (hj : j.val < tileLen (tileOf t.val)) (q : Fin 5504) (hq : q.val = 512 * tileOf t.val + j.val) :
    wd0 m c t (ix2 j k) = a7 m c (ix2 q k) := by
  have hm : (cfg0.win 7).moved (cfg0.grid.coords t) (ix2 j k) = true := by
    refine ((cfg0.win 7).moved_iff _ _).mpr fun a => ?_
    by_cases h : t.val % 11 = 5
    · rw [extent7 t h a]
      rw [(tileOf_cut t.val).mpr h] at hj
      match a with
      | ⟨0, _⟩ => exact hj
      | ⟨1, _⟩ => exact k.isLt
    · unfold Pipeline.Window.xsize
      rw [uncut7 t h a]
      match a with
      | ⟨0, _⟩ => exact j.isLt
      | ⟨1, _⟩ => exact k.isLt
  unfold wd0 wd Pipeline.Window.fill
  rw [dif_pos hm]
  refine (congrArg (V m c main_v53) (placed2 (A := 5504) (P := 0) (p := 512) (q := 2048) (at7 t) j k (((cfg0.win 7).blk t).view.emb _) q rfl rfl (by omega))).trans ?_
  rw [V_v53]
  rfl

/-- What a full tile's blocks give. -/
theorem tileP_at (t : Fin cfg0.N) (h5 : ¬t.val % 11 = 5) (h : Fin 2048 → EReal) (k : Fin 2048) :
    tileP h (iblk m c 6 t) (wd0 m c t) k = tileSum (a6 m c) (a7 m c) h k (tileOf t.val) := by
  have hf : tileOf t.val ≠ 10 := fun e => h5 ((tileOf_cut _).mp e)
  have hlt := tileOf_lt t.val
  have hl : tileLen (tileOf t.val) = 512 := by unfold tileLen; exact if_neg hf
  unfold tileSum tileP
  rw [hl, Finset.sum_range]
  refine Finset.sum_congr rfl fun j _ => ?_
  unfold term
  rw [dif_pos (show 512 * tileOf t.val + j.val < 5504 by omega)]
  rw [wd0_apply m c t j k (by rw [hl]; exact j.isLt) ⟨512 * tileOf t.val + j.val, by omega⟩ rfl]
  simp only [iblk_gu]
  simp only [tiles_gate (a6 m c) ⟨tileOf t.val, tileOf_lt _⟩ hf _ j ⟨512 * tileOf t.val + j.val, by omega⟩ rfl,
    tiles_up (a6 m c) ⟨tileOf t.val, tileOf_lt _⟩ hf _ j ⟨5504 + (512 * tileOf t.val + j.val), by omega⟩ rfl]

/-- What the cut tile's blocks give. -/
theorem tileC_at (t : Fin cfg0.N) (h5 : t.val % 11 = 5) (h : Fin 2048 → EReal) (k : Fin 2048) :
    tileC h (guCut (iblk m c 6 t)) (dnCut (wd0 m c t)) k = tileSum (a6 m c) (a7 m c) h k (tileOf t.val) := by
  have hf : tileOf t.val = 10 := (tileOf_cut _).mpr h5
  have hl : tileLen 10 = 384 := rfl
  have hT : (⟨tileOf t.val, tileOf_lt _⟩ : Fin 11) = ⟨10, by omega⟩ := Fin.ext hf
  unfold tileSum tileC
  rw [hf, hl, Finset.sum_range]
  refine Finset.sum_congr rfl fun j _ => ?_
  unfold term
  rw [dif_pos (show 512 * 10 + j.val < 5504 by omega)]
  rw [dnCut_apply, wd0_apply m c t ⟨j.val, by omega⟩ k (by rw [hf, hl]; exact j.isLt) ⟨512 * 10 + j.val, by omega⟩ (by rw [hf])]
  simp only [guCut_apply, iblk_gu, hT]
  have e1 : ∀ i : Fin 2048, tiles (a6 m c) ⟨10, by omega⟩ (ix3 (0 : Fin 1) i (⟨j.val, by omega⟩ : Fin 1024)) = a6 m c (ix2 i (⟨512 * 10 + j.val, by omega⟩ : Fin 11008)) :=
    fun i => tileCut_gate _ i j _ (by show 512 * 10 + j.val = 5120 + j.val; omega)
  have e2 : ∀ i : Fin 2048, tiles (a6 m c) ⟨10, by omega⟩ (ix3 (0 : Fin 1) i (⟨384 + j.val, by omega⟩ : Fin 1024)) = a6 m c (ix2 i (⟨5504 + (512 * 10 + j.val), by omega⟩ : Fin 11008)) :=
    fun i => tileCut_up _ i j _ (by show 5504 + (512 * 10 + j.val) = 10624 + j.val; omega)
  simp only [e1, e2]

end Cert.Kernel2Ideal.Ffn
end
-- ==== Proof.Ffn.Value.lean ====
/- The result array after the feed-forward call, as what the last step of each row block leaves. -/
module

public import proofs.«01_k».proof.Proof.Ffn.Frame
public import Idealize.ShloMosaic.Lib.Pipeline.Value

@[expose] public section
set_option maxRecDepth 16384
noncomputable section
namespace Cert.Kernel2Ideal.Ffn
open Idealize.ShloMosaic Idealize.ShloMosaic.TcCoe Idealize.SL.Sem
open Idealize.ShloMosaic.Pipeline (Dat)
open Cert.Kernel2Ideal Cert.Kernel2Ideal.Gen
open Idealize.ShloMosaic.ValueIdx (ix2)
variable {F : FTy → Type} [FloatOps F]
variable (m : (l : Loc nD τ sig) → Buf (Elt F) l) (ρ : Dev nD → PrngReg)

/-- The last point of the row block that holds row `r`. -/
abbrev lastPt (r : ℕ) : ℕ := 11 * (r / 1024) + 10
theorem lastPt_lt (r : Fin 16384) : lastPt r.val < cfg0.N :=
  lt_of_lt_of_eq (show 11 * (r.val / 1024) + 10 < 176 by omega) N_0.symm

theorem st_congr (c : Dev nD) {n n' : ℕ} (h : n < cfg0.N) (h' : n' < cfg0.N) (e : n = n') : st m c n h = st m c n' h' := by
  subst e; rfl

/-- What the result array ends up holding. -/
def G8 (c : Dev nD) : Buf (Elt F) ((c : Thread nD τ).loc main_v54) := fun i =>
  (st m c (lastPt (i (0 : Fin 2)).val) (lastPt_lt (i (0 : Fin 2)))).1
    (ix2 ⟨(i (0 : Fin 2)).val % 1024, Nat.mod_lt _ (by decide)⟩ (i (1 : Fin 2)))

theorem at8 : ∀ t : Fin cfg0.N, win0_8.index t (0 : Fin 2) = t.val / 11 ∧ win0_8.index t (1 : Fin 2) = 0 :=
  (by decide +kernel : ∀ t : Fin grid0.N, _)

/-- What the last point of a row block writes back is its block of that array. -/
theorem flushed8 (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8]
  have hm : t.val % 11 = 10 := (flush0_8 t).mp hf
  obtain ⟨e0, e1⟩ := at8 t
  funext y
  have hy0 : (y (0 : Fin 2)).val < 1024 := (y (0 : Fin 2)).isLt
  have hy1 : (y (1 : Fin 2)).val < 2048 := (y (1 : Fin 2)).isLt
  have hb0 : (((cfg0.win 8).blk t).view.emb y (0 : Fin 2)).val = win0_8.index t (0 : Fin 2) * 1024 + 1 * (y (0 : Fin 2)).val := rfl
  have hb1 : (((cfg0.win 8).blk t).view.emb y (1 : Fin 2)).val = win0_8.index t (1 : Fin 2) * 2048 + 1 * (y (1 : Fin 2)).val := rfl
  show (st m c t.val t.isLt).1 ((cfg0.win 8).xinj (grid0.coords t) y) = G8 m c (((cfg0.win 8).blk t).view.emb y)
  unfold G8
  rw [st_congr m c _ t.isLt (show lastPt (((cfg0.win 8).blk t).view.emb y (0 : Fin 2)).val = t.val by
    show 11 * ((((cfg0.win 8).blk t).view.emb y (0 : Fin 2)).val / 1024) + 10 = t.val
    rw [hb0, e0]; omega)]
  refine congrArg _ (funext fun a => Fin.ext ?_)
  match a with
  | ⟨0, _⟩ =>
    show (y (0 : Fin 2)).val = (((cfg0.win 8).blk t).view.emb y (0 : Fin 2)).val % 1024
    rw [hb0]; omega
  | ⟨1, _⟩ =>
    show (y (1 : Fin 2)).val = (((cfg0.win 8).blk t).view.emb y (1 : Fin 2)).val
    rw [hb1, e1]; omega

theorem mem_blk8 (t : Fin cfg0.N) (i : S16384x2048.Idx) :
    i ∈ ((cfg0.win 8).blk t).view.set ↔ ∀ a : Fin 2, win0_8.index t a * S1024x2048.size a ≤ (i a).val ∧ (i a).val < win0_8.index t a * S1024x2048.size a + S1024x2048.size a := by
  show i ∈ ((View.whole main_v54).slice (win0_8.rect t)).set ↔ _
  rw [View.set_slice_whole, Rect.mem_set_unit]
  exact Iff.rfl

/-- Every entry of the result is written back by some row block's last point. -/
theorem covered8 (i : S16384x2048.Idx) : ∃ t : Fin cfg0.N, (cfg0.win 8).flush t = true ∧ i ∈ ((cfg0.win 8).blk t).view.set := by
  have hi0 : (i (0 : Fin 2)).val < 16384 := (i (0 : Fin 2)).isLt
  have hi1 : (i (1 : Fin 2)).val < 2048 := (i (1 : Fin 2)).isLt
  refine ⟨⟨lastPt (i (0 : Fin 2)).val, lastPt_lt (i (0 : Fin 2))⟩, (flush0_8 _).mpr (by show (11 * _ + 10) % 11 = 10; omega), ?_⟩
  rw [mem_blk8]
  obtain ⟨e0, e1⟩ := at8 ⟨lastPt (i (0 : Fin 2)).val, lastPt_lt (i (0 : Fin 2))⟩
  have e2 : (11 * ((i (0 : Fin 2)).val / 1024) + 10) / 11 = (i (0 : Fin 2)).val / 1024 := by omega
  intro a
  match a with
  | ⟨0, _⟩ =>
    show win0_8.index _ (0 : Fin 2) * 1024 ≤ (i (0 : Fin 2)).val ∧ (i (0 : Fin 2)).val < win0_8.index _ (0 : Fin 2) * 1024 + 1024
    rw [e0]
    show (11 * ((i (0 : Fin 2)).val / 1024) + 10) / 11 * 1024 ≤ _ ∧ _ < (11 * ((i (0 : Fin 2)).val / 1024) + 10) / 11 * 1024 + 1024
    rw [e2]; omega
  | ⟨1, _⟩ =>
    show win0_8.index _ (1 : Fin 2) * 2048 ≤ (i (1 : Fin 2)).val ∧ (i (1 : Fin 2)).val < win0_8.index _ (1 : Fin 2) * 2048 + 2048
    rw [e1]; omega

theorem final8 (c : Dev nD) : (dats m 0 c).arrAt 8 cfg0.N = G8 m c :=
  (dats m 0 c).arrAt_eq_of_cover 8 _ (fun t hf => flushed8 m c t hf) (fun i => covered8 i)

/-- The call leaves that array as its result, and every argument as it was. -/
theorem run : θ_run defs (onTc (τ := τ) (main (F := F))) ⟨m, fun _ => 0, ρ⟩ fun r => ∀ c : Dev nD,
      r.2.mem ((c : Thread nD τ).loc main_v54) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (final8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Kernel2Ideal.Ffn
end
-- ==== Proof.Ffn.Acc.lean ====
/- What the scratch buffers hold after each grid point, and so what the kernel writes. -/
module

public import proofs.«01_k».proof.Proof.Ffn.Points
public import proofs.«01_k».proof.Proof.Ffn.Value

@[expose] public section
set_option maxRecDepth 65536
noncomputable section
namespace Cert.Kernel2Ideal.Ffn
open Idealize.ShloMosaic Idealize.ShloMosaic.TcCoe Idealize.ShloMosaic.ValueIdx
open Cert.Kernel2Ideal.Gen Idealize.SL.Sem

/-- The tiles in the order a block of rows takes them, forwards or backwards. -/
theorem tileOf_at (b s : ℕ) (hs : s < 11) :
    tileOf (11 * b + s) = (fun f => if f = 5 then 10 else if f < 5 then f else f - 1) (if b % 2 = 0 then s else 10 - s) := by
  unfold tileOf
  rw [show (11 * b + s) / 11 = b by omega, show (11 * b + s) % 11 = s by omega]

/-- Either order adds up the same eleven tiles. -/
theorem sum_order (T : ℕ → EReal) (b : ℕ) : ∑ s ∈ Finset.range 11, T (tileOf (11 * b + s)) = ∑ f ∈ Finset.range 11, T f := by
  have e : ∑ s ∈ Finset.range 11, T (tileOf (11 * b + s))
      = ∑ s ∈ Finset.range 11, T ((fun f => if f = 5 then 10 else if f < 5 then f else f - 1) (if b % 2 = 0 then s else 10 - s)) :=
    Finset.sum_congr rfl fun s hs => congrArg T (tileOf_at b s (Finset.mem_range.mp hs))
  rw [e]
  by_cases h : b % 2 = 0
  · simp only [h, if_true, Finset.sum_range_succ, Finset.sum_range_zero]
    norm_num
    ac_rfl
  · simp only [h, if_false, Finset.sum_range_succ, Finset.sum_range_zero]
    norm_num
    ac_rfl

variable (m : (l : Loc nD τ sig) → Buf (Elt Ideal) l) (c : Dev nD)

/-- The normalised row of point `t`'s row `r`. -/
def hAt (t : Fin cfg0.N) (r : Fin 1024) : Fin 2048 → EReal := rowH (a0 m c) (a1 m c) (a2 m c) (a4 m c) (rowAt t r)
/-- The tile sums the first `n` points of a block of rows give. -/
def part (t : Fin cfg0.N) (r : Fin 1024) (k : Fin 2048) (n : ℕ) : EReal :=
  ∑ s ∈ Finset.range n, tileSum (a6 m c) (a7 m c) (hAt m c t r) k (tileOf (11 * (t.val / 11) + s))

theorem blkH_at (t : Fin cfg0.N) (r : Fin 1024) : blkH (iblk m c 0 t) (iblk m c 1 t) (iblk m c 2 t) (iblk m c 4 t) r = hAt m c t r := by
  unfold blkH hAt rowH
  simp only [iblk_x, iblk_sc m c t r, iblk_sh m c t r, iblk_pre]

/-- The state after the point before. -/
def prev (t : Fin cfg0.N) : Vec Ideal S1024x2048 .f32 × Vec Ideal S1024x2048 .bf16 := st m c (t.val - 1) (Nat.lt_of_le_of_lt (Nat.sub_le _ _) t.isLt)

theorem rowAt_prev (t u : Fin cfg0.N) (h : u.val / 11 = t.val / 11) (r : Fin 1024) : rowAt u r = rowAt t r :=
  Fin.ext (by show 1024 * (u.val / 11) + r.val = 1024 * (t.val / 11) + r.val; rw [h])

theorem hAt_prev (t u : Fin cfg0.N) (h : u.val / 11 = t.val / 11) (r : Fin 1024) : hAt m c u r = hAt m c t r := by
  unfold hAt
  rw [rowAt_prev t u h]
theorem part_prev (t u : Fin cfg0.N) (h : u.val / 11 = t.val / 11) (r : Fin 1024) (k : Fin 2048) (n : ℕ) : part m c u r k n = part m c t r k n := by
  unfold part
  rw [hAt_prev m c t u h, h]

theorem tile_last (t : Fin cfg0.N) (r : Fin 1024) (k : Fin 2048) (n : ℕ) (hn : n = t.val % 11) :
    part m c t r k n + tileSum (a6 m c) (a7 m c) (hAt m c t r) k (tileOf t.val) = part m c t r k (t.val % 11 + 1) := by
  subst hn
  unfold part
  rw [Finset.sum_range_succ, show 11 * (t.val / 11) + t.val % 11 = t.val from Nat.div_add_mod _ _]

/-- The normalised rows stay; the other buffer holds the sum so far. -/
theorem st_val : ∀ (n : ℕ) (hn : n < cfg0.N) (r : Fin 1024) (k : Fin 2048),
    (st m c n hn).2 (ix2 r k) = hAt m c ⟨n, hn⟩ r k ∧ (n % 11 < 10 → (st m c n hn).1 (ix2 r k) = part m c ⟨n, hn⟩ r k (n % 11 + 1)) := by
  intro n
  induction n with
  | zero =>
    intro hn r k
    have e := st_A m c ⟨0, hn⟩ rfl
    have e1 : (st m c 0 hn).1 = _ := congrArg Prod.fst e
    have e2 : (st m c 0 hn).2 = _ := congrArg Prod.snd e
    refine ⟨?_, fun _ => ?_⟩
    · rw [e2]
      refine (hInit_apply _ _ _ _ r k).trans ?_
      rw [blkH_at]
    · rw [e1]
      refine (stepA_apply _ _ _ _ _ _ r k).trans ?_
      rw [blkH_at, tileP_at m c ⟨0, hn⟩ (by show ¬0 % 11 = 5; omega)]
      refine Eq.trans ?_ (tile_last m c ⟨0, hn⟩ r k 0 rfl)
      exact (zero_add _).symm
  | succ p ih =>
    intro hn r k
    have hp : p < cfg0.N := by omega
    by_cases h0 : (p + 1) % 11 = 0
    · have e := st_A m c ⟨p + 1, hn⟩ h0
      have e1 : (st m c (p + 1) hn).1 = _ := congrArg Prod.fst e
      have e2 : (st m c (p + 1) hn).2 = _ := congrArg Prod.snd e
      refine ⟨?_, fun _ => ?_⟩
      · rw [e2]
        refine (hInit_apply _ _ _ _ r k).trans ?_
        rw [blkH_at]
      · rw [e1]
        refine (stepA_apply _ _ _ _ _ _ r k).trans ?_
        rw [blkH_at, tileP_at m c ⟨p + 1, hn⟩ (by show ¬(p + 1) % 11 = 5; omega)]
        refine Eq.trans ?_ (tile_last m c ⟨p + 1, hn⟩ r k 0 h0.symm)
        exact (zero_add _).symm
    · have hd : p / 11 = (p + 1) / 11 := by omega
      have hm : p % 11 + 1 = (p + 1) % 11 := by omega
      have hh : ∀ k, (st m c p hp).2 (ix2 r k) = hAt m c ⟨p + 1, hn⟩ r k := fun k =>
        (ih hp r k).1.trans (congrFun (hAt_prev m c ⟨p + 1, hn⟩ ⟨p, hp⟩ hd r) k)
      have ha : ∀ k, (st m c p hp).1 (ix2 r k) = part m c ⟨p + 1, hn⟩ r k ((p + 1) % 11) := fun k =>
        ((ih hp r k).2 (by omega)).trans ((part_prev m c ⟨p + 1, hn⟩ ⟨p, hp⟩ hd r k _).trans (by rw [hm]))
      have hhf : (fun i => (st m c p hp).2 (ix2 r i)) = hAt m c ⟨p + 1, hn⟩ r := funext hh
      by_cases h5 : (p + 1) % 11 = 5
      · have e := st_C m c ⟨p + 1, hn⟩ h5
        have e1 : (st m c (p + 1) hn).1 = _ := congrArg Prod.fst e
        have e2 : (st m c (p + 1) hn).2 = (st m c p hp).2 := (congrArg Prod.snd e).trans rfl
        refine ⟨by rw [e2]; exact hh k, fun _ => ?_⟩
        rw [e1]
        refine (stepC_apply _ _ _ _ r k).trans ?_
        refine Eq.trans (congrArg₂ (· + ·) (ha k) ((congrArg (fun h => tileC h _ _ k) hhf).trans (tileC_at m c ⟨p + 1, hn⟩ h5 _ k))) ?_
        exact tile_last m c ⟨p + 1, hn⟩ r k _ rfl
      · by_cases h10 : (p + 1) % 11 = 10
        · have e := st_D m c ⟨p + 1, hn⟩ h10
          have e2 : (st m c (p + 1) hn).2 = (st m c p hp).2 := (congrArg Prod.snd e).trans rfl
          exact ⟨by rw [e2]; exact hh k, fun h => absurd h10 (by omega)⟩
        · have e := st_B m c ⟨p + 1, hn⟩ h0 h5 h10
          have e1 : (st m c (p + 1) hn).1 = _ := congrArg Prod.fst e
          have e2 : (st m c (p + 1) hn).2 = (st m c p hp).2 := (congrArg Prod.snd e).trans rfl
          refine ⟨by rw [e2]; exact hh k, fun _ => ?_⟩
          rw [e1]
          refine (stepB_apply _ _ _ _ r k).trans ?_
          refine Eq.trans (congrArg₂ (· + ·) (ha k) ((congrArg (fun h => tileP h _ _ k) hhf).trans (tileP_at m c ⟨p + 1, hn⟩ h5 _ k))) ?_
          exact tile_last m c ⟨p + 1, hn⟩ r k _ rfl

/-- After the last point of a block of rows the buffer holds the result. -/
theorem st_last (p : ℕ) (hn : p + 1 < cfg0.N) (h10 : (p + 1) % 11 = 10) (r : Fin 1024) (k : Fin 2048) :
    (st m c (p + 1) hn).1 (ix2 r k)
      = target (a0 m c) (a1 m c) (a2 m c) (a3 m c) (a4 m c) (a5 m c) (a6 m c) (a7 m c) (rowAt ⟨p + 1, hn⟩ r) k := by
  have hp : p < cfg0.N := by omega
  have hd : p / 11 = (p + 1) / 11 := by omega
  have hm : p % 11 + 1 = (p + 1) % 11 := by omega
  have hhf : (fun i => (st m c p hp).2 (ix2 r i)) = hAt m c ⟨p + 1, hn⟩ r := funext fun k =>
    (st_val m c p hp r k).1.trans (congrFun (hAt_prev m c ⟨p + 1, hn⟩ ⟨p, hp⟩ hd r) k)
  have ha : ∀ k, (st m c p hp).1 (ix2 r k) = part m c ⟨p + 1, hn⟩ r k ((p + 1) % 11) := fun k =>
    ((st_val m c p hp r k).2 (by omega)).trans ((part_prev m c ⟨p + 1, hn⟩ ⟨p, hp⟩ hd r k _).trans (by rw [hm]))
  have e := st_D m c ⟨p + 1, hn⟩ h10
  have e1 : (st m c (p + 1) hn).1 = _ := congrArg Prod.fst e
  rw [e1]
  refine (stepD_apply _ _ _ _ _ _ _ r k).trans ?_
  have hy : (fun k => (st m c p hp).1 (ix2 r k) + tileP (fun i => (st m c p hp).2 (ix2 r i)) (iblk m c 6 ⟨p + 1, hn⟩) (wd0 m c ⟨p + 1, hn⟩) k)
      = rowY (a6 m c) (a7 m c) (hAt m c ⟨p + 1, hn⟩ r) := by
    funext k
    rw [hhf, ha k, tileP_at m c ⟨p + 1, hn⟩ (by show ¬(p + 1) % 11 = 5; omega)]
    refine (tile_last m c ⟨p + 1, hn⟩ r k _ rfl).trans ?_
    have h11 : (⟨p + 1, hn⟩ : Fin cfg0.N).val % 11 + 1 = 11 := by show (p + 1) % 11 + 1 = 11; omega
    rw [h11]
    unfold part
    rw [sum_order (fun f => tileSum (a6 m c) (a7 m c) (hAt m c ⟨p + 1, hn⟩ r) k f)]
    exact sum_tiles _ _ _ _
  refine (congrArg (fun y => outp _ _ _ y k) hy).trans ?_
  unfold target hAt
  simp only [iblk_x, iblk_gt m c ⟨p + 1, hn⟩ r, iblk_post]

/-- The kernel's result at a row and a lane. -/
theorem G8_eq (i : S16384x2048.Idx) :
    G8 m c i = target (a0 m c) (a1 m c) (a2 m c) (a3 m c) (a4 m c) (a5 m c) (a6 m c) (a7 m c) (i 0) (i 1) := by
  unfold G8
  refine (st_last m c (11 * ((i 0).val / 1024) + 9) (lastPt_lt (i 0)) (by omega) _ _).trans ?_
  refine congrArg (fun n => target (a0 m c) (a1 m c) (a2 m c) (a3 m c) (a4 m c) (a5 m c) (a6 m c) (a7 m c) n (i 1)) (Fin.ext ?_)
  show 1024 * ((11 * ((i 0).val / 1024) + 9 + 1) / 11) + (i 0).val % 1024 = (i 0).val
  omega

end Cert.Kernel2Ideal.Ffn
end
-- ==== Proof.Ffn.Ref.lean ====
/- What the reference computes, row by row. -/
module

public import proofs.«01_k».proof.Proof.Ffn.Spec
public import proofs.«01_k».proof.Proof.Gen.Reference2Ideal.Read
public import Idealize.ShloMosaic.Lib.IdealHost

@[expose] public section
set_option maxRecDepth 65536
noncomputable section
namespace Cert.Kernel2Ideal.Ffn
open Idealize.ShloMosaic Idealize.ShloMosaic.ValueIdx
open Cert.Reference2Ideal Cert.Reference2Ideal.Gen Cert.Reference2Ideal.Read

variable (x0 : Vec Ideal S4x4096x2048 .f32) (x1 x2 x3 : Vec Ideal S4x2048 .f32) (x4 x5 : Vec Ideal S2048 .f32)
  (x6 : Vec Ideal S2048x11008 .f32) (x7 : Vec Ideal S5504x2048 .f32)

/-- The reciprocal root of a row's mean square. -/
theorem ref_inv (b : Fin 4) (s : Fin 4096) (k : Fin 2048) :
    val_main_v8 (F := Ideal) x0 (ix3 b s k) = inv (fun k => x0 (ix3 b s k)) := by
  have e : ∀ q : Fin 2048, idx_main_v1 (idx_main_v2 (idx_main_v8 (ix3 b s k))) q = ix3 b s q := fun q => funext fun a => by
    match a with
    | ⟨0, _⟩ => rfl
    | ⟨1, _⟩ => rfl
    | ⟨2, _⟩ => rfl
  rw [val_main_v8_apply, val_main_v7_apply, val_main_v6_apply, val_main_v4_apply, val_main_v2_apply, val_main_v1_apply,
    val_main_v3_apply, val_main_v5_apply, val_main_cst_0_apply, val_main_cst_1_apply, val_main_cst_apply]
  simp only [val_main_v0_apply, e]
  unfold inv
  rw [show (FloatOps.ofBits .f32 0x00000000#32 : Ideal .f32) = 0 from Ideal.ofBits_zero_f32, zero_add]
  rfl

/-- The normalised and modulated row. -/
theorem ref_h (b : Fin 4) (s : Fin 4096) (k : Fin 2048) :
    val_main_v20 (F := Ideal) x0 x1 x2 x4 (ix3 b s k)
      = normed (fun k => x0 (ix3 b s k)) (fun k => x4 (ix1 k)) (fun k => x2 (ix2 b k)) (fun k => x1 (ix2 b k)) k := by
  have e4 : idx_main_v10 (idx_main_v11 (ix3 b s k)) = ix1 k := funext fun a => by
    match a with
    | ⟨0, _⟩ => rfl
  have e2 : idx_main_v13 (idx_main_v16 (ix3 b s k)) = ix2 b k := funext fun a => by
    match a with
    | ⟨0, _⟩ => rfl
    | ⟨1, _⟩ => rfl
  have e1 : idx_main_v18 (idx_main_v19 (ix3 b s k)) = ix2 b k := funext fun a => by
    match a with
    | ⟨0, _⟩ => rfl
    | ⟨1, _⟩ => rfl
  rw [val_main_v20_apply, val_main_v17_apply, val_main_v12_apply, val_main_v9_apply, ref_inv, val_main_v11_apply, val_main_v10_apply,
    val_main_v16_apply, val_main_v15_apply, val_main_v14_apply, val_main_cst_2_apply, val_main_v13_apply, val_main_v19_apply, val_main_v18_apply, e4, e2, e1]
  unfold normed
  exact congrArg (· + x1 (ix2 b k)) (mul_assoc (x0 (ix3 b s k) * inv fun k => x0 (ix3 b s k)) (x4 (ix1 k)) (Ideal.ofBits .f32 0x3F800000#32 + x2 (ix2 b k)))

/-- A lane before the gate. -/
theorem ref_dot (b : Fin 4) (s : Fin 4096) (j : Fin 11008) :
    val_main_v21 (F := Ideal) x0 x1 x2 x4 x6 (ix3 b s j)
      = dotp (normed (fun k => x0 (ix3 b s k)) (fun k => x4 (ix1 k)) (fun k => x2 (ix2 b k)) (fun k => x1 (ix2 b k))) (fun i => x6 (ix2 i j)) := by
  rw [val_main_v21_apply]
  unfold dotp
  refine Finset.sum_congr rfl fun k _ => ?_
  have el : lidx_main_v21 (ix3 b s j) k = ix3 b s k := funext fun a => by
    match a with
    | ⟨0, _⟩ => rfl
    | ⟨1, _⟩ => rfl
    | ⟨2, _⟩ => rfl
  have er : ridx_main_v21 (ix3 b s j) k = ix2 k j := funext fun a => by
    match a with
    | ⟨0, _⟩ => rfl
    | ⟨1, _⟩ => rfl
  rw [el, er, ref_h]

/-- A gated lane. -/
theorem ref_lane (b : Fin 4) (s : Fin 4096) (j : Fin 5504) :
    val_main_v31 (F := Ideal) x0 x1 x2 x4 x6 (ix3 b s j)
      = silu (val_main_v21 (F := Ideal) x0 x1 x2 x4 x6 (ix3 b s (⟨j.val, by omega⟩ : Fin 11008))) (val_main_v21 (F := Ideal) x0 x1 x2 x4 x6 (ix3 b s (⟨5504 + j.val, by omega⟩ : Fin 11008))) := by
  have e1 : idx_main_v22 (ix3 b s j) = ix3 b s (⟨j.val, by omega⟩ : Fin 11008) := funext fun a => Fin.ext (by
    match a with
    | ⟨0, _⟩ => simp [idx_main_v22, ix3]
    | ⟨1, _⟩ => simp [idx_main_v22, ix3]
    | ⟨2, _⟩ => simp [idx_main_v22, ix3])
  have e2 : idx_main_v23 (ix3 b s j) = ix3 b s (⟨5504 + j.val, by omega⟩ : Fin 11008) := funext fun a => Fin.ext (by
    match a with
    | ⟨0, _⟩ => simp [idx_main_v23, ix3]
    | ⟨1, _⟩ => simp [idx_main_v23, ix3]
    | ⟨2, _⟩ => simp [idx_main_v23, ix3])
  rw [val_main_v31_apply, val_main_v30_apply, val_main_v29_apply, val_main_v28_apply, val_main_v27_apply, val_main_v26_apply, val_main_v25_apply,
    val_main_v24_apply, val_main_v22_apply, val_main_v23_apply, val_main_cst_3_apply, val_main_cst_4_apply, e1, e2]
  generalize val_main_v21 (F := Ideal) x0 x1 x2 x4 x6 (ix3 b s (⟨j.val, by omega⟩ : Fin 11008)) = g
  generalize val_main_v21 (F := Ideal) x0 x1 x2 x4 x6 (ix3 b s (⟨5504 + j.val, by omega⟩ : Fin 11008)) = u
  rw [show (FloatOps.ofBits .f32 0x3F800000#32 : Ideal .f32) = 1 from Ideal.ofBits_one_f32]
  rfl

/-- The feed-forward's row. -/
theorem ref_y (n : Fin 16384) (d : Fin 2048) :
    val_main_v32 (F := Ideal) x0 x1 x2 x4 x6 x7 (ix3 (bat n) (pos n) d) = rowY x6 x7 (rowH x0 x1 x2 x4 n) d := by
  rw [val_main_v32_apply]
  unfold rowY
  rw [Finset.sum_range]
  refine Finset.sum_congr rfl fun k _ => ?_
  have el : lidx_main_v32 (ix3 (bat n) (pos n) d) k = ix3 (bat n) (pos n) k := funext fun a => by
    match a with
    | ⟨0, _⟩ => rfl
    | ⟨1, _⟩ => rfl
    | ⟨2, _⟩ => rfl
  have er : ridx_main_v32 (ix3 (bat n) (pos n) d) k = ix2 k d := funext fun a => by
    match a with
    | ⟨0, _⟩ => rfl
    | ⟨1, _⟩ => rfl
  rw [el, er, ref_lane, ref_dot, ref_dot]
  unfold term
  rw [dif_pos k.isLt]
  rfl

/-- The reciprocal root of the feed-forward's mean square. -/
theorem ref_inv2 (b : Fin 4) (s : Fin 4096) (k : Fin 2048) :
    val_main_v44 (F := Ideal) x0 x1 x2 x4 x6 x7 (ix3 b s k) = inv (fun k => val_main_v32 (F := Ideal) x0 x1 x2 x4 x6 x7 (ix3 b s k)) := by
  have e : ∀ q : Fin 2048, idx_main_v37 (idx_main_v38 (idx_main_v44 (ix3 b s k))) q = ix3 b s q := fun q => funext fun a => by
    match a with
    | ⟨0, _⟩ => rfl
    | ⟨1, _⟩ => rfl
    | ⟨2, _⟩ => rfl
  rw [val_main_v44_apply, val_main_v43_apply, val_main_v42_apply, val_main_v40_apply, val_main_v38_apply, val_main_v37_apply,
    val_main_v39_apply, val_main_v41_apply, val_main_cst_7_apply, val_main_cst_8_apply, val_main_cst_6_apply]
  simp only [val_main_v36_apply, e]
  unfold inv
  rw [show (FloatOps.ofBits .f32 0x00000000#32 : Ideal .f32) = 0 from Ideal.ofBits_zero_f32, zero_add]
  rfl

/-- The reference's sum before it is laid out in rows. -/
theorem ref_out (n : Fin 16384) (d : Fin 2048) :
    val_main_v51 (F := Ideal) x0 x1 x2 x3 x4 x5 x6 x7 (ix3 (bat n) (pos n) d) = target x0 x1 x2 x3 x4 x5 x6 x7 n d := by
  have e5 : idx_main_v46 (idx_main_v47 (ix3 (bat n) (pos n) d)) = ix1 d := funext fun a => by
    match a with
    | ⟨0, _⟩ => rfl
  have e3 : idx_main_v33 (idx_main_v49 (ix3 (bat n) (pos n) d)) = ix2 (bat n) d := funext fun a => by
    match a with
    | ⟨0, _⟩ => rfl
    | ⟨1, _⟩ => rfl
  rw [val_main_v51_apply, val_main_v50_apply, val_main_v49_apply, val_main_v35_apply, val_main_v34_apply, val_main_cst_5_apply, val_main_v33_apply,
    val_main_v48_apply, val_main_v47_apply, val_main_v46_apply, val_main_v45_apply, ref_inv2, e5, e3]
  simp only [ref_y]
  unfold target outp
  refine congrArg (rowX x0 n d + ·) ?_
  show (Ideal.ofBits .f32 0x3F000000#32 * x3 (ix2 (bat n) d)) * (rowY x6 x7 (rowH x0 x1 x2 x4 n) d * inv (rowY x6 x7 (rowH x0 x1 x2 x4 n)) * x5 (ix1 d))
    = Ideal.ofBits .f32 0x3F000000#32 * x3 (ix2 (bat n) d) * x5 (ix1 d) * (rowY x6 x7 (rowH x0 x1 x2 x4 n) d * inv (rowY x6 x7 (rowH x0 x1 x2 x4 n)))
  generalize Ideal.ofBits .f32 0x3F000000#32 * x3 (ix2 (bat n) d) = p
  generalize rowY x6 x7 (rowH x0 x1 x2 x4 n) d * inv (rowY x6 x7 (rowH x0 x1 x2 x4 n)) = q
  generalize x5 (ix1 d) = w
  rw [mul_comm q w]
  exact (mul_assoc (p : EReal) w q).symm

/-- The reference's result at a row and a lane. -/
theorem ref_eq (i : S16384x2048.Idx) :
    val_main_v52 (F := Ideal) x0 x1 x2 x3 x4 x5 x6 x7 i = target x0 x1 x2 x3 x4 x5 x6 x7 (i 0) (i 1) := by
  have h0 : (i 0).val < 16384 := (i 0).isLt
  have h1 : (i 1).val < 2048 := (i 1).isLt
  have e : idx_main_v52 i = ix3 (bat (i 0)) (pos (i 0)) (i 1) := funext fun a => Fin.ext (by
    match a with
    | ⟨0, _⟩ => show ((i 0).val * 2048 + (i 1).val) / 8388608 = (i 0).val / 4096; omega
    | ⟨1, _⟩ => show ((i 0).val * 2048 + (i 1).val) / 2048 % 4096 = (i 0).val % 4096; omega
    | ⟨2, _⟩ => show ((i 0).val * 2048 + (i 1).val) % 2048 = (i 1).val; omega)
  rw [val_main_v52_apply, e]
  exact ref_out x0 x1 x2 x3 x4 x5 x6 x7 (i 0) (i 1)

end Cert.Kernel2Ideal.Ffn
end
-- ==== Proof.Ffn.Same.lean ====
/- The feed-forward's two programs have the same text: what is shown of a run of one holds of the other's. -/
module

public import proofs.«01_k».proof.Proof.Ffn.Frame
public import proofs.«01_k».proof.Proof.Gen.Kernel2

@[expose] public section
set_option maxRecDepth 65536
noncomputable section
namespace Cert.Kernel2Ideal.Ffn
open Idealize.ShloMosaic Idealize.ShloMosaic.TcCoe Idealize.SL.Sem

variable {F : FTy → Type} [FloatOps F]

/-- The bodies' table. -/
theorem bodies_same : @Cert.Kernel2.defs₀ F _ _ = @Cert.Kernel2Ideal.defs₀ F _ _ := by
  unfold Cert.Kernel2.defs₀ Cert.Kernel2Ideal.defs₀
  refine congrArg Defs.onTc (funext fun l => ?_)
  match l with
  | 0 => rfl

theorem defs_same : @Cert.Kernel2.defs F _ _ = @Cert.Kernel2Ideal.defs F _ _ :=
  congrArg (Pipeline.defs (Cert.Kernel2Ideal.pcfgs (F := F))) bodies_same

set_option maxHeartbeats 4000000 in
/-- The host's program. -/
theorem main_same : @Cert.Kernel2.main F _ _ = @Cert.Kernel2Ideal.main F _ _ := by
  unfold Cert.Kernel2.main Cert.Kernel2Ideal.main
  rfl

theorem run_of_same {d d' : Defs nD τ sig (Elt F) (Pipeline.Sig Λ₀ (Fin 1) fun p => (pcfgs (F := F) p).Adm)}
    {p p' : Dev nD → Prog (TpuEff nD τ sig (Elt F) (Pipeline.Sig Λ₀ (Fin 1) fun p => (pcfgs (F := F) p).Adm) .tc) PUnit}
    (hd : d = d') (hp : p = p') {s : _} {Q : _} (h : θ_run d' (onTc (τ := τ) p') s Q) : θ_run d (onTc (τ := τ) p) s Q := by
  subst hd hp
  exact h

end Cert.Kernel2Ideal.Ffn
end
-- ==== Proof.Prj.Math.lean ====
/- What the projection's body computes, read entry by entry over the extended reals. -/
module

public import proofs.«01_k».proof.Proof.Ffn.Spec
public import proofs.«01_k».proof.Proof.Gen.Kernel3Ideal.Value

@[expose] public section
set_option maxRecDepth 65536
noncomputable section
namespace Cert.Kernel3Ideal.Prj
open Idealize.ShloMosaic Idealize.ShloMosaic.TcCoe Idealize.ShloMosaic.Tactic Idealize.ShloMosaic.ValueIdx
open Cert.Kernel3Ideal.Gen
open Cert.Kernel2Ideal.Ffn (normed dotp)

theorem scale_eq : (Named.named κ "scale" 0x3E38AA3B#32 : Ideal .f32) = (((Real.log 256)⁻¹ : ℝ) : EReal) :=
  IdealRules.named_const.ideal_named_scalar _ _ _ _ rfl
theorem root_half_eq : (Named.named κ "root_half" 0x3F3504F3#32 : Ideal .f32) = (((Real.sqrt 2)⁻¹ : ℝ) : EReal) :=
  IdealRules.named_const.ideal_named_scalar _ _ _ _ rfl

/-- The exact GELU. -/
def gelu (v : EReal) : EReal :=
  (Ideal.ofBits .f32 0x3F000000#32 * v) * (Ideal.ofBits .f32 0x3F800000#32 + Ideal.erf (v * (((Real.sqrt 2)⁻¹ : ℝ) : EReal)))
/-- The mean of a row of 1024 lanes. -/
def mean (v : Fin 1024 → EReal) : EReal := Ideal.div (∑ k, v k) (Ideal.ofBits .f32 0x44800000#32)
/-- The layer normalisation of a row. -/
def lnorm (v g b : Fin 1024 → EReal) (l : Fin 1024) : EReal :=
  ((v l - mean v) * Ideal.rsqrt (mean (fun k => (v k - mean v) * (v k - mean v)) + Ideal.ofBits .f32 0x358637BD#32)) * g l + b l

theorem pay6_eq (x : Vec Ideal S512x2048 .f32) (g : Vec Ideal S1x2048 .f32) (sc sh : Vec Ideal S1x1x2048 .f32) :
    k0_pay6 x g sc sh = Cert.Kernel2Ideal.Gen.k0_pay2 (F := Ideal) x g sc sh := by
  unfold k0_pay6 Cert.Kernel2Ideal.Gen.k0_pay2
  dsimp only

/-- The lanes of one section. -/
theorem lanes_apply (h : FVec Ideal S512x2048 .bf16) (w : FVec Ideal S2048x1024 .bf16) (r : Fin 512) (j : Fin 1024) :
    ((matmul (φ₁ := .bf16) (φ₂ := .bf16) dot_S512x2048_S2048x1024_S512x1024_1_0_0_1_n_n none h w (constant S512x1024 .f32 0x00000000#32) : FVec Ideal S512x1024 .f32) (ix2 r j) : EReal)
      = dotp (fun k => h (ix2 r k)) (fun k => w (ix2 k j)) := by
  refine (Ideal.matmul_plain_apply (M := 512) (K := 2048) (N := 1024) none _ _ _ r j).trans ?_
  rw [constant_apply, Ideal.ofBits_zero_f32, zero_add]
  rfl

theorem pay29_apply (h : FVec Ideal S512x2048 .bf16) (w : Vec Ideal S2048x1024 .bf16) (r : Fin 512) (j : Fin 1024) :
    k0_pay29 h w (ix2 r j) = dotp (fun k => h (ix2 r k)) (fun k => w (ix2 k j)) := by
  unfold k0_pay29
  rw [shapeCast_self]
  exact lanes_apply h w r j
theorem pay19_apply (h : FVec Ideal S512x2048 .bf16) (w : Vec Ideal S2048x1024 .bf16) (r : Fin 512) (j : Fin 1024) :
    k0_pay19 h w (ix2 r j) = dotp (fun k => h (ix2 r k)) (fun k => w (ix2 k j)) := pay29_apply h w r j
theorem pay51_apply (h : FVec Ideal S512x2048 .bf16) (w : Vec Ideal S2048x1024 .bf16) (r : Fin 512) (j : Fin 1024) :
    k0_pay51 h w (ix2 r j) = dotp (fun k => h (ix2 r k)) (fun k => w (ix2 k j)) := pay29_apply h w r j
theorem pay41_apply (h : FVec Ideal S512x2048 .bf16) (w : Vec Ideal S2048x1024 .bf16) (r : Fin 512) (j : Fin 1024) :
    k0_pay41 h w (ix2 r j) = dotp (fun k => h (ix2 r k)) (fun k => w (ix2 k j)) * (((Real.log 256)⁻¹ : ℝ) : EReal) := by
  have e : k0_pay41 h w (ix2 r j) = k0_pay29 h w (ix2 r j) * (Named.named κ "scale" 0x3E38AA3B#32 : Ideal .f32) := rfl
  rw [e, pay29_apply, scale_eq]
theorem pay32_apply (h : FVec Ideal S512x2048 .bf16) (w : Vec Ideal S2048x1024 .bf16) (r : Fin 512) (j : Fin 1024) :
    k0_pay32 (k0_pay30 h w) (k0_pay31 h w) (ix2 r j) = gelu (dotp (fun k => h (ix2 r k)) (fun k => w (ix2 k j))) := by
  have e : k0_pay32 (k0_pay30 h w) (k0_pay31 h w) (ix2 r j)
      = (Ideal.ofBits .f32 0x3F000000#32 * k0_pay29 h w (ix2 r j)) * (Ideal.ofBits .f32 0x3F800000#32 + Ideal.erf (k0_pay29 h w (ix2 r j) * (Named.named κ "root_half" 0x3F3504F3#32 : Ideal .f32))) := rfl
  rw [e, pay29_apply, root_half_eq]
  rfl
theorem pay7_apply (x : Vec Ideal S512x2048 .f32) (g : Vec Ideal S1x2048 .f32) (sc sh : Vec Ideal S1x1x2048 .f32) (w : Vec Ideal S2048x1024 .bf16) (r : Fin 512) (j : Fin 1024) :
    k0_pay7 x g sc sh w (ix2 r j) = gelu (dotp (fun k => k0_pay6 x g sc sh (ix2 r k)) (fun k => w (ix2 k j))) :=
  pay32_apply (k0_pay6 x g sc sh) w r j

theorem sum_row (z : FVec Ideal S512x1024 .f32) (r : Fin 512) :
    multiReduction .add [1] S512 z 0x00000000#32 reduces_S512x1024_S512 (.inl rfl) rfl (ix1 r) = ∑ k : Fin 1024, z (ix2 r k) := by
  refine (Ideal.multiReduction_add_single (s := S512x1024) (t := S512) (a := 1) (φ := .f32) z _ _ _ _ _).trans ?_
  refine Finset.sum_congr rfl fun k _ => congrArg z (funext fun a => ?_)
  match a with
  | ⟨0, _⟩ => rfl
  | ⟨1, _⟩ => rfl

/-- The kernel's column of means. -/
theorem mean_apply (z : FVec Ideal S512x1024 .f32) (r : Fin 512) :
    divf (shapeCast S512x1 (multiReduction .add [1] S512 z 0x00000000#32 reduces_S512x1024_S512 (.inl rfl) rfl) shapeCasts_S512_S512x1)
      (broadcast S512x1 (FloatOps.ofBits (F := Ideal) .f32 0x44800000#32)) (ix2 r (0 : Fin 1)) = mean fun k => z (ix2 r k) := by
  rw [divf_apply, broadcast_apply]
  rw [shapeCast_apply _ _ _ (ix1 r) (by
    rw [Shape.rowMajor_val_one, Shape.rowMajor_val_two]
    show r.val = r.val * 1 + 0
    omega)]
  exact congrArg (fun s => Ideal.div s (Ideal.ofBits .f32 0x44800000#32)) (sum_row z r)

theorem spread_apply (z : FVec Ideal S512x1 .f32) (r : Fin 512) (l : Fin 1024) :
    broadcastTo S512x1024 z broadcasts_S512x1_S512x1024 (ix2 r l) = z (ix2 r (0 : Fin 1)) :=
  broadcastTo_apply _ _ _ (ix2 r (0 : Fin 1)) fun a => by
    match a with
    | ⟨0, _⟩ => rfl
    | ⟨1, _⟩ => rfl

theorem pay9_apply (z : FVec Ideal S512x1024 .f32) (g b : Vec Ideal S1x1024 .f32) (r : Fin 512) (l : Fin 1024) :
    k0_pay9 z (multiReduction .add [1] S512 z 0x00000000#32 reduces_S512x1024_S512 (.inl rfl) rfl) g b (ix2 r l)
      = lnorm (fun k => z (ix2 r k)) (fun k => g (ix2 (0 : Fin 1) k)) (fun k => b (ix2 (0 : Fin 1) k)) l := by
  unfold k0_pay9
  dsimp only
  rw [shapeCast_self, shapeCast_self]
  rw [truncf_apply, addf_apply, mulf_apply, mulf_apply, broadcastTo_1b_ab_apply, broadcastTo_1b_ab_apply, spread_apply, subf_apply, spread_apply]
  have hm := mean_apply z r
  unfold lnorm
  have hv := mean_apply (mulf (subf z (broadcastTo S512x1024 (divf (shapeCast S512x1 (multiReduction .add [1] S512 z 0x00000000#32 reduces_S512x1024_S512 (.inl rfl) rfl) shapeCasts_S512_S512x1)
      (broadcast S512x1 (FloatOps.ofBits (F := Ideal) .f32 0x44800000#32))) broadcasts_S512x1_S512x1024))
      (subf z (broadcastTo S512x1024 (divf (shapeCast S512x1 (multiReduction .add [1] S512 z 0x00000000#32 reduces_S512x1024_S512 (.inl rfl) rfl) shapeCasts_S512_S512x1)
      (broadcast S512x1 (FloatOps.ofBits (F := Ideal) .f32 0x44800000#32))) broadcasts_S512x1_S512x1024))) r
  simp only [mulf_apply, subf_apply, spread_apply, hm] at hv
  rw [← hv, ← hm]
  rfl

end Cert.Kernel3Ideal.Prj
end
-- ==== Proof.Prj.Out.lean ====
/- What one grid point writes: the five sections of the projection, cut into slabs of 128 lanes. -/
module

public import proofs.«01_k».proof.Proof.Prj.Math
public import Idealize.ShloMosaic.Lib.Pipeline.ValueKit.Tiles

@[expose] public section
set_option maxRecDepth 65536
noncomputable section
namespace Cert.Kernel3Ideal.Prj
open Idealize.ShloMosaic Idealize.ShloMosaic.TcCoe Idealize.ShloMosaic.Tactic Idealize.ShloMosaic.ValueIdx
open Cert.Kernel3Ideal.Gen
open Cert.Kernel2Ideal.Ffn (normed dotp)

variable (b0 : Vec Ideal S512x2048 .f32) (b1 b2 : Vec Ideal S1x1x2048 .f32) (b3 : Vec Ideal S1x2048 .f32) (b4 b5 : Vec Ideal S1x1024 .f32)
  (b6 : Vec Ideal S2048x5120 .bf16)

/-- The five sections of the result, each 1024 lanes of the block's 512 rows. -/
def sec : ℕ → FVec Ideal S512x1024 .bf16
  | 0 => k0_pay63 b0 b1 b2 b3 b4 b5 b6
  | 1 => k0_pay60 b0 b1 b2 b3 b4 b5 b6
  | 2 => k0_pay64 b0 b1 b2 b3 b4 b5 b6
  | 3 => k0_pay32 (k0_pay61 b0 b1 b2 b3 b4 b5 b6) (k0_pay62 b0 b1 b2 b3 b4 b5 b6)
  | _ => k0_pay59 b0 b1 b2 b3 b4 b5 b6

/-- Lane `l` of row `r` of section `k`. -/
def cell (Z : ℕ → FVec Ideal S512x1024 .bf16) (k r l : ℕ) : EReal :=
  if h : r < 512 ∧ l < 1024 then Z k (ix2 (⟨r, h.1⟩ : Fin 512) (⟨l, h.2⟩ : Fin 1024)) else 0

theorem slab_piece (Z : ℕ → FVec Ideal S512x1024 .bf16) (j o : ℕ) (hs : S512x1024.Slices ![0, o] S512x128) (hc : S512x128.ShapeCasts S1x512x128)
    (x : S1x512x128.Idx) (n r l : ℕ) (hn : n / 8 = j) (hm : 128 * (n % 8) = o) (ho : o ≤ 896) (hr : r = (x (1 : Fin 3)).val) (hl : l = (x (2 : Fin 3)).val) :
    shapeCast S1x512x128 (extractStridedSlice S512x128 ![0, o] (Z j) hs) hc x = cell Z (n / 8) r (128 * (n % 8) + l) := by
  subst hr hl hn
  have h0 : (x (0 : Fin 3)).val < 1 := (x (0 : Fin 3)).isLt
  have h1 : (x (1 : Fin 3)).val < 512 := (x (1 : Fin 3)).isLt
  have h2 : (x (2 : Fin 3)).val < 128 := (x (2 : Fin 3)).isLt
  refine (shapeCast_apply _ _ _ (ix2 (⟨(x (1 : Fin 3)).val, h1⟩ : Fin 512) (⟨(x (2 : Fin 3)).val, h2⟩ : Fin 128)) (by
    rw [Shape.rowMajor_val_two, Shape.rowMajor_val_three]
    show (x (1 : Fin 3)).val * 128 + (x (2 : Fin 3)).val = ((x (0 : Fin 3)).val * 512 + (x (1 : Fin 3)).val) * 128 + (x (2 : Fin 3)).val
    omega)).trans ?_
  rw [cell, dif_pos ⟨h1, by omega⟩]
  exact slice2_axis1_apply o _ _ _ _ _ (by show 128 * (n % 8) + (x (2 : Fin 3)).val = o + (x (2 : Fin 3)).val; omega)

set_option maxHeartbeats 4000000 in
theorem out_apply (y : S40x512x128.Idx) :
    out0_7 b0 b1 b2 b3 b4 b5 b6 y = cell (sec b0 b1 b2 b3 b4 b5 b6) ((y (0 : Fin 3)).val / 8) (y (1 : Fin 3)).val (128 * ((y (0 : Fin 3)).val % 8) + (y (2 : Fin 3)).val) := by
  unfold out0_7
  canon_tiles x h using Gen.cover0_7 ..
  · exact slab_piece (sec b0 b1 b2 b3 b4 b5 b6) 2 896 slices_S512x1024_o0_896_S512x128 shapeCasts_S512x128_S1x512x128 x _ _ _ (by omega) (by omega) (by omega) (by omega) (by omega)
  · exact slab_piece (sec b0 b1 b2 b3 b4 b5 b6) 2 768 slices_S512x1024_o0_768_S512x128 shapeCasts_S512x128_S1x512x128 x _ _ _ (by omega) (by omega) (by omega) (by omega) (by omega)
  · exact slab_piece (sec b0 b1 b2 b3 b4 b5 b6) 2 640 slices_S512x1024_o0_640_S512x128 shapeCasts_S512x128_S1x512x128 x _ _ _ (by omega) (by omega) (by omega) (by omega) (by omega)
  · exact slab_piece (sec b0 b1 b2 b3 b4 b5 b6) 2 512 slices_S512x1024_o0_512_S512x128 shapeCasts_S512x128_S1x512x128 x _ _ _ (by omega) (by omega) (by omega) (by omega) (by omega)
  · exact slab_piece (sec b0 b1 b2 b3 b4 b5 b6) 2 384 slices_S512x1024_o0_384_S512x128 shapeCasts_S512x128_S1x512x128 x _ _ _ (by omega) (by omega) (by omega) (by omega) (by omega)
  · exact slab_piece (sec b0 b1 b2 b3 b4 b5 b6) 2 256 slices_S512x1024_o0_256_S512x128 shapeCasts_S512x128_S1x512x128 x _ _ _ (by omega) (by omega) (by omega) (by omega) (by omega)
  · exact slab_piece (sec b0 b1 b2 b3 b4 b5 b6) 2 128 slices_S512x1024_o0_128_S512x128 shapeCasts_S512x128_S1x512x128 x _ _ _ (by omega) (by omega) (by omega) (by omega) (by omega)
  · exact slab_piece (sec b0 b1 b2 b3 b4 b5 b6) 2 0 slices_S512x1024_o0_0_S512x128 shapeCasts_S512x128_S1x512x128 x _ _ _ (by omega) (by omega) (by omega) (by omega) (by omega)
  · exact slab_piece (sec b0 b1 b2 b3 b4 b5 b6) 0 896 slices_S512x1024_o0_896_S512x128 shapeCasts_S512x128_S1x512x128 x _ _ _ (by omega) (by omega) (by omega) (by omega) (by omega)
  · exact slab_piece (sec b0 b1 b2 b3 b4 b5 b6) 0 768 slices_S512x1024_o0_768_S512x128 shapeCasts_S512x128_S1x512x128 x _ _ _ (by omega) (by omega) (by omega) (by omega) (by omega)
  · exact slab_piece (sec b0 b1 b2 b3 b4 b5 b6) 0 640 slices_S512x1024_o0_640_S512x128 shapeCasts_S512x128_S1x512x128 x _ _ _ (by omega) (by omega) (by omega) (by omega) (by omega)
  · exact slab_piece (sec b0 b1 b2 b3 b4 b5 b6) 0 512 slices_S512x1024_o0_512_S512x128 shapeCasts_S512x128_S1x512x128 x _ _ _ (by omega) (by omega) (by omega) (by omega) (by omega)
  · exact slab_piece (sec b0 b1 b2 b3 b4 b5 b6) 0 384 slices_S512x1024_o0_384_S512x128 shapeCasts_S512x128_S1x512x128 x _ _ _ (by omega) (by omega) (by omega) (by omega) (by omega)
  · exact slab_piece (sec b0 b1 b2 b3 b4 b5 b6) 0 256 slices_S512x1024_o0_256_S512x128 shapeCasts_S512x128_S1x512x128 x _ _ _ (by omega) (by omega) (by omega) (by omega) (by omega)
  · exact slab_piece (sec b0 b1 b2 b3 b4 b5 b6) 0 128 slices_S512x1024_o0_128_S512x128 shapeCasts_S512x128_S1x512x128 x _ _ _ (by omega) (by omega) (by omega) (by omega) (by omega)
  · exact slab_piece (sec b0 b1 b2 b3 b4 b5 b6) 0 0 slices_S512x1024_o0_0_S512x128 shapeCasts_S512x128_S1x512x128 x _ _ _ (by omega) (by omega) (by omega) (by omega) (by omega)
  · exact slab_piece (sec b0 b1 b2 b3 b4 b5 b6) 3 896 slices_S512x1024_o0_896_S512x128 shapeCasts_S512x128_S1x512x128 x _ _ _ (by omega) (by omega) (by omega) (by omega) (by omega)
  · exact slab_piece (sec b0 b1 b2 b3 b4 b5 b6) 3 768 slices_S512x1024_o0_768_S512x128 shapeCasts_S512x128_S1x512x128 x _ _ _ (by omega) (by omega) (by omega) (by omega) (by omega)
  · exact slab_piece (sec b0 b1 b2 b3 b4 b5 b6) 3 640 slices_S512x1024_o0_640_S512x128 shapeCasts_S512x128_S1x512x128 x _ _ _ (by omega) (by omega) (by omega) (by omega) (by omega)
  · exact slab_piece (sec b0 b1 b2 b3 b4 b5 b6) 3 512 slices_S512x1024_o0_512_S512x128 shapeCasts_S512x128_S1x512x128 x _ _ _ (by omega) (by omega) (by omega) (by omega) (by omega)
  · exact slab_piece (sec b0 b1 b2 b3 b4 b5 b6) 3 384 slices_S512x1024_o0_384_S512x128 shapeCasts_S512x128_S1x512x128 x _ _ _ (by omega) (by omega) (by omega) (by omega) (by omega)
  · exact slab_piece (sec b0 b1 b2 b3 b4 b5 b6) 3 256 slices_S512x1024_o0_256_S512x128 shapeCasts_S512x128_S1x512x128 x _ _ _ (by omega) (by omega) (by omega) (by omega) (by omega)
  · exact slab_piece (sec b0 b1 b2 b3 b4 b5 b6) 3 128 slices_S512x1024_o0_128_S512x128 shapeCasts_S512x128_S1x512x128 x _ _ _ (by omega) (by omega) (by omega) (by omega) (by omega)
  · exact slab_piece (sec b0 b1 b2 b3 b4 b5 b6) 3 0 slices_S512x1024_o0_0_S512x128 shapeCasts_S512x128_S1x512x128 x _ _ _ (by omega) (by omega) (by omega) (by omega) (by omega)
  · exact slab_piece (sec b0 b1 b2 b3 b4 b5 b6) 1 896 slices_S512x1024_o0_896_S512x128 shapeCasts_S512x128_S1x512x128 x _ _ _ (by omega) (by omega) (by omega) (by omega) (by omega)
  · exact slab_piece (sec b0 b1 b2 b3 b4 b5 b6) 1 768 slices_S512x1024_o0_768_S512x128 shapeCasts_S512x128_S1x512x128 x _ _ _ (by omega) (by omega) (by omega) (by omega) (by omega)
  · exact slab_piece (sec b0 b1 b2 b3 b4 b5 b6) 1 640 slices_S512x1024_o0_640_S512x128 shapeCasts_S512x128_S1x512x128 x _ _ _ (by omega) (by omega) (by omega) (by omega) (by omega)
  · exact slab_piece (sec b0 b1 b2 b3 b4 b5 b6) 1 512 slices_S512x1024_o0_512_S512x128 shapeCasts_S512x128_S1x512x128 x _ _ _ (by omega) (by omega) (by omega) (by omega) (by omega)
  · exact slab_piece (sec b0 b1 b2 b3 b4 b5 b6) 1 384 slices_S512x1024_o0_384_S512x128 shapeCasts_S512x128_S1x512x128 x _ _ _ (by omega) (by omega) (by omega) (by omega) (by omega)
  · exact slab_piece (sec b0 b1 b2 b3 b4 b5 b6) 1 256 slices_S512x1024_o0_256_S512x128 shapeCasts_S512x128_S1x512x128 x _ _ _ (by omega) (by omega) (by omega) (by omega) (by omega)
  · exact slab_piece (sec b0 b1 b2 b3 b4 b5 b6) 1 128 slices_S512x1024_o0_128_S512x128 shapeCasts_S512x128_S1x512x128 x _ _ _ (by omega) (by omega) (by omega) (by omega) (by omega)
  · exact slab_piece (sec b0 b1 b2 b3 b4 b5 b6) 1 0 slices_S512x1024_o0_0_S512x128 shapeCasts_S512x128_S1x512x128 x _ _ _ (by omega) (by omega) (by omega) (by omega) (by omega)
  · exact slab_piece (sec b0 b1 b2 b3 b4 b5 b6) 4 896 slices_S512x1024_o0_896_S512x128 shapeCasts_S512x128_S1x512x128 x _ _ _ (by omega) (by omega) (by omega) (by omega) (by omega)
  · exact slab_piece (sec b0 b1 b2 b3 b4 b5 b6) 4 768 slices_S512x1024_o0_768_S512x128 shapeCasts_S512x128_S1x512x128 x _ _ _ (by omega) (by omega) (by omega) (by omega) (by omega)
  · exact slab_piece (sec b0 b1 b2 b3 b4 b5 b6) 4 640 slices_S512x1024_o0_640_S512x128 shapeCasts_S512x128_S1x512x128 x _ _ _ (by omega) (by omega) (by omega) (by omega) (by omega)
  · exact slab_piece (sec b0 b1 b2 b3 b4 b5 b6) 4 512 slices_S512x1024_o0_512_S512x128 shapeCasts_S512x128_S1x512x128 x _ _ _ (by omega) (by omega) (by omega) (by omega) (by omega)
  · exact slab_piece (sec b0 b1 b2 b3 b4 b5 b6) 4 384 slices_S512x1024_o0_384_S512x128 shapeCasts_S512x128_S1x512x128 x _ _ _ (by omega) (by omega) (by omega) (by omega) (by omega)
  · exact slab_piece (sec b0 b1 b2 b3 b4 b5 b6) 4 256 slices_S512x1024_o0_256_S512x128 shapeCasts_S512x128_S1x512x128 x _ _ _ (by omega) (by omega) (by omega) (by omega) (by omega)
  · exact slab_piece (sec b0 b1 b2 b3 b4 b5 b6) 4 128 slices_S512x1024_o0_128_S512x128 shapeCasts_S512x128_S1x512x128 x _ _ _ (by omega) (by omega) (by omega) (by omega) (by omega)
  · exact slab_piece (sec b0 b1 b2 b3 b4 b5 b6) 4 0 slices_S512x1024_o0_0_S512x128 shapeCasts_S512x128_S1x512x128 x _ _ _ (by omega) (by omega) (by omega) (by omega) (by omega)

end Cert.Kernel3Ideal.Prj
end
-- ==== Proof.Prj.Spec.lean ====
/- The projection's result, section by section. -/
module

public import proofs.«01_k».proof.Proof.Prj.Out

@[expose] public section
set_option maxRecDepth 65536
noncomputable section
namespace Cert.Kernel3Ideal.Prj
open Idealize.ShloMosaic Idealize.ShloMosaic.TcCoe Idealize.ShloMosaic.Tactic Idealize.ShloMosaic.ValueIdx
open Cert.Kernel3Ideal.Gen
open Cert.Kernel2Ideal.Ffn (normed dotp bat pos rowX rowH)

/-- Section `k` of a row: `h` is the normalised row, `w` the weights, `g` and `b` the layer normalisation's. -/
def secVal (h : Fin 2048 → EReal) (w : Fin 2048 → Fin 5120 → EReal) (g b : Fin 1024 → EReal) : ℕ → Fin 1024 → EReal
  | 0 => fun l => dotp h (fun i => w i (⟨l.val, by omega⟩ : Fin 5120)) * (((Real.log 256)⁻¹ : ℝ) : EReal)
  | 1 => fun l => dotp h (fun i => w i (⟨1024 + l.val, by omega⟩ : Fin 5120))
  | 2 => fun l => dotp h (fun i => w i (⟨2048 + l.val, by omega⟩ : Fin 5120))
  | 3 => fun l => gelu (dotp h (fun i => w i (⟨3072 + l.val, by omega⟩ : Fin 5120)))
  | _ => lnorm (fun l => gelu (dotp h (fun i => w i (⟨4096 + l.val, by omega⟩ : Fin 5120)))) g b

section Block
variable (b0 : Vec Ideal S512x2048 .f32) (b1 b2 : Vec Ideal S1x1x2048 .f32) (b3 : Vec Ideal S1x2048 .f32) (b4 b5 : Vec Ideal S1x1024 .f32)
  (b6 : Vec Ideal S2048x5120 .bf16)

/-- The normalised row of a block. -/
def blkH (r : Fin 512) : Fin 2048 → EReal :=
  normed (fun k => b0 (ix2 r k)) (fun k => b3 (ix2 (0 : Fin 1) k)) (fun k => b2 (ix3 (0 : Fin 1) (0 : Fin 1) k)) (fun k => b1 (ix3 (0 : Fin 1) (0 : Fin 1) k))

theorem ldx (x : Vec Ideal S512x2048 .f32) : View.ld x r0_0 = x := View.ld_unit_zero (S := S512x2048) (off := (![0, 0] : Fin 2 → Nat)) (show (![0, 0] : Fin 2 → Nat) = fun _ => 0 by decide) _ x
theorem ldg (x : Vec Ideal S1x2048 .f32) : View.ld x r0_1 = x := View.ld_unit_zero (S := S1x2048) (off := (![0, 0] : Fin 2 → Nat)) (show (![0, 0] : Fin 2 → Nat) = fun _ => 0 by decide) _ x
theorem ldm (x : Vec Ideal S1x1x2048 .f32) : View.ld x r0_2 = x := View.ld_unit_zero (S := S1x1x2048) (off := (![0, 0, 0] : Fin 3 → Nat)) (show (![0, 0, 0] : Fin 3 → Nat) = fun _ => 0 by decide) _ x
theorem ldn (x : Vec Ideal S1x1024 .f32) : View.ld x r0_4 = x := View.ld_unit_zero (S := S1x1024) (off := (![0, 0] : Fin 2 → Nat)) (show (![0, 0] : Fin 2 → Nat) = fun _ => 0 by decide) _ x
theorem ldw0 (x : Vec Ideal S2048x5120 .bf16) (i : Fin 2048) (l : Fin 1024) :
    View.ld x r0_31 (ix2 i l) = x (ix2 i (⟨l.val, by omega⟩ : Fin 5120)) :=
  View.ld_unit_apply_of _ _ _ _ _ _ fun a => by
    match a with
    | ⟨0, _⟩ => show i.val = 0 + i.val; omega
    | ⟨1, _⟩ => show l.val = 0 + l.val; omega
theorem ldw1024 (x : Vec Ideal S2048x5120 .bf16) (i : Fin 2048) (l : Fin 1024) :
    View.ld x r0_13 (ix2 i l) = x (ix2 i (⟨1024 + l.val, by omega⟩ : Fin 5120)) :=
  View.ld_unit_apply_of _ _ _ _ _ _ fun a => by
    match a with
    | ⟨0, _⟩ => show i.val = 0 + i.val; omega
    | ⟨1, _⟩ => show 1024 + l.val = 1024 + l.val; omega
theorem ldw2048 (x : Vec Ideal S2048x5120 .bf16) (i : Fin 2048) (l : Fin 1024) :
    View.ld x r0_40 (ix2 i l) = x (ix2 i (⟨2048 + l.val, by omega⟩ : Fin 5120)) :=
  View.ld_unit_apply_of _ _ _ _ _ _ fun a => by
    match a with
    | ⟨0, _⟩ => show i.val = 0 + i.val; omega
    | ⟨1, _⟩ => show 2048 + l.val = 2048 + l.val; omega
theorem ldw3072 (x : Vec Ideal S2048x5120 .bf16) (i : Fin 2048) (l : Fin 1024) :
    View.ld x r0_22 (ix2 i l) = x (ix2 i (⟨3072 + l.val, by omega⟩ : Fin 5120)) :=
  View.ld_unit_apply_of _ _ _ _ _ _ fun a => by
    match a with
    | ⟨0, _⟩ => show i.val = 0 + i.val; omega
    | ⟨1, _⟩ => show 3072 + l.val = 3072 + l.val; omega
theorem ldw4096 (x : Vec Ideal S2048x5120 .bf16) (i : Fin 2048) (l : Fin 1024) :
    View.ld x r0_3 (ix2 i l) = x (ix2 i (⟨4096 + l.val, by omega⟩ : Fin 5120)) :=
  View.ld_unit_apply_of _ _ _ _ _ _ fun a => by
    match a with
    | ⟨0, _⟩ => show i.val = 0 + i.val; omega
    | ⟨1, _⟩ => show 4096 + l.val = 4096 + l.val; omega

theorem pay56_apply (r : Fin 512) (k : Fin 2048) : k0_pay56 b0 b1 b2 b3 b4 b5 b6 (ix2 r k) = blkH b0 b1 b2 b3 r k := by
  unfold k0_pay56
  rw [ldx, ldg, ldm, ldm, pay6_eq]
  exact Cert.Kernel2Ideal.Ffn.pay2_apply _ _ _ _ _ _

theorem sec0 (r : Fin 512) (l : Fin 1024) : k0_pay63 b0 b1 b2 b3 b4 b5 b6 (ix2 r l)
    = dotp (blkH b0 b1 b2 b3 r) (fun i => b6 (ix2 i (⟨l.val, by omega⟩ : Fin 5120))) * (((Real.log 256)⁻¹ : ℝ) : EReal) := by
  unfold k0_pay63
  rw [pay41_apply]
  simp only [pay56_apply]
  exact congrArg (fun w => dotp (blkH b0 b1 b2 b3 r) w * (((Real.log 256)⁻¹ : ℝ) : EReal)) (funext fun i => ldw0 b6 i l)
theorem sec1 (r : Fin 512) (l : Fin 1024) : k0_pay60 b0 b1 b2 b3 b4 b5 b6 (ix2 r l)
    = dotp (blkH b0 b1 b2 b3 r) (fun i => b6 (ix2 i (⟨1024 + l.val, by omega⟩ : Fin 5120))) := by
  unfold k0_pay60
  rw [pay19_apply]
  simp only [pay56_apply]
  exact congrArg (fun w => dotp (blkH b0 b1 b2 b3 r) w) (funext fun i => ldw1024 b6 i l)
theorem sec2 (r : Fin 512) (l : Fin 1024) : k0_pay64 b0 b1 b2 b3 b4 b5 b6 (ix2 r l)
    = dotp (blkH b0 b1 b2 b3 r) (fun i => b6 (ix2 i (⟨2048 + l.val, by omega⟩ : Fin 5120))) := by
  unfold k0_pay64
  rw [pay51_apply]
  simp only [pay56_apply]
  exact congrArg (fun w => dotp (blkH b0 b1 b2 b3 r) w) (funext fun i => ldw2048 b6 i l)
theorem sec3 (r : Fin 512) (l : Fin 1024) : k0_pay32 (k0_pay61 b0 b1 b2 b3 b4 b5 b6) (k0_pay62 b0 b1 b2 b3 b4 b5 b6) (ix2 r l)
    = gelu (dotp (blkH b0 b1 b2 b3 r) (fun i => b6 (ix2 i (⟨3072 + l.val, by omega⟩ : Fin 5120)))) := by
  unfold k0_pay61 k0_pay62
  rw [pay32_apply]
  simp only [pay56_apply]
  exact congrArg (fun w => gelu (dotp (blkH b0 b1 b2 b3 r) w)) (funext fun i => ldw3072 b6 i l)
theorem ge_apply (r : Fin 512) (l : Fin 1024) : k0_pay57 b0 b1 b2 b3 b4 b5 b6 (ix2 r l)
    = gelu (dotp (blkH b0 b1 b2 b3 r) (fun i => b6 (ix2 i (⟨4096 + l.val, by omega⟩ : Fin 5120)))) := by
  have e : k0_pay57 b0 b1 b2 b3 b4 b5 b6 (ix2 r l) = gelu (dotp (fun k => k0_pay56 b0 b1 b2 b3 b4 b5 b6 (ix2 r k)) (fun k => View.ld b6 r0_3 (ix2 k l))) :=
    pay7_apply _ _ _ _ _ _ _
  rw [e]
  simp only [pay56_apply]
  exact congrArg (fun w => gelu (dotp (blkH b0 b1 b2 b3 r) w)) (funext fun i => ldw4096 b6 i l)
theorem sec4 (r : Fin 512) (l : Fin 1024) : k0_pay59 b0 b1 b2 b3 b4 b5 b6 (ix2 r l)
    = lnorm (fun k => gelu (dotp (blkH b0 b1 b2 b3 r) (fun i => b6 (ix2 i (⟨4096 + k.val, by omega⟩ : Fin 5120)))))
        (fun k => b4 (ix2 (0 : Fin 1) k)) (fun k => b5 (ix2 (0 : Fin 1) k)) l := by
  have e := pay9_apply (k0_pay57 b0 b1 b2 b3 b4 b5 b6) (View.ld b4 r0_4) (View.ld b5 r0_4) r l
  rw [ldn, ldn] at e
  simp only [ge_apply] at e
  refine Eq.trans ?_ e
  rw [k0_pay59, ldn, ldn]
  rfl

theorem sec_apply (k : ℕ) (r : Fin 512) (l : Fin 1024) : sec b0 b1 b2 b3 b4 b5 b6 k (ix2 r l)
    = secVal (blkH b0 b1 b2 b3 r) (fun i q => b6 (ix2 i q)) (fun k => b4 (ix2 (0 : Fin 1) k)) (fun k => b5 (ix2 (0 : Fin 1) k)) k l :=
  match k with
  | 0 => sec0 b0 b1 b2 b3 b4 b5 b6 r l
  | 1 => sec1 b0 b1 b2 b3 b4 b5 b6 r l
  | 2 => sec2 b0 b1 b2 b3 b4 b5 b6 r l
  | 3 => sec3 b0 b1 b2 b3 b4 b5 b6 r l
  | _ + 4 => sec4 b0 b1 b2 b3 b4 b5 b6 r l
end Block

variable (x0 : Vec Ideal S4x4096x2048 .f32) (x1 x2 : Vec Ideal S4x2048 .f32) (x3 : Vec Ideal S2048 .f32) (x4 x5 : Vec Ideal S1024 .f32)
  (x6 : Vec Ideal S2048x5120 .f32)

/-- Section `k` of row `n` of the result. -/
def target (k : ℕ) (n : Fin 16384) (l : Fin 1024) : EReal :=
  secVal (rowH x0 x1 x2 x3 n) (fun i q => x6 (ix2 i q)) (fun k => x4 (ix1 k)) (fun k => x5 (ix1 k)) k l
/-- The result: slab `s` holds lanes `128 (s mod 8)` and on of section `s / 8`. -/
def result : Vec Ideal S40x16384x128 .bf16 := fun i =>
  target x0 x1 x2 x3 x4 x5 x6 ((i (0 : Fin 3)).val / 8) ⟨(i (1 : Fin 3)).val, (i (1 : Fin 3)).isLt⟩
    ⟨128 * ((i (0 : Fin 3)).val % 8) + (i (2 : Fin 3)).val, by
      have h : (i (2 : Fin 3)).val < 128 := (i (2 : Fin 3)).isLt
      omega⟩

end Cert.Kernel3Ideal.Prj
end
-- ==== Proof.Prj.Value.lean ====
/- The blocks the projection's body reads at each grid point, in terms of the arguments, and the result array. -/
module

public import proofs.«01_k».proof.Proof.Prj.Spec
public import proofs.«01_k».proof.Proof.Ffn.Points

@[expose] public section
set_option maxRecDepth 65536
noncomputable section
namespace Cert.Kernel3Ideal.Prj
open Idealize.ShloMosaic Idealize.ShloMosaic.TcCoe Idealize.ShloMosaic.Tactic Idealize.ShloMosaic.ValueIdx
open Cert.Kernel3Ideal.Gen Idealize.SL.Sem Idealize.ShloMosaic.StableHlo
open Cert.Kernel2Ideal.Ffn (normed dotp bat pos rowX rowH placed2 placed3)

variable (m : (l : Loc nD τ sig) → Buf (Elt Ideal) l) (ρ : Dev nD → PrngReg) (c : Dev nD)

def a0 : Vec Ideal S4x4096x2048 .f32 := m ((c : Thread nD τ).loc main_arg0)
def a1 : Vec Ideal S4x2048 .f32 := m ((c : Thread nD τ).loc main_arg1)
def a2 : Vec Ideal S4x2048 .f32 := m ((c : Thread nD τ).loc main_arg2)
def a3 : Vec Ideal S2048 .f32 := m ((c : Thread nD τ).loc main_arg3)
def a4 : Vec Ideal S1024 .f32 := m ((c : Thread nD τ).loc main_arg4)
def a5 : Vec Ideal S1024 .f32 := m ((c : Thread nD τ).loc main_arg5)
def a6 : Vec Ideal S2048x5120 .f32 := m ((c : Thread nD τ).loc main_arg6)

theorem V_v0 : V m c main_v0 = shapeCast S16384x2048 (a0 m c) shapeCasts_S4x4096x2048_S16384x2048 := by
  show StableHlo.after hostOps0 _ _ = _
  simp only [hostOps0]
  after_results_simp
  rfl
theorem V_v1 : V m c main_v1 = shapeCast S4x1x2048 (a1 m c) shapeCasts_S4x2048_S4x1x2048 := by
  show StableHlo.after hostOps0 _ _ = _
  simp only [hostOps0]
  after_results_simp
  rfl
theorem V_v2 : V m c main_v2 = shapeCast S4x1x2048 (a2 m c) shapeCasts_S4x2048_S4x1x2048 := by
  show StableHlo.after hostOps0 _ _ = _
  simp only [hostOps0]
  after_results_simp
  rfl
theorem V_v3 : V m c main_v3 = shapeCast S1x2048 (a3 m c) shapeCasts_S2048_S1x2048 := by
  show StableHlo.after hostOps0 _ _ = _
  simp only [hostOps0]
  after_results_simp
  rfl
theorem V_v4 : V m c main_v4 = shapeCast S1x1024 (a4 m c) shapeCasts_S1024_S1x1024 := by
  show StableHlo.after hostOps0 _ _ = _
  simp only [hostOps0]
  after_results_simp
  rfl
theorem V_v5 : V m c main_v5 = shapeCast S1x1024 (a5 m c) shapeCasts_S1024_S1x1024 := by
  show StableHlo.after hostOps0 _ _ = _
  simp only [hostOps0]
  after_results_simp
  rfl
theorem V_v6 : V m c main_v6 = truncf (F := Ideal) (φ := .f32) .bf16 (a6 m c) bitsLt_bf16_f32 := by
  show StableHlo.after hostOps0 _ _ = _
  simp only [hostOps0]
  after_results_simp
  rfl

/-- Row `r` of the block of rows point `t` works on. -/
def rowAt (t : Fin cfg0.N) (r : Fin 512) : Fin 16384 := ⟨512 * t.val + r.val, by have := lt_of_lt_of_eq t.isLt N_0; omega⟩
theorem bat_rowAt (t : Fin cfg0.N) (r : Fin 512) : (bat (rowAt t r)).val = t.val / 8 := by
  show (512 * t.val + r.val) / 4096 = _
  omega

theorem at0 : ∀ t : Fin cfg0.N, win0_0.index t = ![t.val, 0] := (by decide +kernel : ∀ t : Fin grid0.N, _)
theorem at1 : ∀ t : Fin cfg0.N, win0_1.index t = ![t.val / 8, 0, 0] := (by decide +kernel : ∀ t : Fin grid0.N, _)
theorem at2 : ∀ t : Fin cfg0.N, win0_2.index t = ![t.val / 8, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t (0 : Fin 3) = 0 ∧ win0_7.index t (1 : Fin 3) = t.val ∧ win0_7.index t (2 : Fin 3) = 0 := (by decide +kernel : ∀ t : Fin grid0.N, _)

theorem iblk_x (t : Fin cfg0.N) (r : Fin 512) (k : Fin 2048) : iblk m c 0 t (ix2 r k) = rowX (a0 m c) (rowAt t r) k := by
  refine (congrArg (V m c main_v0) (placed2 (P := 0) (q := 2048) (at0 t) r k (((cfg0.win 0).blk t).view.emb (ix2 r k)) (rowAt t r) rfl rfl
    (by show 512 * t.val + r.val = t.val * 512 + r.val; omega))).trans ?_
  rw [V_v0]
  refine shapeCast_apply _ _ _ (ix3 (bat (rowAt t r)) (pos (rowAt t r)) k) ?_
  rw [Shape.rowMajor_val_two, Shape.rowMajor_val_three]
  show ((rowAt t r).val / 4096 * 4096 + (rowAt t r).val % 4096) * 2048 + k.val = (rowAt t r).val * 2048 + k.val
  omega

theorem iblk_sh (t : Fin cfg0.N) (r : Fin 512) (k : Fin 2048) : iblk m c 1 t (ix3 (0 : Fin 1) (0 : Fin 1) k) = a1 m c (ix2 (bat (rowAt t r)) k) := by
  refine (congrArg (V m c main_v1) (placed3 (p := 1) (q := 2048) (at1 t) (0 : Fin 1) k (((cfg0.win 1).blk t).view.emb (ix3 (0 : Fin 1) (0 : Fin 1) k)) (bat (rowAt t r)) rfl rfl rfl (bat_rowAt t r))).trans ?_
  rw [V_v1]
  exact Cert.Kernel2Ideal.Ffn.mod_apply _ _ _
theorem iblk_sc (t : Fin cfg0.N) (r : Fin 512) (k : Fin 2048) : iblk m c 2 t (ix3 (0 : Fin 1) (0 : Fin 1) k) = a2 m c (ix2 (bat (rowAt t r)) k) := by
  refine (congrArg (V m c main_v2) (placed3 (p := 1) (q := 2048) (at2 t) (0 : Fin 1) k (((cfg0.win 2).blk t).view.emb (ix3 (0 : Fin 1) (0 : Fin 1) k)) (bat (rowAt t r)) rfl rfl rfl (bat_rowAt t r))).trans ?_
  rw [V_v2]
  exact Cert.Kernel2Ideal.Ffn.mod_apply _ _ _
theorem iblk_pre (t : Fin cfg0.N) (k : Fin 2048) : iblk m c 3 t (ix2 (0 : Fin 1) k) = a3 m c (ix1 k) := by
  refine (congrArg (V m c main_v3) (placed2 (P := 0) (q := 2048) (at3 t) (0 : Fin 1) k (((cfg0.win 3).blk t).view.emb (ix2 (0 : Fin 1) k)) (0 : Fin 1) rfl rfl rfl)).trans ?_
  rw [V_v3]
  exact shapeCast_a_1a_apply _ _ _ _
theorem iblk_lng (t : Fin cfg0.N) (k : Fin 1024) : iblk m c 4 t (ix2 (0 : Fin 1) k) = a4 m c (ix1 k) := by
  refine (congrArg (V m c main_v4) (placed2 (P := 0) (q := 1024) (at4 t) (0 : Fin 1) k (((cfg0.win 4).blk t).view.emb (ix2 (0 : Fin 1) k)) (0 : Fin 1) rfl rfl rfl)).trans ?_
  rw [V_v4]
  exact shapeCast_a_1a_apply _ _ _ _
theorem iblk_lnb (t : Fin cfg0.N) (k : Fin 1024) : iblk m c 5 t (ix2 (0 : Fin 1) k) = a5 m c (ix1 k) := by
  refine (congrArg (V m c main_v5) (placed2 (P := 0) (q := 1024) (at5 t) (0 : Fin 1) k (((cfg0.win 5).blk t).view.emb (ix2 (0 : Fin 1) k)) (0 : Fin 1) rfl rfl rfl)).trans ?_
  rw [V_v5]
  exact shapeCast_a_1a_apply _ _ _ _
theorem iblk_w (t : Fin cfg0.N) (i : Fin 2048) (q : Fin 5120) : iblk m c 6 t (ix2 i q) = a6 m c (ix2 i q) := by
  refine (congrArg (V m c main_v6) (placed2 (P := 0) (q := 5120) (at6 t) i q (((cfg0.win 6).blk t).view.emb (ix2 i q)) i rfl rfl (by omega))).trans ?_
  rw [V_v6]
  rfl

/-- The result the arguments give. -/
def G7 : Vec Ideal S40x16384x128 .bf16 := result (a0 m c) (a1 m c) (a2 m c) (a3 m c) (a4 m c) (a5 m c) (a6 m c)

/-- What point `t` leaves in its buffer is its block of that result. -/
theorem block_apply (t : Fin cfg0.N) (y : S40x512x128.Idx) (i : S40x16384x128.Idx) (h0 : (i (0 : Fin 3)).val = (y (0 : Fin 3)).val)
    (h1 : (i (1 : Fin 3)).val = 512 * t.val + (y (1 : Fin 3)).val) (h2 : (i (2 : Fin 3)).val = (y (2 : Fin 3)).val) :
    out0_7 (iblk m c 0 t) (iblk m c 1 t) (iblk m c 2 t) (iblk m c 3 t) (iblk m c 4 t) (iblk m c 5 t) (iblk m c 6 t) y = G7 m c i := by
  have y0 : (y (0 : Fin 3)).val < 40 := (y (0 : Fin 3)).isLt
  have y1 : (y (1 : Fin 3)).val < 512 := (y (1 : Fin 3)).isLt
  have y2 : (y (2 : Fin 3)).val < 128 := (y (2 : Fin 3)).isLt
  refine (out_apply _ _ _ _ _ _ _ y).trans ?_
  rw [cell, dif_pos ⟨y1, by omega⟩]
  refine (sec_apply _ _ _ _ _ _ _ _ _ _).trans ?_
  unfold G7 result target blkH rowH
  have e1 : (⟨(i (1 : Fin 3)).val, (i (1 : Fin 3)).isLt⟩ : Fin 16384) = rowAt t ⟨(y (1 : Fin 3)).val, y1⟩ := Fin.ext h1
  have e2 : (⟨128 * ((i (0 : Fin 3)).val % 8) + (i (2 : Fin 3)).val, by omega⟩ : Fin 1024) = ⟨128 * ((y (0 : Fin 3)).val % 8) + (y (2 : Fin 3)).val, by omega⟩ := Fin.ext (by
    show 128 * ((i (0 : Fin 3)).val % 8) + (i (2 : Fin 3)).val = 128 * ((y (0 : Fin 3)).val % 8) + (y (2 : Fin 3)).val
    rw [h0, h2])
  rw [e1, e2, h0]
  simp only [iblk_x, iblk_sh m c t ⟨(y (1 : Fin 3)).val, y1⟩, iblk_sc m c t ⟨(y (1 : Fin 3)).val, y1⟩, iblk_pre, iblk_lng, iblk_lnb, iblk_w]

theorem flushed7 (t : Fin cfg0.N) : (dats m 0 c).flushed 7 t = ((cfg0.win 7).blk t).view.read (Elt Ideal) (G7 m c) := by
  rw [Value.flushed7]
  obtain ⟨e0, e1, e2⟩ := at7 t
  funext y
  have hb0 : (((cfg0.win 7).blk t).view.emb y (0 : Fin 3)).val = win0_7.index t (0 : Fin 3) * 40 + 1 * (y (0 : Fin 3)).val := rfl
  have hb1 : (((cfg0.win 7).blk t).view.emb y (1 : Fin 3)).val = win0_7.index t (1 : Fin 3) * 512 + 1 * (y (1 : Fin 3)).val := rfl
  have hb2 : (((cfg0.win 7).blk t).view.emb y (2 : Fin 3)).val = win0_7.index t (2 : Fin 3) * 128 + 1 * (y (2 : Fin 3)).val := rfl
  show out0_7 _ _ _ _ _ _ _ ((cfg0.win 7).xinj (grid0.coords t) y) = G7 m c (((cfg0.win 7).blk t).view.emb y)
  exact block_apply m c t _ _
    (by show _ = (y (0 : Fin 3)).val; rw [hb0, e0]; omega)
    (by show _ = 512 * t.val + (y (1 : Fin 3)).val; rw [hb1, e1]; omega)
    (by show _ = (y (2 : Fin 3)).val; rw [hb2, e2]; omega)

theorem mem_blk7 (t : Fin cfg0.N) (i : S40x16384x128.Idx) :
    i ∈ ((cfg0.win 7).blk t).view.set ↔ ∀ a : Fin 3, win0_7.index t a * S40x512x128.size a ≤ (i a).val ∧ (i a).val < win0_7.index t a * S40x512x128.size a + S40x512x128.size a := by
  show i ∈ ((View.whole main_v7).slice (win0_7.rect t)).set ↔ _
  rw [View.set_slice_whole, Rect.mem_set_unit]
  exact Iff.rfl

/-- Every entry of the result is written back by some point. -/
theorem covered7 (i : S40x16384x128.Idx) : ∃ t : Fin cfg0.N, (cfg0.win 7).flush t = true ∧ i ∈ ((cfg0.win 7).blk t).view.set := by
  have i0 : (i (0 : Fin 3)).val < 40 := (i (0 : Fin 3)).isLt
  have i1 : (i (1 : Fin 3)).val < 16384 := (i (1 : Fin 3)).isLt
  have i2 : (i (2 : Fin 3)).val < 128 := (i (2 : Fin 3)).isLt
  have ht : (i (1 : Fin 3)).val / 512 < cfg0.N := lt_of_lt_of_eq (show (i (1 : Fin 3)).val / 512 < 32 by omega) N_0.symm
  refine ⟨⟨(i (1 : Fin 3)).val / 512, ht⟩, flush0_7 _, ?_⟩
  rw [mem_blk7]
  obtain ⟨e0, e1, e2⟩ := at7 ⟨(i (1 : Fin 3)).val / 512, ht⟩
  intro a
  match a with
  | ⟨0, _⟩ =>
    show win0_7.index _ (0 : Fin 3) * 40 ≤ (i (0 : Fin 3)).val ∧ (i (0 : Fin 3)).val < win0_7.index _ (0 : Fin 3) * 40 + 40
    rw [e0]; omega
  | ⟨1, _⟩ =>
    show win0_7.index _ (1 : Fin 3) * 512 ≤ (i (1 : Fin 3)).val ∧ (i (1 : Fin 3)).val < win0_7.index _ (1 : Fin 3) * 512 + 512
    rw [e1]
    show (i (1 : Fin 3)).val / 512 * 512 ≤ _ ∧ _ < (i (1 : Fin 3)).val / 512 * 512 + 512
    omega
  | ⟨2, _⟩ =>
    show win0_7.index _ (2 : Fin 3) * 128 ≤ (i (2 : Fin 3)).val ∧ (i (2 : Fin 3)).val < win0_7.index _ (2 : Fin 3) * 128 + 128
    rw [e2]; omega

theorem final7 : (dats m 0 c).arrAt 7 cfg0.N = G7 m c :=
  (dats m 0 c).arrAt_eq_of_cover 7 _ (fun t _ => flushed7 m c t) (fun i => covered7 i)

end Cert.Kernel3Ideal.Prj
end
-- ==== Proof.Prj.Ref.lean ====
/- What the projection's reference computes, section by section. -/
module

public import proofs.«01_k».proof.Proof.Prj.Spec
public import proofs.«01_k».proof.Proof.Ffn.Ref
public import proofs.«01_k».proof.Proof.Gen.Reference3Ideal.Read
public import Idealize.ShloMosaic.Lib.IdealHost

@[expose] public section
set_option maxRecDepth 65536
noncomputable section
namespace Cert.Kernel3Ideal.Prj
open Idealize.ShloMosaic Idealize.ShloMosaic.ValueIdx
open Cert.Reference3Ideal Cert.Reference3Ideal.Gen Cert.Reference3Ideal.Read
open Cert.Kernel2Ideal.Ffn (normed dotp bat pos rowX rowH)

variable (x0 : Vec Ideal S4x4096x2048 .f32) (x1 x2 : Vec Ideal S4x2048 .f32) (x3 : Vec Ideal S2048 .f32) (x4 x5 : Vec Ideal S1024 .f32)
  (x6 : Vec Ideal S2048x5120 .f32)

theorem ofBits_two : (FloatOps.ofBits (F := Ideal) .f32 0x40000000#32 : EReal) = ((2 : ℝ) : EReal) := by
  show Ideal.ofBits .f32 _ = _
  simp [Ideal.ofBits, Ideal.ieee, -EReal.coe_mul]
  norm_num
theorem ofBits_eight : (FloatOps.ofBits (F := Ideal) .f32 0x41000000#32 : EReal) = ((8 : ℝ) : EReal) := by
  show Ideal.ofBits .f32 _ = _
  simp [Ideal.ofBits, Ideal.ieee, -EReal.coe_mul]
  norm_num

/-- Dividing by the root of two is multiplying by its reciprocal. -/
theorem div_root (v : EReal) : Ideal.div v (Ideal.sqrt (FloatOps.ofBits (F := Ideal) .f32 0x40000000#32 : EReal)) = v * (((Real.sqrt 2)⁻¹ : ℝ) : EReal) := by
  have e : Ideal.sqrt ((2 : ℝ) : EReal) = ((Real.sqrt 2 : ℝ) : EReal) := by
    show (if (2 : ℝ) < 0 then (⊥ : EReal) else ((Real.sqrt 2 : ℝ) : EReal)) = _
    rw [if_neg (by norm_num)]
  have h : (0 : ℝ) < Real.sqrt 2 := Real.sqrt_pos.mpr (by norm_num)
  rw [ofBits_two, e, Ideal.div_coe h.ne', one_div]

/-- Dividing by eight and by the logarithm of two is multiplying by the reciprocal logarithm of 256. -/
theorem div_scale (v : EReal) : Ideal.div v ((FloatOps.ofBits (F := Ideal) .f32 0x41000000#32 : EReal) * Ideal.log (FloatOps.ofBits (F := Ideal) .f32 0x40000000#32 : EReal))
    = v * (((Real.log 256)⁻¹ : ℝ) : EReal) := by
  have e : Ideal.log ((2 : ℝ) : EReal) = ((Real.log 2 : ℝ) : EReal) := by
    show (if (2 : ℝ) ≤ 0 then (⊥ : EReal) else ((Real.log 2 : ℝ) : EReal)) = _
    rw [if_neg (by norm_num)]
  have hl : (0 : ℝ) < 8 * Real.log 2 := mul_pos (by norm_num) (Real.log_pos one_lt_two)
  have e8 : Real.log 256 = 8 * Real.log 2 := by
    rw [show (256 : ℝ) = 2 ^ 8 by norm_num, Real.log_pow]
    norm_num
  rw [ofBits_two, ofBits_eight, e, ← EReal.coe_mul, Ideal.div_coe hl.ne', one_div, e8]

theorem ref_h (b : Fin 4) (s : Fin 4096) (k : Fin 2048) :
    val_main_v20 (F := Ideal) x0 x1 x2 x3 (ix3 b s k)
      = normed (fun k => x0 (ix3 b s k)) (fun k => x3 (ix1 k)) (fun k => x2 (ix2 b k)) (fun k => x1 (ix2 b k)) k :=
  Cert.Kernel2Ideal.Ffn.ref_h x0 x1 x2 x3 b s k

/-- A lane of the product. -/
theorem ref_dot (b : Fin 4) (s : Fin 4096) (j : Fin 5120) :
    val_main_v21 (F := Ideal) x0 x1 x2 x3 x6 (ix3 b s j)
      = dotp (normed (fun k => x0 (ix3 b s k)) (fun k => x3 (ix1 k)) (fun k => x2 (ix2 b k)) (fun k => x1 (ix2 b k))) (fun i => x6 (ix2 i j)) := by
  rw [val_main_v21_apply]
  unfold dotp
  refine Finset.sum_congr rfl fun k _ => ?_
  have el : lidx_main_v21 (ix3 b s j) k = ix3 b s k := funext fun a => by
    match a with
    | ⟨0, _⟩ => rfl
    | ⟨1, _⟩ => rfl
    | ⟨2, _⟩ => rfl
  have er : ridx_main_v21 (ix3 b s j) k = ix2 k j := funext fun a => by
    match a with
    | ⟨0, _⟩ => rfl
    | ⟨1, _⟩ => rfl
  rw [el, er, ref_h]

theorem ref_v22 (b : Fin 4) (s : Fin 4096) (l : Fin 1024) :
    val_main_v22 (F := Ideal) x0 x1 x2 x3 x6 (ix3 b s l) = val_main_v21 (F := Ideal) x0 x1 x2 x3 x6 (ix3 b s (⟨l.val, by omega⟩ : Fin 5120)) := by
  rw [val_main_v22_apply]
  refine congrArg _ (funext fun a => Fin.ext ?_)
  match a with
  | ⟨0, _⟩ => simp [idx_main_v22, ix3]
  | ⟨1, _⟩ => simp [idx_main_v22, ix3]
  | ⟨2, _⟩ => simp [idx_main_v22, ix3]
theorem ref_v23 (b : Fin 4) (s : Fin 4096) (l : Fin 1024) :
    val_main_v23 (F := Ideal) x0 x1 x2 x3 x6 (ix3 b s l) = val_main_v21 (F := Ideal) x0 x1 x2 x3 x6 (ix3 b s (⟨1024 + l.val, by omega⟩ : Fin 5120)) := by
  rw [val_main_v23_apply]
  refine congrArg _ (funext fun a => Fin.ext ?_)
  match a with
  | ⟨0, _⟩ => simp [idx_main_v23, ix3]
  | ⟨1, _⟩ => simp [idx_main_v23, ix3]
  | ⟨2, _⟩ => simp [idx_main_v23, ix3]
theorem ref_v24 (b : Fin 4) (s : Fin 4096) (l : Fin 1024) :
    val_main_v24 (F := Ideal) x0 x1 x2 x3 x6 (ix3 b s l) = val_main_v21 (F := Ideal) x0 x1 x2 x3 x6 (ix3 b s (⟨2048 + l.val, by omega⟩ : Fin 5120)) := by
  rw [val_main_v24_apply]
  refine congrArg _ (funext fun a => Fin.ext ?_)
  match a with
  | ⟨0, _⟩ => simp [idx_main_v24, ix3]
  | ⟨1, _⟩ => simp [idx_main_v24, ix3]
  | ⟨2, _⟩ => simp [idx_main_v24, ix3]
theorem ref_v25 (b : Fin 4) (s : Fin 4096) (l : Fin 1024) :
    val_main_v25 (F := Ideal) x0 x1 x2 x3 x6 (ix3 b s l) = val_main_v21 (F := Ideal) x0 x1 x2 x3 x6 (ix3 b s (⟨3072 + l.val, by omega⟩ : Fin 5120)) := by
  rw [val_main_v25_apply]
  refine congrArg _ (funext fun a => Fin.ext ?_)
  match a with
  | ⟨0, _⟩ => simp [idx_main_v25, ix3]
  | ⟨1, _⟩ => simp [idx_main_v25, ix3]
  | ⟨2, _⟩ => simp [idx_main_v25, ix3]
theorem ref_v26 (b : Fin 4) (s : Fin 4096) (l : Fin 1024) :
    val_main_v26 (F := Ideal) x0 x1 x2 x3 x6 (ix3 b s l) = val_main_v21 (F := Ideal) x0 x1 x2 x3 x6 (ix3 b s (⟨4096 + l.val, by omega⟩ : Fin 5120)) := by
  rw [val_main_v26_apply]
  refine congrArg _ (funext fun a => Fin.ext ?_)
  match a with
  | ⟨0, _⟩ => simp [idx_main_v26, ix3]
  | ⟨1, _⟩ => simp [idx_main_v26, ix3]
  | ⟨2, _⟩ => simp [idx_main_v26, ix3]

theorem ref_q (b : Fin 4) (s : Fin 4096) (l : Fin 1024) :
    val_main_v30 (F := Ideal) x0 x1 x2 x3 x6 (ix3 b s l)
      = val_main_v21 (F := Ideal) x0 x1 x2 x3 x6 (ix3 b s (⟨l.val, by omega⟩ : Fin 5120)) * (((Real.log 256)⁻¹ : ℝ) : EReal) := by
  rw [val_main_v30_apply, val_main_v29_apply, val_main_v28_apply, val_main_v27_apply, val_main_cst_3_apply, val_main_cst_4_apply, ref_v22]
  exact div_scale _
theorem ref_u (b : Fin 4) (s : Fin 4096) (l : Fin 1024) :
    val_main_v39 (F := Ideal) x0 x1 x2 x3 x6 (ix3 b s l) = gelu (val_main_v21 (F := Ideal) x0 x1 x2 x3 x6 (ix3 b s (⟨3072 + l.val, by omega⟩ : Fin 5120))) := by
  rw [val_main_v39_apply, val_main_v38_apply, val_main_v37_apply, val_main_v36_apply, val_main_v35_apply, val_main_v34_apply, val_main_v33_apply, val_main_v32_apply,
    val_main_v31_apply, val_main_cst_5_apply, val_main_cst_6_apply, val_main_cst_7_apply, ref_v25]
  unfold gelu
  rw [← div_root]
  rfl
theorem ref_ge (b : Fin 4) (s : Fin 4096) (l : Fin 1024) :
    val_main_v48 (F := Ideal) x0 x1 x2 x3 x6 (ix3 b s l) = gelu (val_main_v21 (F := Ideal) x0 x1 x2 x3 x6 (ix3 b s (⟨4096 + l.val, by omega⟩ : Fin 5120))) := by
  rw [val_main_v48_apply, val_main_v47_apply, val_main_v46_apply, val_main_v45_apply, val_main_v44_apply, val_main_v43_apply, val_main_v42_apply, val_main_v41_apply,
    val_main_v40_apply, val_main_cst_8_apply, val_main_cst_9_apply, val_main_cst_10_apply, ref_v26]
  unfold gelu
  rw [← div_root]
  rfl

theorem ref_mean (b : Fin 4) (s : Fin 4096) (l : Fin 1024) :
    val_main_v53 (F := Ideal) x0 x1 x2 x3 x6 (ix3 b s l) = mean (fun k => val_main_v48 (F := Ideal) x0 x1 x2 x3 x6 (ix3 b s k)) := by
  have e : ∀ q : Fin 1024, idx_main_v49 (idx_main_v50 (idx_main_v53 (ix3 b s l))) q = ix3 b s q := fun q => funext fun a => by
    match a with
    | ⟨0, _⟩ => rfl
    | ⟨1, _⟩ => rfl
    | ⟨2, _⟩ => rfl
  rw [val_main_v53_apply, val_main_v52_apply, val_main_v50_apply, val_main_v49_apply, val_main_v51_apply, val_main_cst_11_apply, val_main_cst_12_apply]
  simp only [e]
  rw [show (FloatOps.ofBits .f32 0x00000000#32 : Ideal .f32) = 0 from Ideal.ofBits_zero_f32, zero_add]
  rfl

/-- The layer normalisation's reciprocal deviation. -/
theorem ref_dev (b : Fin 4) (s : Fin 4096) (l : Fin 1024) :
    val_main_v63 (F := Ideal) x0 x1 x2 x3 x6 (ix3 b s l)
      = Ideal.rsqrt (mean (fun k => val_main_v54 (F := Ideal) x0 x1 x2 x3 x6 (ix3 b s k) * val_main_v54 (F := Ideal) x0 x1 x2 x3 x6 (ix3 b s k)) + Ideal.ofBits .f32 0x358637BD#32) := by
  have e : ∀ q : Fin 1024, idx_main_v56 (idx_main_v57 (idx_main_v63 (ix3 b s l))) q = ix3 b s q := fun q => funext fun a => by
    match a with
    | ⟨0, _⟩ => rfl
    | ⟨1, _⟩ => rfl
    | ⟨2, _⟩ => rfl
  rw [val_main_v63_apply, val_main_v62_apply, val_main_v61_apply, val_main_v60_apply, val_main_v59_apply, val_main_v58_apply, val_main_v57_apply, val_main_v56_apply,
    val_main_cst_13_apply, val_main_cst_14_apply, val_main_cst_15_apply]
  simp only [val_main_v55_apply, e]
  rw [show (FloatOps.ofBits .f32 0x00000000#32 : Ideal .f32) = 0 from Ideal.ofBits_zero_f32, zero_add]
  rfl

theorem ref_ln (b : Fin 4) (s : Fin 4096) (l : Fin 1024) :
    val_main_v70 (F := Ideal) x0 x1 x2 x3 x4 x5 x6 (ix3 b s l)
      = lnorm (fun k => val_main_v48 (F := Ideal) x0 x1 x2 x3 x6 (ix3 b s k)) (fun k => x4 (ix1 k)) (fun k => x5 (ix1 k)) l := by
  have e4 : idx_main_v65 (idx_main_v66 (ix3 b s l)) = ix1 l := funext fun a => by
    match a with
    | ⟨0, _⟩ => rfl
  have e5 : idx_main_v68 (idx_main_v69 (ix3 b s l)) = ix1 l := funext fun a => by
    match a with
    | ⟨0, _⟩ => rfl
  rw [val_main_v70_apply, val_main_v69_apply, val_main_v68_apply, val_main_v67_apply, val_main_v66_apply, val_main_v65_apply, val_main_v64_apply, ref_dev, e4, e5]
  simp only [val_main_v54_apply, ref_mean]
  rfl

/-- The five sections side by side. -/
theorem ref_cat (b : Fin 4) (s : Fin 4096) (q : Fin 5120) (k : ℕ) (l : Fin 1024) (h : q.val = 1024 * k + l.val) :
    val_main_v71 (F := Ideal) x0 x1 x2 x3 x4 x5 x6 (ix3 b s q)
      = secVal (normed (fun k => x0 (ix3 b s k)) (fun k => x3 (ix1 k)) (fun k => x2 (ix2 b k)) (fun k => x1 (ix2 b k)))
          (fun i q => x6 (ix2 i q)) (fun k => x4 (ix1 k)) (fun k => x5 (ix1 k)) k l := by
  unfold val_main_v71
  rcases k with _ | _ | _ | _ | k
  · refine (concatenate_apply_piece (t := S4x4096x5120) 2 _ _ _ 0 (by simp) S4x4096x1024 _ rfl rfl 0 rfl (ix3 b s l) (fun a => by
      match a with
      | ⟨0, _⟩ => exact fun _ => rfl
      | ⟨1, _⟩ => exact fun _ => rfl
      | ⟨2, _⟩ => exact fun h => absurd rfl h) (by show 0 + l.val = q.val; omega)).trans ?_
    rw [ref_q, ref_dot]
    rfl
  · refine (concatenate_apply_piece (t := S4x4096x5120) 2 _ _ _ 1 (by simp) S4x4096x1024 _ rfl rfl 1024 rfl (ix3 b s l) (fun a => by
      match a with
      | ⟨0, _⟩ => exact fun _ => rfl
      | ⟨1, _⟩ => exact fun _ => rfl
      | ⟨2, _⟩ => exact fun h => absurd rfl h) (by show 1024 + l.val = q.val; omega)).trans ?_
    rw [ref_v23, ref_dot]
    rfl
  · refine (concatenate_apply_piece (t := S4x4096x5120) 2 _ _ _ 2 (by simp) S4x4096x1024 _ rfl rfl 2048 rfl (ix3 b s l) (fun a => by
      match a with
      | ⟨0, _⟩ => exact fun _ => rfl
      | ⟨1, _⟩ => exact fun _ => rfl
      | ⟨2, _⟩ => exact fun h => absurd rfl h) (by show 2048 + l.val = q.val; omega)).trans ?_
    rw [ref_v24, ref_dot]
    rfl
  · refine (concatenate_apply_piece (t := S4x4096x5120) 2 _ _ _ 3 (by simp) S4x4096x1024 _ rfl rfl 3072 rfl (ix3 b s l) (fun a => by
      match a with
      | ⟨0, _⟩ => exact fun _ => rfl
      | ⟨1, _⟩ => exact fun _ => rfl
      | ⟨2, _⟩ => exact fun h => absurd rfl h) (by show 3072 + l.val = q.val; omega)).trans ?_
    rw [ref_u, ref_dot]
    rfl
  · refine (concatenate_apply_piece (t := S4x4096x5120) 2 _ _ _ 4 (by simp) S4x4096x1024 _ rfl rfl 4096 rfl (ix3 b s l) (fun a => by
      match a with
      | ⟨0, _⟩ => exact fun _ => rfl
      | ⟨1, _⟩ => exact fun _ => rfl
      | ⟨2, _⟩ => exact fun h => absurd rfl h) (by show 4096 + l.val = q.val; omega)).trans ?_
    rw [ref_ln]
    simp only [ref_ge, ref_dot]
    rfl

/-- The reference's result. -/
theorem ref_eq (i : S40x16384x128.Idx) :
    val_main_v74 (F := Ideal) x0 x1 x2 x3 x4 x5 x6 i = result x0 x1 x2 x3 x4 x5 x6 i := by
  have h0 : (i (0 : Fin 3)).val < 40 := (i (0 : Fin 3)).isLt
  have h1 : (i (1 : Fin 3)).val < 16384 := (i (1 : Fin 3)).isLt
  have h2 : (i (2 : Fin 3)).val < 128 := (i (2 : Fin 3)).isLt
  have e : idx_main_v72 (idx_main_v73 i) = ix3 (bat ⟨(i (1 : Fin 3)).val, h1⟩) (pos ⟨(i (1 : Fin 3)).val, h1⟩) (⟨128 * (i (0 : Fin 3)).val + (i (2 : Fin 3)).val, by omega⟩ : Fin 5120) := funext fun a => Fin.ext (by
    match a with
    | ⟨0, _⟩ => show (((i (1 : Fin 3)).val * 40 + (i (0 : Fin 3)).val) * 128 + (i (2 : Fin 3)).val) / 20971520 = (i (1 : Fin 3)).val / 4096; omega
    | ⟨1, _⟩ => show (((i (1 : Fin 3)).val * 40 + (i (0 : Fin 3)).val) * 128 + (i (2 : Fin 3)).val) / 5120 % 4096 = (i (1 : Fin 3)).val % 4096; omega
    | ⟨2, _⟩ => show (((i (1 : Fin 3)).val * 40 + (i (0 : Fin 3)).val) * 128 + (i (2 : Fin 3)).val) % 5120 = 128 * (i (0 : Fin 3)).val + (i (2 : Fin 3)).val; omega)
  rw [val_main_v74_apply, val_main_v73_apply, val_main_v72_apply, e]
  exact ref_cat x0 x1 x2 x3 x4 x5 x6 _ _ _ ((i (0 : Fin 3)).val / 8) ⟨128 * ((i (0 : Fin 3)).val % 8) + (i (2 : Fin 3)).val, by omega⟩
    (by show 128 * (i (0 : Fin 3)).val + (i (2 : Fin 3)).val = 1024 * ((i (0 : Fin 3)).val / 8) + (128 * ((i (0 : Fin 3)).val % 8) + (i (2 : Fin 3)).val); omega)

end Cert.Kernel3Ideal.Prj
end
-- ==== Proof.Opj.Math.lean ====
/- What the output projection's body computes on 256 rows, read entry by entry over the extended reals. -/
module

public import proofs.«01_k».proof.Proof.Ffn.Math
public import proofs.«01_k».proof.Proof.Gen.Kernel4Ideal.Value

@[expose] public section
set_option maxRecDepth 65536
set_option maxHeartbeats 4000000
noncomputable section
namespace Cert.Kernel4Ideal.Opj
open Idealize.ShloMosaic Idealize.ShloMosaic.TcCoe Idealize.ShloMosaic.Tactic Idealize.ShloMosaic.ValueIdx
open Cert.Kernel4Ideal.Gen
open Cert.Kernel2Ideal.Ffn (inv dotp)

/-- The reciprocal root mean square of a row of 1024 lanes. -/
def inv1 (v : Fin 1024 → EReal) : EReal :=
  Ideal.rsqrt (Ideal.div (∑ k, v k * v k) (Ideal.ofBits .f32 0x44800000#32) + Ideal.ofBits .f32 0x358637BD#32)
/-- A row of 1024 lanes, normalised. -/
def nrm1 (v g : Fin 1024 → EReal) (l : Fin 1024) : EReal := (v l * inv1 v) * g l
/-- The two normalised halves side by side. -/
def merged (a b ga gb : Fin 1024 → EReal) (j : Fin 2048) : EReal :=
  if h : j.val < 1024 then nrm1 a ga ⟨j.val, h⟩ else nrm1 b gb ⟨j.val - 1024, by omega⟩
/-- The result's row from the residual, the gate and the projected row. -/
def outv (x coef y : Fin 2048 → EReal) (k : Fin 2048) : EReal := x k + coef k * (y k * inv y)
/-- Lane `j` of eight slabs of 128 lanes. -/
def lanes (f : Fin 8 → Fin 128 → EReal) (j : Fin 1024) : EReal := f ⟨j.val / 128, by omega⟩ ⟨j.val % 128, Nat.mod_lt _ (by norm_num)⟩

theorem sum_lanes (f : Fin 8 → Fin 128 → EReal) : ∑ p, ∑ l, f p l = ∑ j, lanes f j := by
  rw [← Fintype.sum_prod_type', ← Equiv.sum_comp (finProdFinEquiv (m := 8) (n := 128)).symm]
  rfl

theorem ofBits_kilo : Ideal.ofBits .f32 0x44800000#32 = ((1024 : ℝ) : EReal) := by
  simp [Ideal.ofBits, Ideal.ieee, -EReal.coe_mul]
  norm_num
theorem ofBits_milli : Ideal.ofBits .f32 0x3A800000#32 = (((1024 : ℝ)⁻¹ : ℝ) : EReal) := by
  simp [Ideal.ofBits, Ideal.ieee, -EReal.coe_mul]
  norm_num
theorem mul_milli (v : EReal) : v * Ideal.ofBits .f32 0x3A800000#32 = Ideal.div v (Ideal.ofBits .f32 0x44800000#32) := by
  rw [ofBits_kilo, ofBits_milli, Ideal.div_coe (by norm_num), one_div]

/-- A row's sum of squares, as a column. -/
def sqs (z : FVec Ideal S256x128 .f32) : FVec Ideal S256x1 .f32 :=
  shapeCast S256x1 (multiReduction .add [1] S256 (mulf z z) 0x00000000#32 reduces_S256x128_S256 (.inl rfl) rfl) shapeCasts_S256_S256x1
/-- The column of reciprocal root mean squares of eight slabs. -/
def icol (z : Fin 8 → FVec Ideal S256x128 .f32) : FVec Ideal S256x1 .f32 :=
  rsqrt (addf (mulf (addf (addf (addf (addf (addf (addf (addf (addf (broadcast S256x1 (FloatOps.ofBits (F := Ideal) .f32 0x00000000#32)) (sqs (z 0))) (sqs (z 1))) (sqs (z 2))) (sqs (z 3))) (sqs (z 4))) (sqs (z 5))) (sqs (z 6))) (sqs (z 7))) (broadcast S256x1 (FloatOps.ofBits (F := Ideal) .f32 0x3A800000#32)))
    (broadcast S256x1 (FloatOps.ofBits (F := Ideal) .f32 0x358637BD#32)))
/-- Sixteen slabs side by side. -/
def side (Z : Fin 16 → FVec Ideal S256x128 .bf16) : FVec Ideal S256x2048 .bf16 :=
  concatenate S256x2048 1 [⟨S256x128, Z 0⟩, ⟨S256x128, Z 1⟩, ⟨S256x128, Z 2⟩, ⟨S256x128, Z 3⟩, ⟨S256x128, Z 4⟩, ⟨S256x128, Z 5⟩, ⟨S256x128, Z 6⟩, ⟨S256x128, Z 7⟩, ⟨S256x128, Z 8⟩, ⟨S256x128, Z 9⟩, ⟨S256x128, Z 10⟩, ⟨S256x128, Z 11⟩, ⟨S256x128, Z 12⟩, ⟨S256x128, Z 13⟩, ⟨S256x128, Z 14⟩, ⟨S256x128, Z 15⟩] concatenates_S256x128_S256x128_S256x128_S256x128_S256x128_S256x128_S256x128_S256x128_S256x128_S256x128_S256x128_S256x128_S256x128_S256x128_S256x128_S256x128_S256x2048_d1
/-- The sixteen normalised slabs. -/
def slabs (za zb : Fin 8 → FVec Ideal S256x128 .f32) (ga gb : Fin 8 → Vec Ideal S1x128 .f32) (p : Fin 16) : FVec Ideal S256x128 .bf16 :=
  if h : p.val < 8 then k0_pay71 (za ⟨p.val, h⟩) (icol za) (ga ⟨p.val, h⟩) else k0_pay71 (zb ⟨p.val - 8, by omega⟩) (icol zb) (gb ⟨p.val - 8, by omega⟩)
/-- The 256 rows of the result. -/
def half (coef : FVec Ideal S1x2048 .f32) (x : Vec Ideal S256x2048 .f32) (w : Vec Ideal S2048x2048 .bf16) (za zb : Fin 8 → FVec Ideal S256x128 .f32)
    (ga gb : Fin 8 → Vec Ideal S1x128 .f32) : FVec Ideal S256x2048 .f32 :=
  k0_pay1 coef (matmul dot_S256x2048_S2048x2048_S256x2048_1_0_0_1_n_n none (side (slabs za zb ga gb)) (shapeCast S2048x2048 w shapeCasts_S2048x2048_S2048x2048 : FVec Ideal S2048x2048 .bf16)
    (constant S256x2048 .f32 0x00000000#32)) x
/-- The masked weights of a group. -/
def wgt (w : Vec Ideal S1x128x128 .f32) : FVec Ideal S128x128 .bf16 := k0_pay13 (k0_pay6 k0_pay2 k0_pay3 k0_pay4 k0_pay5) w
/-- Which weights are kept. -/
def mask (t s : Fin 128) : BitVec 1 := k0_pay6 k0_pay2 k0_pay3 k0_pay4 k0_pay5 (ix2 t s)
/-- A weight, or zero where the mask drops it. -/
def kept (w : Fin 128 → Fin 128 → EReal) (t s : Fin 128) : EReal := Scalar.select (mask t s) (w t s) 0
/-- A gated lane: its row is row `t` of a chunk of 128. -/
def gate (u b : EReal) (w v : Fin 128 → EReal) : EReal := u * ((∑ s, w s * v s) + b)

theorem sum256 (z : FVec Ideal S256x128 .f32) (r : Fin 256) :
    multiReduction .add [1] S256 z 0x00000000#32 reduces_S256x128_S256 (.inl rfl) rfl (ix1 r) = ∑ k : Fin 128, z (ix2 r k) := by
  refine (Ideal.multiReduction_add_single (s := S256x128) (t := S256) (a := 1) (φ := .f32) z _ _ _ _ _).trans ?_
  refine Finset.sum_congr rfl fun k _ => congrArg z (funext fun a => ?_)
  match a with
  | ⟨0, _⟩ => rfl
  | ⟨1, _⟩ => rfl
theorem sum256w (z : FVec Ideal S256x2048 .f32) (r : Fin 256) :
    multiReduction .add [1] S256 z 0x00000000#32 reduces_S256x2048_S256 (.inl rfl) rfl (ix1 r) = ∑ k : Fin 2048, z (ix2 r k) := by
  refine (Ideal.multiReduction_add_single (s := S256x2048) (t := S256) (a := 1) (φ := .f32) z _ _ _ _ _).trans ?_
  refine Finset.sum_congr rfl fun k _ => congrArg z (funext fun a => ?_)
  match a with
  | ⟨0, _⟩ => rfl
  | ⟨1, _⟩ => rfl
theorem col_apply (z : FVec Ideal S256 .f32) (r : Fin 256) : shapeCast S256x1 z shapeCasts_S256_S256x1 (ix2 r (0 : Fin 1)) = z (ix1 r) :=
  shapeCast_apply _ _ _ (ix1 r) (by
    rw [Shape.rowMajor_val_one, Shape.rowMajor_val_two]
    show r.val = r.val * 1 + 0
    omega)
theorem sqs_apply (z : FVec Ideal S256x128 .f32) (r : Fin 256) : sqs z (ix2 r (0 : Fin 1)) = ∑ k : Fin 128, z (ix2 r k) * z (ix2 r k) := by
  unfold sqs
  rw [col_apply]
  exact sum256 (mulf z z) r

theorem icol_apply (z : Fin 8 → FVec Ideal S256x128 .f32) (r : Fin 256) : icol z (ix2 r (0 : Fin 1)) = inv1 (lanes fun p l => z p (ix2 r l)) := by
  have e : ∑ j, lanes (fun p l => z p (ix2 r l)) j * lanes (fun p l => z p (ix2 r l)) j = ∑ p : Fin 8, sqs (z p) (ix2 r (0 : Fin 1)) := by
    simp only [sqs_apply]
    exact (sum_lanes fun p l => z p (ix2 r l) * z p (ix2 r l)).symm
  unfold inv1
  rw [e, ← mul_milli, Fin.sum_univ_eight]
  unfold icol
  show Ideal.rsqrt ((addf _ _ : FVec Ideal S256x1 .f32) (ix2 r (0 : Fin 1))) = _
  rw [addf_apply, mulf_apply]
  simp only [addf_apply, broadcast_apply]
  rw [show (FloatOps.ofBits .f32 0x00000000#32 : Ideal .f32) = 0 from Ideal.ofBits_zero_f32, zero_add]
  rfl

theorem spread_apply (z : FVec Ideal S256x1 .f32) (r : Fin 256) (l : Fin 128) :
    broadcastTo S256x128 z broadcasts_S256x1_S256x128 (ix2 r l) = z (ix2 r (0 : Fin 1)) :=
  broadcastTo_apply _ _ _ (ix2 r (0 : Fin 1)) fun a => by
    match a with
    | ⟨0, _⟩ => rfl
    | ⟨1, _⟩ => rfl
theorem spreadw_apply (z : FVec Ideal S256x1 .f32) (r : Fin 256) (l : Fin 2048) :
    broadcastTo S256x2048 z broadcasts_S256x1_S256x2048 (ix2 r l) = z (ix2 r (0 : Fin 1)) :=
  broadcastTo_apply _ _ _ (ix2 r (0 : Fin 1)) fun a => by
    match a with
    | ⟨0, _⟩ => rfl
    | ⟨1, _⟩ => rfl

theorem pay71_apply (z : FVec Ideal S256x128 .f32) (i : FVec Ideal S256x1 .f32) (g : Vec Ideal S1x128 .f32) (r : Fin 256) (l : Fin 128) :
    k0_pay71 z i g (ix2 r l) = (z (ix2 r l) * i (ix2 r (0 : Fin 1))) * g (ix2 (0 : Fin 1) l) := by
  unfold k0_pay71
  rw [shapeCast_self, truncf_apply, mulf_apply, mulf_apply, broadcastTo_1b_ab_apply, spread_apply]

theorem side0 (Z : Fin 16 → FVec Ideal S256x128 .bf16) (r : Fin 256) (j : Fin 2048) (l : Fin 128) (h : 0 + l.val = j.val) : side Z (ix2 r j) = Z 0 (ix2 r l) := by
  unfold side
  exact concatenate_apply_piece (t := S256x2048) 1 _ _ _ 0 (by simp) S256x128 (Z 0) rfl rfl 0 rfl (ix2 r l) (fun a => by
    match a with
    | ⟨0, _⟩ => exact fun _ => rfl
    | ⟨1, _⟩ => exact fun h => absurd rfl h) h
theorem side1 (Z : Fin 16 → FVec Ideal S256x128 .bf16) (r : Fin 256) (j : Fin 2048) (l : Fin 128) (h : 128 + l.val = j.val) : side Z (ix2 r j) = Z 1 (ix2 r l) := by
  unfold side
  exact concatenate_apply_piece (t := S256x2048) 1 _ _ _ 1 (by simp) S256x128 (Z 1) rfl rfl 128 rfl (ix2 r l) (fun a => by
    match a with
    | ⟨0, _⟩ => exact fun _ => rfl
    | ⟨1, _⟩ => exact fun h => absurd rfl h) h
theorem side2 (Z : Fin 16 → FVec Ideal S256x128 .bf16) (r : Fin 256) (j : Fin 2048) (l : Fin 128) (h : 256 + l.val = j.val) : side Z (ix2 r j) = Z 2 (ix2 r l) := by
  unfold side
  exact concatenate_apply_piece (t := S256x2048) 1 _ _ _ 2 (by simp) S256x128 (Z 2) rfl rfl 256 rfl (ix2 r l) (fun a => by
    match a with
    | ⟨0, _⟩ => exact fun _ => rfl
    | ⟨1, _⟩ => exact fun h => absurd rfl h) h
theorem side3 (Z : Fin 16 → FVec Ideal S256x128 .bf16) (r : Fin 256) (j : Fin 2048) (l : Fin 128) (h : 384 + l.val = j.val) : side Z (ix2 r j) = Z 3 (ix2 r l) := by
  unfold side
  exact concatenate_apply_piece (t := S256x2048) 1 _ _ _ 3 (by simp) S256x128 (Z 3) rfl rfl 384 rfl (ix2 r l) (fun a => by
    match a with
    | ⟨0, _⟩ => exact fun _ => rfl
    | ⟨1, _⟩ => exact fun h => absurd rfl h) h
theorem side4 (Z : Fin 16 → FVec Ideal S256x128 .bf16) (r : Fin 256) (j : Fin 2048) (l : Fin 128) (h : 512 + l.val = j.val) : side Z (ix2 r j) = Z 4 (ix2 r l) := by
  unfold side
  exact concatenate_apply_piece (t := S256x2048) 1 _ _ _ 4 (by simp) S256x128 (Z 4) rfl rfl 512 rfl (ix2 r l) (fun a => by
    match a with
    | ⟨0, _⟩ => exact fun _ => rfl
    | ⟨1, _⟩ => exact fun h => absurd rfl h) h
theorem side5 (Z : Fin 16 → FVec Ideal S256x128 .bf16) (r : Fin 256) (j : Fin 2048) (l : Fin 128) (h : 640 + l.val = j.val) : side Z (ix2 r j) = Z 5 (ix2 r l) := by
  unfold side
  exact concatenate_apply_piece (t := S256x2048) 1 _ _ _ 5 (by simp) S256x128 (Z 5) rfl rfl 640 rfl (ix2 r l) (fun a => by
    match a with
    | ⟨0, _⟩ => exact fun _ => rfl
    | ⟨1, _⟩ => exact fun h => absurd rfl h) h
theorem side6 (Z : Fin 16 → FVec Ideal S256x128 .bf16) (r : Fin 256) (j : Fin 2048) (l : Fin 128) (h : 768 + l.val = j.val) : side Z (ix2 r j) = Z 6 (ix2 r l) := by
  unfold side
  exact concatenate_apply_piece (t := S256x2048) 1 _ _ _ 6 (by simp) S256x128 (Z 6) rfl rfl 768 rfl (ix2 r l) (fun a => by
    match a with
    | ⟨0, _⟩ => exact fun _ => rfl
    | ⟨1, _⟩ => exact fun h => absurd rfl h) h
theorem side7 (Z : Fin 16 → FVec Ideal S256x128 .bf16) (r : Fin 256) (j : Fin 2048) (l : Fin 128) (h : 896 + l.val = j.val) : side Z (ix2 r j) = Z 7 (ix2 r l) := by
  unfold side
  exact concatenate_apply_piece (t := S256x2048) 1 _ _ _ 7 (by simp) S256x128 (Z 7) rfl rfl 896 rfl (ix2 r l) (fun a => by
    match a with
    | ⟨0, _⟩ => exact fun _ => rfl
    | ⟨1, _⟩ => exact fun h => absurd rfl h) h
theorem side8 (Z : Fin 16 → FVec Ideal S256x128 .bf16) (r : Fin 256) (j : Fin 2048) (l : Fin 128) (h : 1024 + l.val = j.val) : side Z (ix2 r j) = Z 8 (ix2 r l) := by
  unfold side
  exact concatenate_apply_piece (t := S256x2048) 1 _ _ _ 8 (by simp) S256x128 (Z 8) rfl rfl 1024 rfl (ix2 r l) (fun a => by
    match a with
    | ⟨0, _⟩ => exact fun _ => rfl
    | ⟨1, _⟩ => exact fun h => absurd rfl h) h
theorem side9 (Z : Fin 16 → FVec Ideal S256x128 .bf16) (r : Fin 256) (j : Fin 2048) (l : Fin 128) (h : 1152 + l.val = j.val) : side Z (ix2 r j) = Z 9 (ix2 r l) := by
  unfold side
  exact concatenate_apply_piece (t := S256x2048) 1 _ _ _ 9 (by simp) S256x128 (Z 9) rfl rfl 1152 rfl (ix2 r l) (fun a => by
    match a with
    | ⟨0, _⟩ => exact fun _ => rfl
    | ⟨1, _⟩ => exact fun h => absurd rfl h) h
theorem side10 (Z : Fin 16 → FVec Ideal S256x128 .bf16) (r : Fin 256) (j : Fin 2048) (l : Fin 128) (h : 1280 + l.val = j.val) : side Z (ix2 r j) = Z 10 (ix2 r l) := by
  unfold side
  exact concatenate_apply_piece (t := S256x2048) 1 _ _ _ 10 (by simp) S256x128 (Z 10) rfl rfl 1280 rfl (ix2 r l) (fun a => by
    match a with
    | ⟨0, _⟩ => exact fun _ => rfl
    | ⟨1, _⟩ => exact fun h => absurd rfl h) h
theorem side11 (Z : Fin 16 → FVec Ideal S256x128 .bf16) (r : Fin 256) (j : Fin 2048) (l : Fin 128) (h : 1408 + l.val = j.val) : side Z (ix2 r j) = Z 11 (ix2 r l) := by
  unfold side
  exact concatenate_apply_piece (t := S256x2048) 1 _ _ _ 11 (by simp) S256x128 (Z 11) rfl rfl 1408 rfl (ix2 r l) (fun a => by
    match a with
    | ⟨0, _⟩ => exact fun _ => rfl
    | ⟨1, _⟩ => exact fun h => absurd rfl h) h
theorem side12 (Z : Fin 16 → FVec Ideal S256x128 .bf16) (r : Fin 256) (j : Fin 2048) (l : Fin 128) (h : 1536 + l.val = j.val) : side Z (ix2 r j) = Z 12 (ix2 r l) := by
  unfold side
  exact concatenate_apply_piece (t := S256x2048) 1 _ _ _ 12 (by simp) S256x128 (Z 12) rfl rfl 1536 rfl (ix2 r l) (fun a => by
    match a with
    | ⟨0, _⟩ => exact fun _ => rfl
    | ⟨1, _⟩ => exact fun h => absurd rfl h) h
theorem side13 (Z : Fin 16 → FVec Ideal S256x128 .bf16) (r : Fin 256) (j : Fin 2048) (l : Fin 128) (h : 1664 + l.val = j.val) : side Z (ix2 r j) = Z 13 (ix2 r l) := by
  unfold side
  exact concatenate_apply_piece (t := S256x2048) 1 _ _ _ 13 (by simp) S256x128 (Z 13) rfl rfl 1664 rfl (ix2 r l) (fun a => by
    match a with
    | ⟨0, _⟩ => exact fun _ => rfl
    | ⟨1, _⟩ => exact fun h => absurd rfl h) h
theorem side14 (Z : Fin 16 → FVec Ideal S256x128 .bf16) (r : Fin 256) (j : Fin 2048) (l : Fin 128) (h : 1792 + l.val = j.val) : side Z (ix2 r j) = Z 14 (ix2 r l) := by
  unfold side
  exact concatenate_apply_piece (t := S256x2048) 1 _ _ _ 14 (by simp) S256x128 (Z 14) rfl rfl 1792 rfl (ix2 r l) (fun a => by
    match a with
    | ⟨0, _⟩ => exact fun _ => rfl
    | ⟨1, _⟩ => exact fun h => absurd rfl h) h
theorem side15 (Z : Fin 16 → FVec Ideal S256x128 .bf16) (r : Fin 256) (j : Fin 2048) (l : Fin 128) (h : 1920 + l.val = j.val) : side Z (ix2 r j) = Z 15 (ix2 r l) := by
  unfold side
  exact concatenate_apply_piece (t := S256x2048) 1 _ _ _ 15 (by simp) S256x128 (Z 15) rfl rfl 1920 rfl (ix2 r l) (fun a => by
    match a with
    | ⟨0, _⟩ => exact fun _ => rfl
    | ⟨1, _⟩ => exact fun h => absurd rfl h) h
theorem side_apply (Z : Fin 16 → FVec Ideal S256x128 .bf16) (r : Fin 256) (j : Fin 2048) (p : Fin 16) (l : Fin 128) (h : 128 * p.val + l.val = j.val) :
    side Z (ix2 r j) = Z p (ix2 r l) :=
  match p, h with
  | ⟨0, _⟩, h => side0 Z r j l h
  | ⟨1, _⟩, h => side1 Z r j l h
  | ⟨2, _⟩, h => side2 Z r j l h
  | ⟨3, _⟩, h => side3 Z r j l h
  | ⟨4, _⟩, h => side4 Z r j l h
  | ⟨5, _⟩, h => side5 Z r j l h
  | ⟨6, _⟩, h => side6 Z r j l h
  | ⟨7, _⟩, h => side7 Z r j l h
  | ⟨8, _⟩, h => side8 Z r j l h
  | ⟨9, _⟩, h => side9 Z r j l h
  | ⟨10, _⟩, h => side10 Z r j l h
  | ⟨11, _⟩, h => side11 Z r j l h
  | ⟨12, _⟩, h => side12 Z r j l h
  | ⟨13, _⟩, h => side13 Z r j l h
  | ⟨14, _⟩, h => side14 Z r j l h
  | ⟨15, _⟩, h => side15 Z r j l h
  | ⟨n + 16, q⟩, _ => absurd q (by omega)

/-- The sixteen slabs are the two normalised halves. -/
theorem side_slabs (za zb : Fin 8 → FVec Ideal S256x128 .f32) (ga gb : Fin 8 → Vec Ideal S1x128 .f32) (r : Fin 256) (j : Fin 2048) :
    side (slabs za zb ga gb) (ix2 r j)
      = merged (lanes fun p l => za p (ix2 r l)) (lanes fun p l => zb p (ix2 r l)) (lanes fun p l => ga p (ix2 (0 : Fin 1) l)) (lanes fun p l => gb p (ix2 (0 : Fin 1) l)) j := by
  rw [side_apply _ r j ⟨j.val / 128, by omega⟩ ⟨j.val % 128, Nat.mod_lt _ (by norm_num)⟩ (by show 128 * (j.val / 128) + j.val % 128 = j.val; omega)]
  unfold slabs merged
  by_cases h : j.val < 1024
  · rw [dif_pos h, dif_pos (by show j.val / 128 < 8; omega), pay71_apply, icol_apply]
    rfl
  · rw [dif_neg h, dif_neg (by show ¬ j.val / 128 < 8; omega), pay71_apply, icol_apply]
    have e1 : (⟨j.val / 128 - 8, by omega⟩ : Fin 8) = ⟨(j.val - 1024) / 128, by omega⟩ := Fin.ext (by show j.val / 128 - 8 = (j.val - 1024) / 128; omega)
    have e2 : (⟨j.val % 128, Nat.mod_lt _ (by norm_num)⟩ : Fin 128) = ⟨(j.val - 1024) % 128, Nat.mod_lt _ (by norm_num)⟩ := Fin.ext (by show j.val % 128 = (j.val - 1024) % 128; omega)
    show (zb ⟨j.val / 128 - 8, _⟩ _ * _) * gb ⟨j.val / 128 - 8, _⟩ _ = _
    rw [e1, e2]
    rfl

/-- The body's last step. -/
theorem pay1_apply (coef : FVec Ideal S1x2048 .f32) (y : FVec Ideal S256x2048 .f32) (x : Vec Ideal S256x2048 .f32) (r : Fin 256) (k : Fin 2048) :
    k0_pay1 coef y x (ix2 r k) = outv (fun k => x (ix2 r k)) (fun k => coef (ix2 (0 : Fin 1) k)) (fun k => y (ix2 r k)) k := by
  unfold k0_pay1
  rw [shapeCast_self, addf_apply, mulf_apply, mulf_apply, broadcastTo_1b_ab_apply, spreadw_apply]
  unfold outv
  refine congrArg (fun s => x (ix2 r k) + coef (ix2 (0 : Fin 1) k) * (y (ix2 r k) * s)) ?_
  show Ideal.rsqrt ((addf _ _ : FVec Ideal S256x1 .f32) (ix2 r (0 : Fin 1))) = _
  rw [addf_apply, divf_apply, broadcast_apply, broadcast_apply, col_apply]
  exact congrArg (fun s => Ideal.rsqrt (Ideal.div s (Ideal.ofBits .f32 0x45000000#32) + Ideal.ofBits .f32 0x358637BD#32)) (sum256w (mulf y y) r)

theorem half_apply (coef : FVec Ideal S1x2048 .f32) (x : Vec Ideal S256x2048 .f32) (w : Vec Ideal S2048x2048 .bf16) (za zb : Fin 8 → FVec Ideal S256x128 .f32)
    (ga gb : Fin 8 → Vec Ideal S1x128 .f32) (r : Fin 256) (k : Fin 2048) :
    half coef x w za zb ga gb (ix2 r k) = outv (fun k => x (ix2 r k)) (fun k => coef (ix2 (0 : Fin 1) k))
      (fun k => dotp (merged (lanes fun p l => za p (ix2 r l)) (lanes fun p l => zb p (ix2 r l)) (lanes fun p l => ga p (ix2 (0 : Fin 1) l)) (lanes fun p l => gb p (ix2 (0 : Fin 1) l)))
        fun j => w (ix2 j k)) k := by
  unfold half
  rw [pay1_apply, shapeCast_self]
  refine congrArg (fun y => outv _ _ y k) (funext fun d => ?_)
  refine (Ideal.matmul_plain_apply (M := 256) (K := 2048) (N := 2048) none _ _ _ r d).trans ?_
  rw [constant_apply, Ideal.ofBits_zero_f32, zero_add]
  unfold dotp
  exact Finset.sum_congr rfl fun j _ => congrArg (fun s => s * w (ix2 j d)) (side_slabs za zb ga gb r j)

theorem wgt_apply (w : Vec Ideal S1x128x128 .f32) (t s : Fin 128) : wgt w (ix2 t s) = kept (fun t s => w (ix3 (0 : Fin 1) t s)) t s := by
  have e : wgt w (ix2 t s) = Scalar.select (mask t s) (shapeCast S128x128 w shapeCasts_S1x128x128_S128x128 (ix2 t s)) (Ideal.ofBits .f32 0x00000000#32) := rfl
  rw [e, shapeCast_1ab_ab_apply, Ideal.ofBits_zero_f32]
  rfl

/-- One of a group's two chunks before they are stacked. -/
theorem chunk_apply (wg : FVec Ideal S128x128 .bf16) (v : FVec Ideal S128x256 .bf16) (V U : Vec Ideal S1x128x128 .bf16) (B : Vec Ideal S1x128x128 .f32)
    (o : ℕ) (hs : S128x256.Slices ![0, o] S128x128) (t l : Fin 128) (hl : o + l.val < 256)
    (hv : ∀ s : Fin 128, v (ix2 s (⟨o + l.val, hl⟩ : Fin 256)) = V (ix3 (0 : Fin 1) s l)) :
    mulf (extf .f32 (shapeCast S128x128 U shapeCasts_S1x128x128_S128x128) bitsLt_bf16_f32)
      (addf (extractStridedSlice S128x128 ![0, o] (matmul dot_S128x128_S128x256_S128x256_1_0_0_1_n_n none wg v (constant S128x256 .f32 0x00000000#32)) hs)
        (shapeCast S128x128 B shapeCasts_S1x128x128_S128x128)) (ix2 t l)
      = gate (U (ix3 (0 : Fin 1) t l)) (B (ix3 (0 : Fin 1) t l)) (fun s => wg (ix2 t s)) (fun s => V (ix3 (0 : Fin 1) s l)) := by
  rw [mulf_apply, addf_apply, extf_apply, shapeCast_1ab_ab_apply, shapeCast_1ab_ab_apply, slice2_axis1_apply o _ _ _ _ (⟨o + l.val, hl⟩ : Fin 256) rfl]
  unfold gate
  refine congrArg (fun s => U (ix3 (0 : Fin 1) t l) * (s + B (ix3 (0 : Fin 1) t l))) ?_
  refine (Ideal.matmul_plain_apply (M := 128) (K := 128) (N := 256) none _ _ _ t (⟨o + l.val, hl⟩ : Fin 256)).trans ?_
  rw [constant_apply, Ideal.ofBits_zero_f32, zero_add]
  exact Finset.sum_congr rfl fun s _ => congrArg (fun q => wg (ix2 t s) * q) (hv s)

/-- A group's entry: the chunk of 128 rows it lies in, and the row there. -/
theorem group_low (wg : FVec Ideal S128x128 .bf16) (v0 v1 u0 : Vec Ideal S1x128x128 .bf16) (b0 : Vec Ideal S1x128x128 .f32) (u1 : Vec Ideal S1x128x128 .bf16)
    (b1 : Vec Ideal S1x128x128 .f32) (r : Fin 256) (t l : Fin 128) (h : r.val = t.val) :
    k0_pay28 wg v0 v1 u0 b0 u1 b1 (ix2 r l)
      = gate (u0 (ix3 (0 : Fin 1) t l)) (b0 (ix3 (0 : Fin 1) t l)) (fun s => wg (ix2 t s)) (fun s => v0 (ix3 (0 : Fin 1) s l)) := by
  unfold k0_pay28
  refine (concatenate_apply_piece (t := S256x128) 0 _ _ _ 0 (by simp) S128x128 _ rfl rfl 0 rfl (ix2 t l) (fun a => by
    match a with
    | ⟨0, _⟩ => exact fun h => absurd rfl h
    | ⟨1, _⟩ => exact fun _ => rfl) (by show 0 + t.val = r.val; omega)).trans ?_
  refine chunk_apply wg _ v0 u0 b0 0 _ t l (by omega) fun s => ?_
  refine (concatenate_apply_piece (t := S128x256) 1 _ _ _ 0 (by simp) S128x128 _ rfl rfl 0 rfl (ix2 s l) (fun a => by
    match a with
    | ⟨0, _⟩ => exact fun _ => rfl
    | ⟨1, _⟩ => exact fun h => absurd rfl h) rfl).trans ?_
  exact shapeCast_1ab_ab_apply _ _ _ _
theorem group_high (wg : FVec Ideal S128x128 .bf16) (v0 v1 u0 : Vec Ideal S1x128x128 .bf16) (b0 : Vec Ideal S1x128x128 .f32) (u1 : Vec Ideal S1x128x128 .bf16)
    (b1 : Vec Ideal S1x128x128 .f32) (r : Fin 256) (t l : Fin 128) (h : r.val = 128 + t.val) :
    k0_pay28 wg v0 v1 u0 b0 u1 b1 (ix2 r l)
      = gate (u1 (ix3 (0 : Fin 1) t l)) (b1 (ix3 (0 : Fin 1) t l)) (fun s => wg (ix2 t s)) (fun s => v1 (ix3 (0 : Fin 1) s l)) := by
  unfold k0_pay28
  refine (concatenate_apply_piece (t := S256x128) 0 _ _ _ 1 (by simp) S128x128 _ rfl rfl 128 rfl (ix2 t l) (fun a => by
    match a with
    | ⟨0, _⟩ => exact fun h => absurd rfl h
    | ⟨1, _⟩ => exact fun _ => rfl) (by show 128 + t.val = r.val; omega)).trans ?_
  refine chunk_apply wg _ v1 u1 b1 128 _ t l (by omega) fun s => ?_
  refine (concatenate_apply_piece (t := S128x256) 1 _ _ _ 1 (by simp) S128x128 _ rfl rfl 128 rfl (ix2 s l) (fun a => by
    match a with
    | ⟨0, _⟩ => exact fun _ => rfl
    | ⟨1, _⟩ => exact fun h => absurd rfl h) rfl).trans ?_
  exact shapeCast_1ab_ab_apply _ _ _ _

theorem pay54_apply (a : Vec Ideal S1x256x128 .bf16) (r : Fin 256) (l : Fin 128) : k0_pay54 a (ix2 r l) = a (ix3 (0 : Fin 1) r l) := by
  unfold k0_pay54
  rw [extf_apply, shapeCast_1ab_ab_apply]
theorem pay15_apply (g : Vec Ideal S1x1x2048 .f32) (p : Vec Ideal S1x2048 .f32) (k : Fin 2048) :
    k0_pay15 g p (ix2 (0 : Fin 1) k) = g (ix3 (0 : Fin 1) (0 : Fin 1) k) * p (ix2 (0 : Fin 1) k) := by
  unfold k0_pay15
  rw [mulf_apply, shapeCast_1ab_ab_apply, shapeCast_self]

end Cert.Kernel4Ideal.Opj
end
-- ==== Proof.Opj.Out.lean ====
/- What one grid point writes: two halves of 256 rows. -/
module

public import proofs.«01_k».proof.Proof.Opj.Math
public import Idealize.ShloMosaic.Lib.Pipeline.ValueKit.Tiles

@[expose] public section
set_option maxRecDepth 65536
set_option maxHeartbeats 4000000
noncomputable section
namespace Cert.Kernel4Ideal.Opj
open Idealize.ShloMosaic Idealize.ShloMosaic.TcCoe Idealize.ShloMosaic.Tactic Idealize.ShloMosaic.ValueIdx
open Cert.Kernel4Ideal.Gen
open Cert.Kernel2Ideal.Ffn (inv dotp)

/-- Rows `o` to `o + 255` of slab `p`. -/
abbrev aRect (o : ℕ) (h : o ≤ 256) (p : Fin 8) : Rect S8x512x128 := Rect.unit (s := S8x512x128) ![p.val, o, 0] S1x256x128.size fun a => by
  have := p.isLt
  match a with
  | ⟨0, _⟩ => show p.val + 1 ≤ 8; omega
  | ⟨1, _⟩ => show o + 256 ≤ 512; omega
  | ⟨2, _⟩ => show 0 + 128 ≤ 128; omega
/-- Rows `o` to `o + 127` of slab `p`. -/
abbrev cRect (o : ℕ) (h : o ≤ 384) (p : Fin 8) : Rect S8x512x128 := Rect.unit (s := S8x512x128) ![p.val, o, 0] S1x128x128.size fun a => by
  have := p.isLt
  match a with
  | ⟨0, _⟩ => show p.val + 1 ≤ 8; omega
  | ⟨1, _⟩ => show o + 128 ≤ 512; omega
  | ⟨2, _⟩ => show 0 + 128 ≤ 128; omega
/-- Group `p`'s square. -/
abbrev wRect (p : Fin 8) : Rect S8x128x128 := Rect.unit (s := S8x128x128) ![p.val, 0, 0] S1x128x128.size fun a => by
  have := p.isLt
  match a with
  | ⟨0, _⟩ => show p.val + 1 ≤ 8; omega
  | ⟨1, _⟩ => show 0 + 128 ≤ 128; omega
  | ⟨2, _⟩ => show 0 + 128 ≤ 128; omega
/-- Lanes `128 p` and on. -/
abbrev gRect (p : Fin 8) : Rect S1x1024 := Rect.unit (s := S1x1024) ![0, 128 * p.val] S1x128.size fun a => by
  have := p.isLt
  match a with
  | ⟨0, _⟩ => show 0 + 1 ≤ 1; omega
  | ⟨1, _⟩ => show 128 * p.val + 128 ≤ 1024; omega

variable (x0 : Vec Ideal S512x2048 .f32) (x1 x2 x3 : Vec Ideal S8x512x128 .bf16) (x4 x5 : Vec Ideal S8x128x128 .f32) (x6 x7 : Vec Ideal S1x1024 .f32)
  (x8 : Vec Ideal S1x1x2048 .f32) (x9 : Vec Ideal S1x2048 .f32) (x10 : Vec Ideal S2048x2048 .bf16)

/-- Slab `p` of the attention's rows. -/
def zA (o : ℕ) (h : o ≤ 256) (p : Fin 8) : FVec Ideal S256x128 .f32 := k0_pay54 (View.ld x1 (aRect o h p))
/-- Slab `p` of the gated rows. -/
def zB (o : ℕ) (h : o ≤ 256) (p : Fin 8) : FVec Ideal S256x128 .f32 :=
  k0_pay28 (wgt (View.ld x4 (wRect p))) (View.ld x3 (cRect o (by omega) p)) (View.ld x3 (cRect (o + 128) (by omega) p)) (View.ld x2 (cRect o (by omega) p))
    (View.ld x5 (wRect p)) (View.ld x2 (cRect (o + 128) (by omega) p)) (View.ld x5 (wRect p))
/-- The rows of one half. -/
def rows (o : ℕ) (h : o ≤ 256) (x : Vec Ideal S256x2048 .f32) : FVec Ideal S256x2048 .f32 :=
  half (k0_pay15 (View.ld x8 r0_8) (View.ld x9 r0_9)) x (View.ld x10 r0_58) (zA x1 o h) (zB x2 x3 x4 x5 o h) (fun p => View.ld x6 (gRect p)) (fun p => View.ld x7 (gRect p))

theorem out_eq : out0_11 x0 x1 x2 x3 x4 x5 x6 x7 x8 x9 x10
    = View.canon [⟨r0_68, rows x1 x2 x3 x4 x5 x6 x7 x8 x9 x10 256 (by omega) (View.ld x0 r0_68)⟩,
        ⟨r0_59, rows x1 x2 x3 x4 x5 x6 x7 x8 x9 x10 0 (by omega) (View.ld x0 r0_59)⟩] := by
  rfl

end Cert.Kernel4Ideal.Opj
end
-- ==== Proof.Opj.Spec.lean ====
/- The output projection's result, row by row: first of a block, then of the arguments. -/
module

public import proofs.«01_k».proof.Proof.Opj.Out
public import proofs.«01_k».proof.Proof.Ffn.Spec

@[expose] public section
set_option maxRecDepth 65536
set_option maxHeartbeats 4000000
noncomputable section
namespace Cert.Kernel4Ideal.Opj
open Idealize.ShloMosaic Idealize.ShloMosaic.TcCoe Idealize.ShloMosaic.Tactic Idealize.ShloMosaic.ValueIdx
open Cert.Kernel4Ideal.Gen
open Cert.Kernel2Ideal.Ffn (inv dotp bat pos rowX)

theorem lanes_eq (f : Fin 1024 → EReal) : (lanes fun p l => f ⟨128 * p.val + l.val, by omega⟩) = f := funext fun j => congrArg f (Fin.ext (by
  show 128 * (j.val / 128) + j.val % 128 = j.val
  omega))

theorem ld_a {e : EltTy} (x : Vec Ideal S8x512x128 e) (o : ℕ) (h : o ≤ 256) (p : Fin 8) (r : Fin 256) (l : Fin 128) (R : Fin 512) (hR : R.val = o + r.val) :
    View.ld x (aRect o h p) (ix3 (0 : Fin 1) r l) = x (ix3 p R l) := by
  refine View.ld_unit_apply_of _ _ _ _ _ _ fun a => ?_
  match a with
  | ⟨0, _⟩ => show p.val = p.val + 0; omega
  | ⟨1, _⟩ => show R.val = o + r.val; omega
  | ⟨2, _⟩ => show l.val = 0 + l.val; omega
theorem ld_c {e : EltTy} (x : Vec Ideal S8x512x128 e) (o : ℕ) (h : o ≤ 384) (p : Fin 8) (t l : Fin 128) (R : Fin 512) (hR : R.val = o + t.val) :
    View.ld x (cRect o h p) (ix3 (0 : Fin 1) t l) = x (ix3 p R l) := by
  refine View.ld_unit_apply_of _ _ _ _ _ _ fun a => ?_
  match a with
  | ⟨0, _⟩ => show p.val = p.val + 0; omega
  | ⟨1, _⟩ => show R.val = o + t.val; omega
  | ⟨2, _⟩ => show l.val = 0 + l.val; omega
theorem ld_w {e : EltTy} (x : Vec Ideal S8x128x128 e) (p : Fin 8) (t s : Fin 128) :
    View.ld x (wRect p) (ix3 (0 : Fin 1) t s) = x (ix3 p t s) := by
  refine View.ld_unit_apply_of _ _ _ _ _ _ fun a => ?_
  match a with
  | ⟨0, _⟩ => show p.val = p.val + 0; omega
  | ⟨1, _⟩ => show t.val = 0 + t.val; omega
  | ⟨2, _⟩ => show s.val = 0 + s.val; omega
theorem ld_g {e : EltTy} (x : Vec Ideal S1x1024 e) (p : Fin 8) (l : Fin 128) :
    View.ld x (gRect p) (ix2 (0 : Fin 1) l) = x (ix2 (0 : Fin 1) (⟨128 * p.val + l.val, by omega⟩ : Fin 1024)) := by
  refine View.ld_unit_apply_of _ _ _ _ _ _ fun a => ?_
  match a with
  | ⟨0, _⟩ => show 0 = 0 + 0; omega
  | ⟨1, _⟩ => show 128 * p.val + l.val = 128 * p.val + l.val; omega
theorem ld_low {e : EltTy} (x : Vec Ideal S512x2048 e) (r : Fin 256) (k : Fin 2048) :
    View.ld x (r0_59) (ix2 r k) = x (ix2 (⟨0 + r.val, by omega⟩ : Fin 512) k) := by
  refine View.ld_unit_apply_of _ _ _ _ _ _ fun a => ?_
  match a with
  | ⟨0, _⟩ => show 0 + r.val = 0 + r.val; omega
  | ⟨1, _⟩ => show k.val = 0 + k.val; omega
theorem ld_high {e : EltTy} (x : Vec Ideal S512x2048 e) (r : Fin 256) (k : Fin 2048) :
    View.ld x (r0_68) (ix2 r k) = x (ix2 (⟨256 + r.val, by omega⟩ : Fin 512) k) := by
  refine View.ld_unit_apply_of _ _ _ _ _ _ fun a => ?_
  match a with
  | ⟨0, _⟩ => show 256 + r.val = 256 + r.val; omega
  | ⟨1, _⟩ => show k.val = 0 + k.val; omega
theorem ld_gate (x : Vec Ideal S1x1x2048 .f32) : View.ld x r0_8 = x := View.ld_unit_zero (S := S1x1x2048) (off := (![0, 0, 0] : Fin 3 → Nat)) (show (![0, 0, 0] : Fin 3 → Nat) = fun _ => 0 by decide) _ x
theorem ld_post (x : Vec Ideal S1x2048 .f32) : View.ld x r0_9 = x := View.ld_unit_zero (S := S1x2048) (off := (![0, 0] : Fin 2 → Nat)) (show (![0, 0] : Fin 2 → Nat) = fun _ => 0 by decide) _ x
theorem ld_out (x : Vec Ideal S2048x2048 .bf16) : View.ld x r0_58 = x := View.ld_unit_zero (S := S2048x2048) (off := (![0, 0] : Fin 2 → Nat)) (show (![0, 0] : Fin 2 → Nat) = fun _ => 0 by decide) _ x

section Block
variable (x0 : Vec Ideal S512x2048 .f32) (x1 x2 x3 : Vec Ideal S8x512x128 .bf16) (x4 x5 : Vec Ideal S8x128x128 .f32) (x6 x7 : Vec Ideal S1x1024 .f32)
  (x8 : Vec Ideal S1x1x2048 .f32) (x9 : Vec Ideal S1x2048 .f32) (x10 : Vec Ideal S2048x2048 .bf16)

/-- A block's gated row. -/
def blkB (R : Fin 512) (p : Fin 8) (l : Fin 128) : EReal :=
  gate (x2 (ix3 p R l)) (x5 (ix3 p (⟨R.val % 128, Nat.mod_lt _ (by norm_num)⟩ : Fin 128) l))
    (kept (fun t s => x4 (ix3 p t s)) ⟨R.val % 128, Nat.mod_lt _ (by norm_num)⟩)
    (fun s => x3 (ix3 p (⟨128 * (R.val / 128) + s.val, by omega⟩ : Fin 512) l))

/-- Row `R` of a block's result. -/
def blkOut (R : Fin 512) (k : Fin 2048) : EReal :=
  outv (fun k => x0 (ix2 R k)) (fun k => x8 (ix3 (0 : Fin 1) (0 : Fin 1) k) * x9 (ix2 (0 : Fin 1) k))
    (fun k => dotp (merged (lanes fun p l => x1 (ix3 p R l)) (lanes (blkB x2 x3 x4 x5 R)) (fun j => x6 (ix2 (0 : Fin 1) j)) (fun j => x7 (ix2 (0 : Fin 1) j)))
      fun j => x10 (ix2 j k)) k

theorem zA_apply (o : ℕ) (h : o ≤ 256) (p : Fin 8) (r : Fin 256) (l : Fin 128) (R : Fin 512) (hR : R.val = o + r.val) :
    zA x1 o h p (ix2 r l) = x1 (ix3 p R l) := by
  unfold zA
  rw [pay54_apply]
  exact ld_a x1 o h p r l R hR

theorem gate_congr {u u' b b' : EReal} {w w' v v' : Fin 128 → EReal} (hu : u = u') (hb : b = b') (hw : w = w') (hv : v = v') : gate u b w v = gate u' b' w' v' := by
  rw [hu, hb, hw, hv]

theorem zB_apply (o : ℕ) (h : o ≤ 256) (ho : o = 0 ∨ o = 256) (p : Fin 8) (r : Fin 256) (l : Fin 128) (R : Fin 512) (hR : R.val = o + r.val) :
    zB x2 x3 x4 x5 o h p (ix2 r l) = blkB x2 x3 x4 x5 R p l := by
  have wk : ∀ t : Fin 128, (fun s => wgt (View.ld x4 (wRect p)) (ix2 t s)) = kept (fun t s => x4 (ix3 p t s)) t := fun t => funext fun s => by
    rw [wgt_apply]
    exact congrArg (fun w => kept w t s) (funext fun t => funext fun s => ld_w x4 p t s)
  have hr := r.isLt
  unfold zB blkB
  by_cases q : r.val < 128
  · have e : (⟨R.val % 128, Nat.mod_lt _ (by norm_num)⟩ : Fin 128) = ⟨r.val, q⟩ := Fin.ext (by show R.val % 128 = r.val; omega)
    rw [e]
    refine (group_low _ _ _ _ _ _ _ r ⟨r.val, q⟩ l rfl).trans (gate_congr ?_ ?_ ?_ ?_)
    · exact ld_c x2 o _ p _ l R hR
    · exact ld_w x5 p _ l
    · exact wk _
    · exact funext fun s => ld_c x3 o _ p s l _ (by show 128 * (R.val / 128) + s.val = o + s.val; omega)
  · have e : (⟨R.val % 128, Nat.mod_lt _ (by norm_num)⟩ : Fin 128) = ⟨r.val - 128, by omega⟩ := Fin.ext (by show R.val % 128 = r.val - 128; omega)
    rw [e]
    refine (group_high _ _ _ _ _ _ _ r ⟨r.val - 128, by omega⟩ l (by show r.val = 128 + (r.val - 128); omega)).trans (gate_congr ?_ ?_ ?_ ?_)
    · exact ld_c x2 (o + 128) _ p _ l R (by show R.val = o + 128 + (r.val - 128); omega)
    · exact ld_w x5 p _ l
    · exact wk _
    · exact funext fun s => ld_c x3 (o + 128) _ p s l _ (by show 128 * (R.val / 128) + s.val = o + 128 + s.val; omega)

theorem rows_apply (o : ℕ) (h : o ≤ 256) (ho : o = 0 ∨ o = 256) (x : Vec Ideal S256x2048 .f32) (r : Fin 256) (k : Fin 2048) (R : Fin 512) (hR : R.val = o + r.val)
    (hx : ∀ k : Fin 2048, x (ix2 r k) = x0 (ix2 R k)) :
    rows x1 x2 x3 x4 x5 x6 x7 x8 x9 x10 o h x (ix2 r k) = blkOut x0 x1 x2 x3 x4 x5 x6 x7 x8 x9 x10 R k := by
  have hA : (fun (p : Fin 8) (l : Fin 128) => zA x1 o h p (ix2 r l)) = fun p l => x1 (ix3 p R l) := funext fun p => funext fun l => zA_apply x1 o h p r l R hR
  have hB : (fun (p : Fin 8) (l : Fin 128) => zB x2 x3 x4 x5 o h p (ix2 r l)) = blkB x2 x3 x4 x5 R := funext fun p => funext fun l => zB_apply x2 x3 x4 x5 o h ho p r l R hR
  have hG : ∀ g : Vec Ideal S1x1024 .f32, (lanes fun (p : Fin 8) (l : Fin 128) => View.ld g (gRect p) (ix2 (0 : Fin 1) l)) = fun j => g (ix2 (0 : Fin 1) j) := fun g =>
    (congrArg lanes (funext fun p => funext fun l => ld_g g p l)).trans (lanes_eq fun j => g (ix2 (0 : Fin 1) j))
  unfold rows blkOut
  rw [half_apply, hA, hB, hG, hG, ld_gate, ld_post, ld_out]
  simp only [hx, pay15_apply]

/-- What the body leaves in its buffer. -/
theorem out_apply (y : S512x2048.Idx) : out0_11 x0 x1 x2 x3 x4 x5 x6 x7 x8 x9 x10 y = blkOut x0 x1 x2 x3 x4 x5 x6 x7 x8 x9 x10 ⟨(y 0).val, (y 0).isLt⟩ ⟨(y 1).val, (y 1).isLt⟩ := by
  rw [out_eq]
  canon_tiles x h using Gen.cover0_11 ..
  · have hx0 : (x (0 : Fin 2)).val < 256 := (x (0 : Fin 2)).isLt
    have hx1 : (x (1 : Fin 2)).val < 2048 := (x (1 : Fin 2)).isLt
    have ex : x = ix2 (⟨(x (0 : Fin 2)).val, hx0⟩ : Fin 256) (⟨(x (1 : Fin 2)).val, hx1⟩ : Fin 2048) := funext fun a => by
      match a with
      | ⟨0, _⟩ => rfl
      | ⟨1, _⟩ => rfl
    have e1 : (⟨(y 1).val, (y 1).isLt⟩ : Fin 2048) = ⟨(x (1 : Fin 2)).val, hx1⟩ := Fin.ext (by show (y 1).val = (x (1 : Fin 2)).val; omega)
    have e0 : (⟨(y 0).val, (y 0).isLt⟩ : Fin 512) = ⟨256 + (x (0 : Fin 2)).val, by omega⟩ := Fin.ext (by show (y 0).val = 256 + (x (0 : Fin 2)).val; omega)
    rw [e0, e1]
    refine (congrArg _ ex).trans ?_
    exact rows_apply x0 x1 x2 x3 x4 x5 x6 x7 x8 x9 x10 256 (by omega) (.inr rfl) _ _ _ _ rfl fun k => ld_high x0 _ k
  · have hx0 : (x (0 : Fin 2)).val < 256 := (x (0 : Fin 2)).isLt
    have hx1 : (x (1 : Fin 2)).val < 2048 := (x (1 : Fin 2)).isLt
    have ex : x = ix2 (⟨(x (0 : Fin 2)).val, hx0⟩ : Fin 256) (⟨(x (1 : Fin 2)).val, hx1⟩ : Fin 2048) := funext fun a => by
      match a with
      | ⟨0, _⟩ => rfl
      | ⟨1, _⟩ => rfl
    have e1 : (⟨(y 1).val, (y 1).isLt⟩ : Fin 2048) = ⟨(x (1 : Fin 2)).val, hx1⟩ := Fin.ext (by show (y 1).val = (x (1 : Fin 2)).val; omega)
    have e0 : (⟨(y 0).val, (y 0).isLt⟩ : Fin 512) = ⟨0 + (x (0 : Fin 2)).val, by omega⟩ := Fin.ext (by show (y 0).val = 0 + (x (0 : Fin 2)).val; omega)
    rw [e0, e1]
    refine (congrArg _ ex).trans ?_
    exact rows_apply x0 x1 x2 x3 x4 x5 x6 x7 x8 x9 x10 0 (by omega) (.inl rfl) _ _ _ _ rfl fun k => ld_low x0 _ k
end Block

variable (x0 : Vec Ideal S4x4096x2048 .f32) (x1 : Vec Ideal S4x4096x1024 .f32) (x2 : Vec Ideal S4x4096x5120 .f32) (x3 : Vec Ideal S8x128x128 .f32)
  (x4 : Vec Ideal S8x128 .f32) (x5 x6 : Vec Ideal S1024 .f32) (x7 : Vec Ideal S4x2048 .f32) (x8 : Vec Ideal S2048 .f32) (x9 : Vec Ideal S2048x2048 .f32)

/-- Lane `128 p + l` of the gated row `n`. -/
def gateLane (n : Fin 16384) (p : Fin 8) (l : Fin 128) : EReal :=
  gate (x2 (ix3 (bat n) (pos n) (⟨3072 + (128 * p.val + l.val), by omega⟩ : Fin 5120))) (x4 (ix2 p (⟨n.val % 128, Nat.mod_lt _ (by norm_num)⟩ : Fin 128)))
    (kept (fun t s => x3 (ix3 p t s)) ⟨n.val % 128, Nat.mod_lt _ (by norm_num)⟩)
    (fun s => x2 (ix3 (bat n) (⟨128 * ((pos n).val / 128) + s.val, by have := (pos n).isLt; omega⟩ : Fin 4096) (⟨4096 + (128 * p.val + l.val), by omega⟩ : Fin 5120)))
/-- The projected row `n`. -/
def rowO (n : Fin 16384) (k : Fin 2048) : EReal :=
  dotp (merged (fun j => x1 (ix3 (bat n) (pos n) j)) (lanes (gateLane x2 x3 x4 n)) (fun j => x5 (ix1 j)) (fun j => x6 (ix1 j))) fun j => x9 (ix2 j k)
/-- The result at row `n`. -/
def target (n : Fin 16384) (k : Fin 2048) : EReal :=
  outv (rowX x0 n) (fun k => x7 (ix2 (bat n) k) * x8 (ix1 k)) (rowO x1 x2 x3 x4 x5 x6 x9 n) k

end Cert.Kernel4Ideal.Opj
end
-- ==== Proof.Opj.Value.lean ====
/- The blocks the output projection's body reads at each grid point, in terms of the arguments, and the result array. -/
module

public import proofs.«01_k».proof.Proof.Opj.Spec
public import proofs.«01_k».proof.Proof.Ffn.Points

@[expose] public section
set_option maxRecDepth 65536
set_option maxHeartbeats 4000000
noncomputable section
namespace Cert.Kernel4Ideal.Opj
open Idealize.ShloMosaic Idealize.ShloMosaic.TcCoe Idealize.ShloMosaic.Tactic Idealize.ShloMosaic.ValueIdx
open Cert.Kernel4Ideal.Gen Idealize.SL.Sem Idealize.ShloMosaic.StableHlo
open Cert.Kernel2Ideal.Ffn (inv dotp bat pos rowX placed2 placed3)

variable (m : (l : Loc nD τ sig) → Buf (Elt Ideal) l) (ρ : Dev nD → PrngReg) (c : Dev nD)

def a0 : Vec Ideal S4x4096x2048 .f32 := m ((c : Thread nD τ).loc main_arg0)
def a1 : Vec Ideal S4x4096x1024 .f32 := m ((c : Thread nD τ).loc main_arg1)
def a2 : Vec Ideal S4x4096x5120 .f32 := m ((c : Thread nD τ).loc main_arg2)
def a3 : Vec Ideal S8x128x128 .f32 := m ((c : Thread nD τ).loc main_arg3)
def a4 : Vec Ideal S8x128 .f32 := m ((c : Thread nD τ).loc main_arg4)
def a5 : Vec Ideal S1024 .f32 := m ((c : Thread nD τ).loc main_arg5)
def a6 : Vec Ideal S1024 .f32 := m ((c : Thread nD τ).loc main_arg6)
def a7 : Vec Ideal S4x2048 .f32 := m ((c : Thread nD τ).loc main_arg7)
def a8 : Vec Ideal S2048 .f32 := m ((c : Thread nD τ).loc main_arg8)
def a9 : Vec Ideal S2048x2048 .f32 := m ((c : Thread nD τ).loc main_arg9)

theorem V_v0 : V m c main_v0 = shapeCast S16384x2048 (a0 m c) shapeCasts_S4x4096x2048_S16384x2048 := by
  show StableHlo.after hostOps0 _ _ = _
  simp only [hostOps0]
  after_results_simp
  rfl
theorem V_v3 : V m c main_v3 = truncf (F := Ideal) (φ := .f32) .bf16 (transpose S8x16384x128 [1, 0, 2] (shapeCast S16384x8x128 (a1 m c) shapeCasts_S4x4096x1024_S16384x8x128) transposes_S16384x8x128_S8x16384x128_1_0_2) bitsLt_bf16_f32 := by
  show StableHlo.after hostOps0 _ _ = _
  simp only [hostOps0]
  after_results_simp
  rfl
theorem V_v6 : V m c main_v6 = truncf (F := Ideal) (φ := .f32) .bf16 (transpose S40x16384x128 [1, 0, 2] (shapeCast S16384x40x128 (a2 m c) shapeCasts_S4x4096x5120_S16384x40x128) transposes_S16384x40x128_S40x16384x128_1_0_2) bitsLt_bf16_f32 := by
  show StableHlo.after hostOps0 _ _ = _
  simp only [hostOps0]
  after_results_simp
  rfl
theorem V_v7 : V m c main_v7 = shapeCast S1x1024 (a5 m c) shapeCasts_S1024_S1x1024 := by
  show StableHlo.after hostOps0 _ _ = _
  simp only [hostOps0]
  after_results_simp
  rfl
theorem V_v8 : V m c main_v8 = shapeCast S1x1024 (a6 m c) shapeCasts_S1024_S1x1024 := by
  show StableHlo.after hostOps0 _ _ = _
  simp only [hostOps0]
  after_results_simp
  rfl
theorem V_v9 : V m c main_v9 = shapeCast S4x1x2048 (a7 m c) shapeCasts_S4x2048_S4x1x2048 := by
  show StableHlo.after hostOps0 _ _ = _
  simp only [hostOps0]
  after_results_simp
  rfl
theorem V_v10 : V m c main_v10 = shapeCast S1x2048 (a8 m c) shapeCasts_S2048_S1x2048 := by
  show StableHlo.after hostOps0 _ _ = _
  simp only [hostOps0]
  after_results_simp
  rfl
theorem V_v11 : V m c main_v11 = truncf (F := Ideal) (φ := .f32) .bf16 (a9 m c) bitsLt_bf16_f32 := by
  show StableHlo.after hostOps0 _ _ = _
  simp only [hostOps0]
  after_results_simp
  rfl
theorem V_v13 : V m c main_v13 = broadcastInDim S8x128x128 ![0, 1, 2] bcast_S8x128x1_S8x128x128_0_1_2 (broadcastInDim S8x128x1 ![0, 1] bcast_S8x128_S8x128x1_0_1 (a4 m c)) := by
  show StableHlo.after hostOps0 _ _ = _
  simp only [hostOps0]
  after_results_simp
  rfl

/-- Row `r` of the block of rows point `t` works on. -/
def rowAt (t : Fin cfg0.N) (r : Fin 512) : Fin 16384 := ⟨512 * t.val + r.val, by have := lt_of_lt_of_eq t.isLt N_0; omega⟩
theorem bat_rowAt (t : Fin cfg0.N) (r : Fin 512) : (bat (rowAt t r)).val = t.val / 8 := by
  show (512 * t.val + r.val) / 4096 = _
  omega

theorem at0 : ∀ t : Fin cfg0.N, win0_0.index t = ![t.val, 0] := (by decide +kernel : ∀ t : Fin grid0.N, _)
theorem at1 : ∀ t : Fin cfg0.N, win0_1.index t = ![0, t.val, 0] := (by decide +kernel : ∀ t : Fin grid0.N, _)
theorem at2 : ∀ t : Fin cfg0.N, win0_2.index t = ![3, t.val, 0] := (by decide +kernel : ∀ t : Fin grid0.N, _)
theorem at3 : ∀ t : Fin cfg0.N, win0_3.index t = ![4, t.val, 0] := (by decide +kernel : ∀ t : Fin grid0.N, _)
theorem at4 : ∀ t : Fin cfg0.N, win0_4.index t = ![0, 0, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![t.val / 8, 0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![t.val, 0] := (by decide +kernel : ∀ t : Fin grid0.N, _)

theorem placed {A B C p q s : Nat} {w : Fin 3 → Nat} {a b : Nat} (h : w = ![a, b, 0]) (i : Fin p) (j : Fin q) (k : Fin C) (x : (⟨3, ![A, B, C]⟩ : Shape).Idx) (I : Fin A) (J : Fin B)
    (h0 : (x (0 : Fin 3)).val = w 0 * p + 1 * i.val) (h1 : (x (1 : Fin 3)).val = w 1 * q + 1 * j.val) (h2 : (x (2 : Fin 3)).val = w 2 * s + 1 * k.val)
    (hI : I.val = a * p + i.val) (hJ : J.val = b * q + j.val) : x = ix3 I J k := by
  subst h
  have h0 : (x (0 : Fin 3)).val = a * p + 1 * i.val := h0
  have h1 : (x (1 : Fin 3)).val = b * q + 1 * j.val := h1
  have h2 : (x (2 : Fin 3)).val = 0 * s + 1 * k.val := h2
  funext n
  apply Fin.ext
  match n with
  | ⟨0, _⟩ => show (x (0 : Fin 3)).val = I.val; omega
  | ⟨1, _⟩ => show (x (1 : Fin 3)).val = J.val; omega
  | ⟨2, _⟩ => show (x (2 : Fin 3)).val = k.val; omega

theorem iblk_x (t : Fin cfg0.N) (r : Fin 512) (k : Fin 2048) : iblk m c 0 t (ix2 r k) = rowX (a0 m c) (rowAt t r) k := by
  refine (congrArg (V m c main_v0) (placed2 (P := 0) (q := 2048) (at0 t) r k (((cfg0.win 0).blk t).view.emb (ix2 r k)) (rowAt t r) rfl rfl
    (by show 512 * t.val + r.val = t.val * 512 + r.val; omega))).trans ?_
  rw [V_v0]
  refine shapeCast_apply _ _ _ (ix3 (bat (rowAt t r)) (pos (rowAt t r)) k) ?_
  rw [Shape.rowMajor_val_two, Shape.rowMajor_val_three]
  show ((rowAt t r).val / 4096 * 4096 + (rowAt t r).val % 4096) * 2048 + k.val = (rowAt t r).val * 2048 + k.val
  omega
theorem iblk_a (t : Fin cfg0.N) (p : Fin 8) (r : Fin 512) (l : Fin 128) : iblk m c 1 t (ix3 p r l) = a1 m c (ix3 (bat (rowAt t r)) (pos (rowAt t r)) (⟨0 + (128 * p.val + l.val), by omega⟩ : Fin 1024)) := by
  refine (congrArg (V m c main_v3) (placed (p := 8) (q := 512) (s := 128) (at1 t) p r l (((cfg0.win 1).blk t).view.emb (ix3 p r l)) (⟨0 + p.val, by omega⟩ : Fin 8) (rowAt t r) rfl rfl rfl
    (by show 0 + p.val = 0 * 8 + p.val; omega) (by show 512 * t.val + r.val = t.val * 512 + r.val; omega))).trans ?_
  rw [V_v3, truncf_apply]
  refine (transpose_apply (s := S16384x8x128) (t := S8x16384x128) [1, 0, 2] _ _ _ (ix3 (rowAt t r) (⟨0 + p.val, by omega⟩ : Fin 8) l) fun b => ?_).trans ?_
  · match b with
    | ⟨0, _⟩ => rfl
    | ⟨1, _⟩ => rfl
    | ⟨2, _⟩ => rfl
  · refine shapeCast_apply _ _ _ _ ?_
    rw [Shape.rowMajor_val_three, Shape.rowMajor_val_three]
    show ((rowAt t r).val / 4096 * 4096 + (rowAt t r).val % 4096) * 1024 + (0 + (128 * p.val + l.val)) = ((rowAt t r).val * 8 + (0 + p.val)) * 128 + l.val
    omega
theorem iblk_u (t : Fin cfg0.N) (p : Fin 8) (r : Fin 512) (l : Fin 128) : iblk m c 2 t (ix3 p r l) = a2 m c (ix3 (bat (rowAt t r)) (pos (rowAt t r)) (⟨3072 + (128 * p.val + l.val), by omega⟩ : Fin 5120)) := by
  refine (congrArg (V m c main_v6) (placed (p := 8) (q := 512) (s := 128) (at2 t) p r l (((cfg0.win 2).blk t).view.emb (ix3 p r l)) (⟨24 + p.val, by omega⟩ : Fin 40) (rowAt t r) rfl rfl rfl
    (by show 24 + p.val = 3 * 8 + p.val; omega) (by show 512 * t.val + r.val = t.val * 512 + r.val; omega))).trans ?_
  rw [V_v6, truncf_apply]
  refine (transpose_apply (s := S16384x40x128) (t := S40x16384x128) [1, 0, 2] _ _ _ (ix3 (rowAt t r) (⟨24 + p.val, by omega⟩ : Fin 40) l) fun b => ?_).trans ?_
  · match b with
    | ⟨0, _⟩ => rfl
    | ⟨1, _⟩ => rfl
    | ⟨2, _⟩ => rfl
  · refine shapeCast_apply _ _ _ _ ?_
    rw [Shape.rowMajor_val_three, Shape.rowMajor_val_three]
    show ((rowAt t r).val / 4096 * 4096 + (rowAt t r).val % 4096) * 5120 + (3072 + (128 * p.val + l.val)) = ((rowAt t r).val * 40 + (24 + p.val)) * 128 + l.val
    omega
theorem iblk_v (t : Fin cfg0.N) (p : Fin 8) (r : Fin 512) (l : Fin 128) : iblk m c 3 t (ix3 p r l) = a2 m c (ix3 (bat (rowAt t r)) (pos (rowAt t r)) (⟨4096 + (128 * p.val + l.val), by omega⟩ : Fin 5120)) := by
  refine (congrArg (V m c main_v6) (placed (p := 8) (q := 512) (s := 128) (at3 t) p r l (((cfg0.win 3).blk t).view.emb (ix3 p r l)) (⟨32 + p.val, by omega⟩ : Fin 40) (rowAt t r) rfl rfl rfl
    (by show 32 + p.val = 4 * 8 + p.val; omega) (by show 512 * t.val + r.val = t.val * 512 + r.val; omega))).trans ?_
  rw [V_v6, truncf_apply]
  refine (transpose_apply (s := S16384x40x128) (t := S40x16384x128) [1, 0, 2] _ _ _ (ix3 (rowAt t r) (⟨32 + p.val, by omega⟩ : Fin 40) l) fun b => ?_).trans ?_
  · match b with
    | ⟨0, _⟩ => rfl
    | ⟨1, _⟩ => rfl
    | ⟨2, _⟩ => rfl
  · refine shapeCast_apply _ _ _ _ ?_
    rw [Shape.rowMajor_val_three, Shape.rowMajor_val_three]
    show ((rowAt t r).val / 4096 * 4096 + (rowAt t r).val % 4096) * 5120 + (4096 + (128 * p.val + l.val)) = ((rowAt t r).val * 40 + (32 + p.val)) * 128 + l.val
    omega
theorem iblk_w (t : Fin cfg0.N) (p : Fin 8) (i j : Fin 128) : iblk m c 4 t (ix3 p i j) = a3 m c (ix3 p i j) :=
  congrArg (V m c main_arg3) (placed (p := 8) (q := 128) (s := 128) (at4 t) p i j (((cfg0.win 4).blk t).view.emb (ix3 p i j)) p i rfl rfl rfl (by omega) (by omega))
theorem iblk_b (t : Fin cfg0.N) (p : Fin 8) (i j : Fin 128) : iblk m c 5 t (ix3 p i j) = a4 m c (ix2 p i) := by
  refine (congrArg (V m c main_v13) (placed (p := 8) (q := 128) (s := 128) (at5 t) p i j (((cfg0.win 5).blk t).view.emb (ix3 p i j)) p i rfl rfl rfl (by omega) (by omega))).trans ?_
  rw [V_v13]
  refine (broadcastInDim_apply (s := S8x128x1) (t := S8x128x128) _ _ _ _ (ix3 p i (0 : Fin 1)) fun a => ?_).trans ?_
  · match a with
    | ⟨0, _⟩ => rfl
    | ⟨1, _⟩ => rfl
    | ⟨2, _⟩ => rfl
  · refine broadcastInDim_apply (s := S8x128) (t := S8x128x1) _ _ _ _ (ix2 p i) fun a => ?_
    match a with
    | ⟨0, _⟩ => rfl
    | ⟨1, _⟩ => rfl
theorem iblk_ga (t : Fin cfg0.N) (k : Fin 1024) : iblk m c 6 t (ix2 (0 : Fin 1) k) = a5 m c (ix1 k) := by
  refine (congrArg (V m c main_v7) (placed2 (P := 0) (q := 1024) (at6 t) (0 : Fin 1) k (((cfg0.win 6).blk t).view.emb (ix2 (0 : Fin 1) k)) (0 : Fin 1) rfl rfl rfl)).trans ?_
  rw [V_v7]
  exact shapeCast_a_1a_apply _ _ _ _
theorem iblk_gb (t : Fin cfg0.N) (k : Fin 1024) : iblk m c 7 t (ix2 (0 : Fin 1) k) = a6 m c (ix1 k) := by
  refine (congrArg (V m c main_v8) (placed2 (P := 0) (q := 1024) (at7 t) (0 : Fin 1) k (((cfg0.win 7).blk t).view.emb (ix2 (0 : Fin 1) k)) (0 : Fin 1) rfl rfl rfl)).trans ?_
  rw [V_v8]
  exact shapeCast_a_1a_apply _ _ _ _
theorem iblk_post (t : Fin cfg0.N) (k : Fin 2048) : iblk m c 9 t (ix2 (0 : Fin 1) k) = a8 m c (ix1 k) := by
  refine (congrArg (V m c main_v10) (placed2 (P := 0) (q := 2048) (at9 t) (0 : Fin 1) k (((cfg0.win 9).blk t).view.emb (ix2 (0 : Fin 1) k)) (0 : Fin 1) rfl rfl rfl)).trans ?_
  rw [V_v10]
  exact shapeCast_a_1a_apply _ _ _ _
theorem iblk_gate (t : Fin cfg0.N) (r : Fin 512) (k : Fin 2048) : iblk m c 8 t (ix3 (0 : Fin 1) (0 : Fin 1) k) = a7 m c (ix2 (bat (rowAt t r)) k) := by
  refine (congrArg (V m c main_v9) (placed3 (p := 1) (q := 2048) (at8 t) (0 : Fin 1) k (((cfg0.win 8).blk t).view.emb (ix3 (0 : Fin 1) (0 : Fin 1) k)) (bat (rowAt t r)) rfl rfl rfl (bat_rowAt t r))).trans ?_
  rw [V_v9]
  exact Cert.Kernel2Ideal.Ffn.mod_apply _ _ _
theorem iblk_out (t : Fin cfg0.N) (i k : Fin 2048) : iblk m c 10 t (ix2 i k) = a9 m c (ix2 i k) := by
  refine (congrArg (V m c main_v11) (placed2 (P := 0) (q := 2048) (at10 t) i k (((cfg0.win 10).blk t).view.emb (ix2 i k)) i rfl rfl (by omega))).trans ?_
  rw [V_v11]
  rfl

/-- The result the arguments give. -/
def G11 : Vec Ideal S16384x2048 .f32 := fun i =>
  target (a0 m c) (a1 m c) (a2 m c) (a3 m c) (a4 m c) (a5 m c) (a6 m c) (a7 m c) (a8 m c) (a9 m c) (i 0) (i 1)

theorem blkB_eq (t : Fin cfg0.N) (r : Fin 512) : blkB (iblk m c 2 t) (iblk m c 3 t) (iblk m c 4 t) (iblk m c 5 t) r = gateLane (a2 m c) (a3 m c) (a4 m c) (rowAt t r) :=
  funext fun p => funext fun l => by
    have e : (⟨r.val % 128, Nat.mod_lt _ (by norm_num)⟩ : Fin 128) = ⟨(rowAt t r).val % 128, Nat.mod_lt _ (by norm_num)⟩ := Fin.ext (by
      show r.val % 128 = (512 * t.val + r.val) % 128
      omega)
    unfold blkB gateLane
    rw [← e]
    refine gate_congr (iblk_u m c t p r l) (iblk_b m c t p _ l) ?_ ?_
    · exact congrArg (fun w => kept w _) (funext fun i => funext fun j => iblk_w m c t p i j)
    · refine funext fun s => (iblk_v m c t p _ l).trans ?_
      refine congrArg (a2 m c) (funext fun a => ?_)
      have hr := r.isLt
      have hs := s.isLt
      have ht := lt_of_lt_of_eq t.isLt N_0
      match a with
      | ⟨0, _⟩ => exact Fin.ext (by show (512 * t.val + (128 * (r.val / 128) + s.val)) / 4096 = (512 * t.val + r.val) / 4096; omega)
      | ⟨1, _⟩ => exact Fin.ext (by show (512 * t.val + (128 * (r.val / 128) + s.val)) % 4096 = 128 * ((512 * t.val + r.val) % 4096 / 128) + s.val; omega)
      | ⟨2, _⟩ => rfl

theorem blkA_eq (t : Fin cfg0.N) (r : Fin 512) : (lanes fun p l => iblk m c 1 t (ix3 p r l)) = fun j => a1 m c (ix3 (bat (rowAt t r)) (pos (rowAt t r)) j) := by
  refine (congrArg lanes (funext fun p => funext fun l => (iblk_a m c t p r l).trans ?_)).trans (lanes_eq fun j => a1 m c (ix3 (bat (rowAt t r)) (pos (rowAt t r)) j))
  exact congrArg (fun q => a1 m c (ix3 (bat (rowAt t r)) (pos (rowAt t r)) q)) (Fin.ext (by show 0 + (128 * p.val + l.val) = 128 * p.val + l.val; omega))

/-- What point `t` leaves in its buffer is its block of that result. -/
theorem block_apply (t : Fin cfg0.N) (y : S512x2048.Idx) (i : S16384x2048.Idx) (h0 : (i (0 : Fin 2)).val = 512 * t.val + (y (0 : Fin 2)).val)
    (h1 : (i (1 : Fin 2)).val = (y (1 : Fin 2)).val) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = G11 m c i := by
  have y0 : (y (0 : Fin 2)).val < 512 := (y (0 : Fin 2)).isLt
  have y1 : (y (1 : Fin 2)).val < 2048 := (y (1 : Fin 2)).isLt
  refine (out_apply _ _ _ _ _ _ _ _ _ _ _ y).trans ?_
  unfold G11 target rowO blkOut
  have e0 : (i (0 : Fin 2) : Fin 16384) = rowAt t ⟨(y (0 : Fin 2)).val, y0⟩ := Fin.ext h0
  have e1 : (i (1 : Fin 2) : Fin 2048) = ⟨(y (1 : Fin 2)).val, y1⟩ := Fin.ext h1
  rw [e0, e1, blkB_eq, blkA_eq]
  simp only [iblk_x, iblk_gate m c t ⟨(y (0 : Fin 2)).val, y0⟩, iblk_ga, iblk_gb, iblk_post, iblk_out]
  rfl

theorem flushed11 (t : Fin cfg0.N) : (dats m 0 c).flushed 11 t = ((cfg0.win 11).blk t).view.read (Elt Ideal) (G11 m c) := by
  rw [Value.flushed11]
  have e0 : win0_11.index t (0 : Fin 2) = t.val := congrFun (at11 t) 0
  have e1 : win0_11.index t (1 : Fin 2) = 0 := congrFun (at11 t) 1
  funext y
  have hb0 : (((cfg0.win 11).blk t).view.emb y (0 : Fin 2)).val = win0_11.index t (0 : Fin 2) * 512 + 1 * (y (0 : Fin 2)).val := rfl
  have hb1 : (((cfg0.win 11).blk t).view.emb y (1 : Fin 2)).val = win0_11.index t (1 : Fin 2) * 2048 + 1 * (y (1 : Fin 2)).val := rfl
  show out0_11 _ _ _ _ _ _ _ _ _ _ _ ((cfg0.win 11).xinj (grid0.coords t) y) = G11 m c (((cfg0.win 11).blk t).view.emb y)
  exact block_apply m c t _ _
    (by show _ = 512 * t.val + (y (0 : Fin 2)).val; rw [hb0, e0]; omega)
    (by show _ = (y (1 : Fin 2)).val; rw [hb1, e1]; omega)

theorem mem_blk11 (t : Fin cfg0.N) (i : S16384x2048.Idx) :
    i ∈ ((cfg0.win 11).blk t).view.set ↔ ∀ a : Fin 2, win0_11.index t a * S512x2048.size a ≤ (i a).val ∧ (i a).val < win0_11.index t a * S512x2048.size a + S512x2048.size a := by
  show i ∈ ((View.whole main_v14).slice (win0_11.rect t)).set ↔ _
  rw [View.set_slice_whole, Rect.mem_set_unit]
  exact Iff.rfl

/-- Every entry of the result is written back by some point. -/
theorem covered11 (i : S16384x2048.Idx) : ∃ t : Fin cfg0.N, (cfg0.win 11).flush t = true ∧ i ∈ ((cfg0.win 11).blk t).view.set := by
  have i0 : (i (0 : Fin 2)).val < 16384 := (i (0 : Fin 2)).isLt
  have i1 : (i (1 : Fin 2)).val < 2048 := (i (1 : Fin 2)).isLt
  have ht : (i (0 : Fin 2)).val / 512 < cfg0.N := lt_of_lt_of_eq (show (i (0 : Fin 2)).val / 512 < 32 by omega) N_0.symm
  refine ⟨⟨(i (0 : Fin 2)).val / 512, ht⟩, flush0_11 _, ?_⟩
  rw [mem_blk11]
  have e0 : win0_11.index (⟨(i (0 : Fin 2)).val / 512, ht⟩ : Fin cfg0.N) (0 : Fin 2) = (i (0 : Fin 2)).val / 512 := congrFun (at11 _) 0
  have e1 : win0_11.index (⟨(i (0 : Fin 2)).val / 512, ht⟩ : Fin cfg0.N) (1 : Fin 2) = 0 := congrFun (at11 _) 1
  intro a
  match a with
  | ⟨0, _⟩ =>
    show win0_11.index _ (0 : Fin 2) * 512 ≤ (i (0 : Fin 2)).val ∧ (i (0 : Fin 2)).val < win0_11.index _ (0 : Fin 2) * 512 + 512
    rw [e0]
    omega
  | ⟨1, _⟩ =>
    show win0_11.index _ (1 : Fin 2) * 2048 ≤ (i (1 : Fin 2)).val ∧ (i (1 : Fin 2)).val < win0_11.index _ (1 : Fin 2) * 2048 + 2048
    rw [e1]
    omega

theorem final11 : (dats m 0 c).arrAt 11 cfg0.N = G11 m c :=
  (dats m 0 c).arrAt_eq_of_cover 11 _ (fun t _ => flushed11 m c t) (fun i => covered11 i)

end Cert.Kernel4Ideal.Opj
end
-- ==== Proof.Opj.Ref.lean ====
/- What the output projection's reference computes, step by step. -/
module

public import proofs.«01_k».proof.Proof.Opj.Spec
public import proofs.«01_k».proof.Proof.Gen.Reference4Ideal.Read
public import Idealize.ShloMosaic.Lib.IdealHost

@[expose] public section
set_option maxRecDepth 65536
set_option maxHeartbeats 4000000
noncomputable section
namespace Cert.Kernel4Ideal.Opj
open Idealize.ShloMosaic Idealize.ShloMosaic.ValueIdx
open Cert.Reference4Ideal Cert.Reference4Ideal.Gen Cert.Reference4Ideal.Read
open Cert.Kernel4Ideal.Gen (k0_pay2 k0_pay3 k0_pay4 k0_pay5 k0_pay6)
open Cert.Kernel2Ideal.Ffn (inv dotp bat pos rowX)

variable (x0 : Vec Ideal S4x4096x2048 .f32) (x1 : Vec Ideal S4x4096x1024 .f32) (x2 : Vec Ideal S4x4096x5120 .f32) (x3 : Vec Ideal S8x128x128 .f32)
  (x4 : Vec Ideal S8x128 .f32) (x5 x6 : Vec Ideal S1024 .f32) (x7 : Vec Ideal S4x2048 .f32) (x8 : Vec Ideal S2048 .f32) (x9 : Vec Ideal S2048x2048 .f32)

/-- The kernel's chunk number of a row, which is the reference's. -/
theorem chunk_row0 : ∀ t : Fin 128, (k0_pay2 (ix2 t (0 : Fin 128)) : BitVec 32) = (val_main_v5 (F := Ideal) (ix2 t (0 : Fin 1)) : BitVec 32) := by decide +kernel
theorem chunk_row (t s : Fin 128) : (k0_pay2 (ix2 t s) : BitVec 32) = (val_main_v5 (F := Ideal) (ix2 t (0 : Fin 1)) : BitVec 32) :=
  Eq.trans (show k0_pay2 (ix2 t s) = k0_pay2 (ix2 t (0 : Fin 128)) from rfl) (chunk_row0 t)
/-- The kernel's chunk number of a column. -/
def colNo (t s : Fin 128) : BitVec 32 :=
  Scalar.select (IntOp.andi (k0_pay4 (ix2 t s)) (k0_pay5 (ix2 t s))) (IntOp.subi (k0_pay3 (ix2 t s)) 1#32) (k0_pay3 (ix2 t s))
theorem chunk_col0 : ∀ s : Fin 128, colNo (0 : Fin 128) s = (val_main_v7 (F := Ideal) (ix2 (0 : Fin 1) s) : BitVec 32) := by decide +kernel
theorem chunk_col (t s : Fin 128) : colNo t s = (val_main_v7 (F := Ideal) (ix2 (0 : Fin 1) s) : BitVec 32) :=
  Eq.trans (show colNo t s = colNo (0 : Fin 128) s from rfl) (chunk_col0 s)
theorem mask_ref (t s : Fin 128) : (val_main_v10 (F := Ideal) (ix2 t s) : BitVec 1) = mask t s := by
  have e8 : idx_main_v8 (ix2 t s) = ix2 t (0 : Fin 1) := funext fun a => by
    match a with
    | ⟨0, _⟩ => rfl
    | ⟨1, _⟩ => rfl
  have e9 : idx_main_v9 (ix2 t s) = ix2 (0 : Fin 1) s := funext fun a => by
    match a with
    | ⟨0, _⟩ => rfl
    | ⟨1, _⟩ => rfl
  rw [val_main_v10_apply, val_main_v8_apply, val_main_v9_apply, e8, e9]
  refine Eq.trans ?_ (show IntOp.cmpi .sge (k0_pay2 (ix2 t s)) (colNo t s) = mask t s from rfl)
  rw [chunk_row, chunk_col]

theorem ref_w (p : Fin 8) (t s : Fin 128) : val_main_v13 (F := Ideal) x3 (ix3 p t s) = kept (fun t s => x3 (ix3 p t s)) t s := by
  have e : idx_main_v11 (idx_main_call2_v0 (ix3 p t s)) = ix2 t s := funext fun a => by
    match a with
    | ⟨0, _⟩ => rfl
    | ⟨1, _⟩ => rfl
  rw [val_main_v13_apply, val_main_call2_v0_apply, val_main_v11_apply, val_main_v12_apply, val_main_cst_apply, e, mask_ref,
    show (FloatOps.ofBits .f32 0x00000000#32 : Ideal .f32) = 0 from Ideal.ofBits_zero_f32]
  rfl

theorem ref_v (b : Fin 4) (c : Fin 32) (k : Fin 128) (p : Fin 8) (l : Fin 128) :
    val_main_v2 (F := Ideal) x2 (ix5 b c k p l) = x2 (ix3 b (⟨128 * c.val + k.val, by omega⟩ : Fin 4096) (⟨4096 + (128 * p.val + l.val), by omega⟩ : Fin 5120)) := by
  rw [val_main_v2_apply, val_main_v1_apply]
  have hb := b.isLt
  have hc := c.isLt
  have hk := k.isLt
  have hp := p.isLt
  have hl := l.isLt
  refine congrArg x2 (funext fun a => ?_)
  match a with
  | ⟨0, _⟩ => exact Fin.ext (by show ((((b.val * 32 + c.val) * 128 + k.val) * 8 + p.val) * 128 + l.val) / 4194304 = b.val; omega)
  | ⟨1, _⟩ => exact Fin.ext (by show ((((b.val * 32 + c.val) * 128 + k.val) * 8 + p.val) * 128 + l.val) / 1024 % 4096 = 128 * c.val + k.val; omega)
  | ⟨2, _⟩ => exact Fin.ext (by show 4096 + ((((b.val * 32 + c.val) * 128 + k.val) * 8 + p.val) * 128 + l.val) % 1024 = 4096 + (128 * p.val + l.val); omega)

theorem ref_mix (b : Fin 4) (c : Fin 32) (r : Fin 128) (p : Fin 8) (l : Fin 128) :
    val_main_v19 (F := Ideal) x2 x3 x4 (ix5 b c r p l)
      = (∑ s : Fin 128, kept (fun t s => x3 (ix3 p t s)) r s * x2 (ix3 b (⟨128 * c.val + s.val, by omega⟩ : Fin 4096) (⟨4096 + (128 * p.val + l.val), by omega⟩ : Fin 5120)))
        + x4 (ix2 p r) := by
  have e4 : idx_main_v16 (idx_main_v17 (idx_main_v18 (ix5 b c r p l))) = ix2 p r := funext fun a => by
    match a with
    | ⟨0, _⟩ => rfl
    | ⟨1, _⟩ => rfl
  rw [val_main_v19_apply, val_main_v15_apply, val_main_v14_apply, val_main_v18_apply, val_main_v17_apply, val_main_v16_apply, e4]
  refine congrArg (fun q : EReal => q + x4 (ix2 p r)) (Finset.sum_congr rfl fun k _ => ?_)
  have el : lidx_main_v14 (idx_main_v15 (ix5 b c r p l)) k = ix5 b c k p l := funext fun a => by
    match a with
    | ⟨0, _⟩ => rfl
    | ⟨1, _⟩ => rfl
    | ⟨2, _⟩ => rfl
    | ⟨3, _⟩ => rfl
    | ⟨4, _⟩ => rfl
  have er : ridx_main_v14 (idx_main_v15 (ix5 b c r p l)) k = ix3 p r k := funext fun a => by
    match a with
    | ⟨0, _⟩ => rfl
    | ⟨1, _⟩ => rfl
    | ⟨2, _⟩ => rfl
  rw [el, er, ref_v, ref_w]
  exact mul_comm (G := EReal) _ _

/-- The gated lanes. -/
theorem ref_g (n : Fin 16384) (j : Fin 1024) : val_main_v21 (F := Ideal) x2 x3 x4 (ix3 (bat n) (pos n) j) = lanes (gateLane x2 x3 x4 n) j := by
  have hp : (pos n).val = n.val % 4096 := rfl
  have hq := (pos n).isLt
  have hb := (bat n).isLt
  have hj := j.isLt
  have e0 : idx_main_v0 (ix3 (bat n) (pos n) j) = ix3 (bat n) (pos n) (⟨3072 + (128 * (j.val / 128) + j.val % 128), by omega⟩ : Fin 5120) := funext fun a => by
    match a with
    | ⟨0, _⟩ => rfl
    | ⟨1, _⟩ => rfl
    | ⟨2, _⟩ => exact Fin.ext (by show 3072 + j.val = 3072 + (128 * (j.val / 128) + j.val % 128); omega)
  have e20 : idx_main_v20 (ix3 (bat n) (pos n) j) = ix5 (bat n) (⟨(pos n).val / 128, by omega⟩ : Fin 32) (⟨n.val % 128, Nat.mod_lt _ (by norm_num)⟩ : Fin 128)
      (⟨j.val / 128, by omega⟩ : Fin 8) (⟨j.val % 128, Nat.mod_lt _ (by norm_num)⟩ : Fin 128) := funext fun a => by
    match a with
    | ⟨0, _⟩ => exact Fin.ext (by show (((bat n).val * 4096 + (pos n).val) * 1024 + j.val) / 4194304 = (bat n).val; omega)
    | ⟨1, _⟩ => exact Fin.ext (by show (((bat n).val * 4096 + (pos n).val) * 1024 + j.val) / 131072 % 32 = (pos n).val / 128; omega)
    | ⟨2, _⟩ => exact Fin.ext (by show (((bat n).val * 4096 + (pos n).val) * 1024 + j.val) / 1024 % 128 = n.val % 128; omega)
    | ⟨3, _⟩ => exact Fin.ext (by show (((bat n).val * 4096 + (pos n).val) * 1024 + j.val) / 128 % 8 = j.val / 128; omega)
    | ⟨4, _⟩ => exact Fin.ext (by show (((bat n).val * 4096 + (pos n).val) * 1024 + j.val) % 128 = j.val % 128; omega)
  rw [val_main_v21_apply, val_main_v0_apply, val_main_v20_apply, e0, e20, ref_mix]
  rfl

theorem ref_inva (b : Fin 4) (s : Fin 4096) (k : Fin 1024) :
    val_main_v30 (F := Ideal) x1 (ix3 b s k) = inv1 (fun k => x1 (ix3 b s k)) := by
  have e : ∀ q : Fin 1024, idx_main_v23 (idx_main_v24 (idx_main_v30 (ix3 b s k))) q = ix3 b s q := fun q => funext fun a => by
    match a with
    | ⟨0, _⟩ => rfl
    | ⟨1, _⟩ => rfl
    | ⟨2, _⟩ => rfl
  rw [val_main_v30_apply, val_main_v29_apply, val_main_v28_apply, val_main_v26_apply, val_main_v24_apply, val_main_v23_apply, val_main_v25_apply, val_main_v27_apply, val_main_cst_2_apply, val_main_cst_3_apply, val_main_cst_1_apply]
  simp only [val_main_v22_apply, e]
  unfold inv1
  rw [show (FloatOps.ofBits .f32 0x00000000#32 : Ideal .f32) = 0 from Ideal.ofBits_zero_f32, zero_add]
  rfl

theorem ref_invb (b : Fin 4) (s : Fin 4096) (k : Fin 1024) :
    val_main_v43 (F := Ideal) x2 x3 x4 (ix3 b s k) = inv1 (fun k => val_main_v21 (F := Ideal) x2 x3 x4 (ix3 b s k)) := by
  have e : ∀ q : Fin 1024, idx_main_v36 (idx_main_v37 (idx_main_v43 (ix3 b s k))) q = ix3 b s q := fun q => funext fun a => by
    match a with
    | ⟨0, _⟩ => rfl
    | ⟨1, _⟩ => rfl
    | ⟨2, _⟩ => rfl
  rw [val_main_v43_apply, val_main_v42_apply, val_main_v41_apply, val_main_v39_apply, val_main_v37_apply, val_main_v36_apply, val_main_v38_apply, val_main_v40_apply, val_main_cst_5_apply, val_main_cst_6_apply, val_main_cst_4_apply]
  simp only [val_main_v35_apply, e]
  unfold inv1
  rw [show (FloatOps.ofBits .f32 0x00000000#32 : Ideal .f32) = 0 from Ideal.ofBits_zero_f32, zero_add]
  rfl

theorem ref_invy (b : Fin 4) (s : Fin 4096) (k : Fin 2048) :
    val_main_v59 (F := Ideal) x1 x2 x3 x4 x5 x6 x9 (ix3 b s k) = inv (fun k => val_main_v49 (F := Ideal) x1 x2 x3 x4 x5 x6 x9 (ix3 b s k)) := by
  have e : ∀ q : Fin 2048, idx_main_v52 (idx_main_v53 (idx_main_v59 (ix3 b s k))) q = ix3 b s q := fun q => funext fun a => by
    match a with
    | ⟨0, _⟩ => rfl
    | ⟨1, _⟩ => rfl
    | ⟨2, _⟩ => rfl
  rw [val_main_v59_apply, val_main_v58_apply, val_main_v57_apply, val_main_v55_apply, val_main_v53_apply, val_main_v52_apply, val_main_v54_apply, val_main_v56_apply, val_main_cst_8_apply, val_main_cst_9_apply, val_main_cst_7_apply]
  simp only [val_main_v51_apply, e]
  unfold Cert.Kernel2Ideal.Ffn.inv
  rw [show (FloatOps.ofBits .f32 0x00000000#32 : Ideal .f32) = 0 from Ideal.ofBits_zero_f32, zero_add]
  rfl

theorem ref_a (b : Fin 4) (s : Fin 4096) (k : Fin 1024) : val_main_v34 (F := Ideal) x1 x5 (ix3 b s k) = nrm1 (fun k => x1 (ix3 b s k)) (fun k => x5 (ix1 k)) k := by
  have e : idx_main_v32 (idx_main_v33 (ix3 b s k)) = ix1 k := funext fun a => by
    match a with
    | ⟨0, _⟩ => rfl
  rw [val_main_v34_apply, val_main_v31_apply, val_main_v33_apply, val_main_v32_apply, ref_inva, e]
  rfl
theorem ref_b (b : Fin 4) (s : Fin 4096) (k : Fin 1024) :
    val_main_v47 (F := Ideal) x2 x3 x4 x6 (ix3 b s k) = nrm1 (fun k => val_main_v21 (F := Ideal) x2 x3 x4 (ix3 b s k)) (fun k => x6 (ix1 k)) k := by
  have e : idx_main_v45 (idx_main_v46 (ix3 b s k)) = ix1 k := funext fun a => by
    match a with
    | ⟨0, _⟩ => rfl
  rw [val_main_v47_apply, val_main_v44_apply, val_main_v46_apply, val_main_v45_apply, ref_invb, e]
  rfl

/-- The two normalised halves side by side. -/
theorem ref_side (n : Fin 16384) (j : Fin 2048) :
    val_main_v48 (F := Ideal) x1 x2 x3 x4 x5 x6 (ix3 (bat n) (pos n) j)
      = merged (fun j => x1 (ix3 (bat n) (pos n) j)) (lanes (gateLane x2 x3 x4 n)) (fun j => x5 (ix1 j)) (fun j => x6 (ix1 j)) j := by
  have hB : (fun k => val_main_v21 (F := Ideal) x2 x3 x4 (ix3 (bat n) (pos n) k)) = lanes (gateLane x2 x3 x4 n) := funext fun k => ref_g x2 x3 x4 n k
  unfold val_main_v48 merged
  by_cases h : j.val < 1024
  · rw [dif_pos h]
    refine (concatenate_pair_apply_left (t := S4x4096x2048) (s₁ := S4x4096x1024) (s₂ := S4x4096x1024) 2 _ _ _ _ rfl (ix3 (bat n) (pos n) (⟨j.val, h⟩ : Fin 1024)) fun b => ?_).trans (ref_a x1 x5 _ _ _)
    match b with
    | ⟨0, _⟩ => rfl
    | ⟨1, _⟩ => rfl
    | ⟨2, _⟩ => rfl
  · rw [dif_neg h, ← hB]
    refine (concatenate_pair_apply_right (t := S4x4096x2048) (s₁ := S4x4096x1024) (s₂ := S4x4096x1024) 2 _ _ _ _ rfl rfl (ix3 (bat n) (pos n) (⟨j.val - 1024, by omega⟩ : Fin 1024)) (fun b => ?_) ?_).trans (ref_b x2 x3 x4 x6 _ _ _)
    · match b with
      | ⟨0, _⟩ => exact fun _ => rfl
      | ⟨1, _⟩ => exact fun _ => rfl
      | ⟨2, _⟩ => exact fun h => absurd rfl h
    · show j.val - 1024 + 1024 = j.val
      omega

/-- The projected row. -/
theorem ref_y (n : Fin 16384) (k : Fin 2048) : val_main_v49 (F := Ideal) x1 x2 x3 x4 x5 x6 x9 (ix3 (bat n) (pos n) k) = rowO x1 x2 x3 x4 x5 x6 x9 n k := by
  rw [val_main_v49_apply]
  unfold rowO dotp
  refine Finset.sum_congr rfl fun q _ => ?_
  have el : lidx_main_v49 (ix3 (bat n) (pos n) k) q = ix3 (bat n) (pos n) q := funext fun a => by
    match a with
    | ⟨0, _⟩ => rfl
    | ⟨1, _⟩ => rfl
    | ⟨2, _⟩ => rfl
  have er : ridx_main_v49 (ix3 (bat n) (pos n) k) q = ix2 q k := funext fun a => by
    match a with
    | ⟨0, _⟩ => rfl
    | ⟨1, _⟩ => rfl
  rw [el, er, ref_side]

/-- The reference's sum before it is laid out in rows. -/
theorem ref_out (n : Fin 16384) (k : Fin 2048) :
    val_main_v66 (F := Ideal) x0 x1 x2 x3 x4 x5 x6 x7 x8 x9 (ix3 (bat n) (pos n) k) = target x0 x1 x2 x3 x4 x5 x6 x7 x8 x9 n k := by
  have e8 : idx_main_v61 (idx_main_v62 (ix3 (bat n) (pos n) k)) = ix1 k := funext fun a => by
    match a with
    | ⟨0, _⟩ => rfl
  have e7 : idx_main_v50 (idx_main_v64 (ix3 (bat n) (pos n) k)) = ix2 (bat n) k := funext fun a => by
    match a with
    | ⟨0, _⟩ => rfl
    | ⟨1, _⟩ => rfl
  rw [val_main_v66_apply, val_main_v65_apply, val_main_v64_apply, val_main_v50_apply, val_main_v63_apply, val_main_v62_apply, val_main_v61_apply,
    val_main_v60_apply, ref_invy, e8, e7]
  simp only [ref_y]
  unfold target outv
  refine congrArg (rowX x0 n k + ·) ?_
  show x7 (ix2 (bat n) k) * (rowO x1 x2 x3 x4 x5 x6 x9 n k * inv (rowO x1 x2 x3 x4 x5 x6 x9 n) * x8 (ix1 k))
    = x7 (ix2 (bat n) k) * x8 (ix1 k) * (rowO x1 x2 x3 x4 x5 x6 x9 n k * inv (rowO x1 x2 x3 x4 x5 x6 x9 n))
  generalize x7 (ix2 (bat n) k) = p
  generalize rowO x1 x2 x3 x4 x5 x6 x9 n k * inv (rowO x1 x2 x3 x4 x5 x6 x9 n) = q
  generalize x8 (ix1 k) = w
  rw [mul_comm q w]
  exact (mul_assoc (p : EReal) w q).symm

/-- The reference's result at a row and a lane. -/
theorem ref_eq (i : S16384x2048.Idx) :
    val_main_v67 (F := Ideal) x0 x1 x2 x3 x4 x5 x6 x7 x8 x9 i = target x0 x1 x2 x3 x4 x5 x6 x7 x8 x9 (i 0) (i 1) := by
  have h0 : (i 0).val < 16384 := (i 0).isLt
  have h1 : (i 1).val < 2048 := (i 1).isLt
  have e : idx_main_v67 i = ix3 (bat (i 0)) (pos (i 0)) (i 1) := funext fun a => Fin.ext (by
    match a with
    | ⟨0, _⟩ => show ((i 0).val * 2048 + (i 1).val) / 8388608 = (i 0).val / 4096; omega
    | ⟨1, _⟩ => show ((i 0).val * 2048 + (i 1).val) / 2048 % 4096 = (i 0).val % 4096; omega
    | ⟨2, _⟩ => show ((i 0).val * 2048 + (i 1).val) % 2048 = (i 1).val; omega)
  rw [val_main_v67_apply, e]
  exact ref_out x0 x1 x2 x3 x4 x5 x6 x7 x8 x9 (i 0) (i 1)

end Cert.Kernel4Ideal.Opj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init
public import proofs.«01_k».proof.Proof.Att.Finite
public import proofs.«01_k».proof.Proof.Att.KVal
public import proofs.«01_k».proof.Proof.Att.RVal
public import proofs.«01_k».proof.Proof.Ffn.Acc
public import proofs.«01_k».proof.Proof.Ffn.Ref
public import proofs.«01_k».proof.Proof.Ffn.Same
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Prj.Value
public import proofs.«01_k».proof.Proof.Prj.Ref
public import proofs.«01_k».proof.Proof.Opj.Value
public import proofs.«01_k».proof.Proof.Opj.Ref

@[expose] public section

noncomputable section

namespace Cert.Proof

open Idealize.ShloMosaic Idealize.SL.Sem Idealize.ShloMosaic.ValueIdx

theorem frame_p : Cert.quiescent_Kernel := fun m g _ => Cert.Kernel.Gen.frame m g

theorem frame_pi : Cert.quiescent_KernelIdeal := fun m g _ => Cert.KernelIdeal.Gen.frame m g

theorem frame_pi_pre : Cert.quiescent_KernelIdeal_pre_finite := fun m g _ => Cert.KernelIdeal.Gen.frame m g

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_pre : Cert.quiescent_ReferenceIdeal_pre_finite := fun m g _ => frame_ri m g trivial

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- The kernel's array and the reference's hold the same attention. -/
theorem same (m : (ℓ : Loc Cert.KernelIdeal.nD Cert.KernelIdeal.τ Cert.KernelIdeal.sig) → Buf (Elt Ideal) ℓ)
    (c : Dev Cert.KernelIdeal.nD) (hp : Cert.Pre_KernelIdeal_finite m) :
    Cert.ReferenceIdeal.Read.val_main_v80 (F := Ideal) (Cert.KernelIdeal.Att.argQ m c) (Cert.KernelIdeal.Att.argK m c) (Cert.KernelIdeal.Att.argV m c) (Cert.KernelIdeal.Att.argB m c)
      = Cert.KernelIdeal.Value.G6 m c := by
  obtain ⟨⟨rq, hq⟩, ⟨rk, hk⟩, ⟨rb, hb⟩⟩ := Cert.KernelIdeal.Att.reals_of_pre _ _ _ _ (hp c)
  have key : ∀ (s : Fin 8) (n : Fin 16384) (l : Fin 128),
      Cert.ReferenceIdeal.Read.val_main_v80 (F := Ideal) (Cert.KernelIdeal.Att.argQ m c) (Cert.KernelIdeal.Att.argK m c) (Cert.KernelIdeal.Att.argV m c) (Cert.KernelIdeal.Att.argB m c) (ix3 s n l)
        = Cert.KernelIdeal.Value.G6 m c (ix3 s n l) := fun s n l =>
    (Cert.KernelIdeal.Att.ref_value _ _ _ _ rq rk rb hq hk hb s n l).trans (Cert.KernelIdeal.Att.out_value m c rq rk rb hq hk hb s n l).symm
  funext i
  have e : i = ix3 (i 0) (i 1) (i 2) := funext fun a => by
    match a with
    | ⟨0, _⟩ => rfl
    | ⟨1, _⟩ => rfl
    | ⟨2, _⟩ => rfl
  rw [e]
  exact key (i 0) (i 1) (i 2)

theorem algebraic : Cert.algebraic_KernelIdeal_ReferenceIdeal_pre_finite := by
  intro m g m' g' hp harg
  refine ⟨fun c => Cert.KernelIdeal.Value.G6 m c, Cert.KernelIdeal.Value.run m g,
    (θ_run Cert.ReferenceIdeal.defs _ _).mono (fun r h c => ⟨(h c).1.trans ?_, (h c).2⟩) (Cert.ReferenceIdeal.Value.run (F := Ideal) m' g')⟩
  rw [Cert.ReferenceIdeal.Read.val_main_v80_eq]
  obtain ⟨h0, h1, h2, h3⟩ := harg c
  rw [h0, h1, h2, h3]
  exact same m c hp

/-- The feed-forward's two programs have the same text, so the one run serves both. -/
theorem frame_p2 : Cert.quiescent_Kernel2 := fun m g _ =>
  Cert.Kernel2Ideal.Ffn.run_of_same (F := Bits) Cert.Kernel2Ideal.Ffn.defs_same Cert.Kernel2Ideal.Ffn.main_same (Cert.Kernel2Ideal.Ffn.frame_all (F := Bits) m g)

theorem frame_pi2 : Cert.quiescent_Kernel2Ideal := fun m g _ => Cert.Kernel2Ideal.Ffn.frame_all (F := Ideal) m g

theorem frame_ri2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The kernel's array and the reference's hold the same feed-forward. -/
theorem same2 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v52 (F := Ideal) (Cert.Kernel2Ideal.Ffn.a0 m c) (Cert.Kernel2Ideal.Ffn.a1 m c) (Cert.Kernel2Ideal.Ffn.a2 m c) (Cert.Kernel2Ideal.Ffn.a3 m c)
        (Cert.Kernel2Ideal.Ffn.a4 m c) (Cert.Kernel2Ideal.Ffn.a5 m c) (Cert.Kernel2Ideal.Ffn.a6 m c) (Cert.Kernel2Ideal.Ffn.a7 m c)
      = Cert.Kernel2Ideal.Ffn.G8 m c :=
  funext fun i => (Cert.Kernel2Ideal.Ffn.ref_eq _ _ _ _ _ _ _ _ i).trans (Cert.Kernel2Ideal.Ffn.G8_eq m c i).symm

theorem algebraic2 : Cert.algebraic_Kernel2Ideal_Reference2Ideal := by
  intro m g m' g' hp harg
  refine ⟨fun c => Cert.Kernel2Ideal.Ffn.G8 m c, Cert.Kernel2Ideal.Ffn.run m g,
    (θ_run Cert.Reference2Ideal.defs _ _).mono (fun r h c => ⟨(h c).1.trans ?_, (h c).2⟩) (Cert.Reference2Ideal.Value.run (F := Ideal) m' g')⟩
  rw [Cert.Reference2Ideal.Read.val_main_v52_eq]
  obtain ⟨h0, h1, h2, h3, h4, h5, h6, h7⟩ := harg c
  rw [h0, h1, h2, h3, h4, h5, h6, h7]
  exact same2 m c

theorem frame_p3 : Cert.quiescent_Kernel3 := fun m g _ => Cert.Kernel3.Gen.frame m g

theorem frame_pi3 : Cert.quiescent_Kernel3Ideal := fun m g _ => Cert.Kernel3Ideal.Gen.frame m g

theorem frame_ri3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem preserves3 : Cert.preserves_Kernel3_Kernel3Ideal :=
  ⟨IdealRules.named_const.statement Cert.Kernel3Ideal.κ "root_half" .f32 0x3F3504F3#32 (((Real.sqrt 2)⁻¹ : ℝ) : EReal) rfl,
    IdealRules.named_const.statement Cert.Kernel3Ideal.κ "scale" .f32 0x3E38AA3B#32 (((Real.log 256)⁻¹ : ℝ) : EReal) rfl⟩

theorem algebraic3 : Cert.algebraic_Kernel3Ideal_Reference3Ideal := by
  intro m g m' g' hp harg
  refine ⟨fun c => Cert.Kernel3Ideal.Prj.G7 m c,
    (θ_run Cert.Kernel3Ideal.defs _ _).mono (fun r h c => ⟨(h c).1.trans (Cert.Kernel3Ideal.Prj.final7 m c), (h c).2⟩) (Cert.Kernel3Ideal.Value.run_blocks m g),
    (θ_run Cert.Reference3Ideal.defs _ _).mono (fun r h c => ⟨(h c).1.trans ?_, (h c).2⟩) (Cert.Reference3Ideal.Value.run (F := Ideal) m' g')⟩
  rw [Cert.Reference3Ideal.Read.val_main_v74_eq]
  obtain ⟨h0, h1, h2, h3, h4, h5, h6⟩ := harg c
  rw [h0, h1, h2, h3, h4, h5, h6]
  exact funext fun i => Cert.Kernel3Ideal.Prj.ref_eq _ _ _ _ _ _ _ i

theorem frame_p4 : Cert.quiescent_Kernel4 := fun m g _ => Cert.Kernel4.Gen.frame m g

theorem frame_pi4 : Cert.quiescent_Kernel4Ideal := fun m g _ => Cert.Kernel4Ideal.Gen.frame m g

theorem frame_ri4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem algebraic4 : Cert.algebraic_Kernel4Ideal_Reference4Ideal := by
  intro m g m' g' hp harg
  refine ⟨fun c => Cert.Kernel4Ideal.Opj.G11 m c,
    (θ_run Cert.Kernel4Ideal.defs _ _).mono (fun r h c => ⟨(h c).1.trans (Cert.Kernel4Ideal.Opj.final11 m c), (h c).2⟩) (Cert.Kernel4Ideal.Value.run_blocks m g),
    (θ_run Cert.Reference4Ideal.defs _ _).mono (fun r h c => ⟨(h c).1.trans ?_, (h c).2⟩) (Cert.Reference4Ideal.Value.run (F := Ideal) m' g')⟩
  rw [Cert.Reference4Ideal.Read.val_main_v67_eq]
  obtain ⟨h0, h1, h2, h3, h4, h5, h6, h7, h8, h9⟩ := harg c
  rw [h0, h1, h2, h3, h4, h5, h6, h7, h8, h9]
  exact funext fun i => Cert.Kernel4Ideal.Opj.ref_eq _ _ _ _ _ _ _ _ _ _ i

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts,
    frame_p, frame_pi, frame_pi_pre, frame_ri, frame_ri_pre, frame_p2, frame_pi2, frame_ri2, frame_p3, frame_pi3, frame_ri3,
    frame_p4, frame_pi4, frame_ri4, preserves, algebraic, trivial, algebraic2, preserves3, algebraic3, trivial, algebraic4⟩

end Cert.Proof

end
